-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 2, 64]⟩ ⟨4, ![2, 4096, 2, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 2, 64]⟩ ⟨4, ![2, 4096, 2, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)
  bcast_S_S2x512x2x64 : S_.BroadcastsInDim S2x512x2x64 (![] : Fin 0 → Fin S2x512x2x64.rank)

variable [Facts]

def fn {F : FTy → Type} [FloatOps F] (main_arg0 : FVec F S2x256x768 .f32) (main_arg1 : FVec F S768x512 .f32) (main_arg2 : FVec F S2x512x2x64 .f32) (main_arg3 : FVec F S2x512x2x64 .f32) (main_arg4 : FVec F S512x768 .f32) : IVec S2x256x768 1 × IVec S768x512 1 × IVec S2x512x2x64 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x2x64 .f32 := Host.absf main_arg2
  let main_cst_1 : FVec F S_ .f32 := constant S_ .f32 0x7F800000#32
  let main_v7 : FVec F S2x512x2x64 .f32 := broadcastInDim S2x512x2x64 ![] bcast_S_S2x512x2x64 main_cst_1
  let main_v8 : IVec S2x512x2x64 1 := cmpf .olt main_v6 main_v7
  (main_v2, main_v5, main_v8)
-- ==== Pre_finite_scores_ReferenceIdeal.lean ====
abbrev S2x256x768 : Shape := ⟨3, ![2, 256, 768]⟩
abbrev S768x512 : Shape := ⟨2, ![768, 512]⟩
abbrev S2x4096x2x64 : Shape := ⟨4, ![2, 4096, 2, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)
  bcast_S_S2x4096x2x64 : S_.BroadcastsInDim S2x4096x2x64 (![] : Fin 0 → Fin S2x4096x2x64.rank)

variable [Facts]

def fn {F : FTy → Type} [FloatOps F] (main_arg0 : FVec F S2x256x768 .f32) (main_arg1 : FVec F S768x512 .f32) (main_arg2 : FVec F S2x4096x2x64 .f32) (main_arg3 : FVec F S2x4096x2x64 .f32) (main_arg4 : FVec F S512x768 .f32) : IVec S2x256x768 1 × IVec S768x512 1 × IVec S2x4096x2x64 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x4096x2x64 .f32 := Host.absf main_arg2
  let main_cst_1 : FVec F S_ .f32 := constant S_ .f32 0x7F800000#32
  let main_v7 : FVec F S2x4096x2x64 .f32 := broadcastInDim S2x4096x2x64 ![] bcast_S_S2x4096x2x64 main_cst_1
  let main_v8 : IVec S2x4096x2x64 1 := cmpf .olt main_v6 main_v7
  (main_v2, main_v5, main_v8)
-- ==== Kernel.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S2x2x64x512 : Shape := ⟨4, ![2, 2, 64, 512]⟩
abbrev S2048x128 : Shape := ⟨2, ![2048, 128]⟩
abbrev S3x2048x128 : Shape := ⟨3, ![3, 2048, 128]⟩
abbrev S4x1024 : Shape := ⟨2, ![4, 1024]⟩
abbrev S3x4x1024 : Shape := ⟨3, ![3, 4, 1024]⟩
abbrev S3x3 : Shape := ⟨2, ![3, 3]⟩
abbrev S3 : Shape := ⟨1, ![3]⟩
abbrev S2 : Shape := ⟨1, ![2]⟩
abbrev S_ : Shape := ⟨0, ![]⟩
abbrev S1 : Shape := ⟨1, ![1]⟩
abbrev S512x512 : Shape := ⟨2, ![512, 512]⟩
abbrev S1x512 : Shape := ⟨2, ![1, 512]⟩
abbrev S256x64 : Shape := ⟨2, ![256, 64]⟩
abbrev S1024x64 : Shape := ⟨2, ![1024, 64]⟩
abbrev S1x1x64x512 : Shape := ⟨4, ![1, 1, 64, 512]⟩
abbrev S64x512 : Shape := ⟨2, ![64, 512]⟩
abbrev S1024x512 : Shape := ⟨2, ![1024, 512]⟩
abbrev S1x1024 : Shape := ⟨2, ![1, 1024]⟩
abbrev S1x1 : Shape := ⟨2, ![1, 1]⟩
abbrev S1x688x128 : Shape := ⟨3, ![1, 688, 128]⟩
abbrev S688x128 : Shape := ⟨2, ![688, 128]⟩
abbrev S1x672x128 : Shape := ⟨3, ![1, 672, 128]⟩
abbrev S672x128 : Shape := ⟨2, ![672, 128]⟩
abbrev S1x4x1024 : Shape := ⟨3, ![1, 4, 1024]⟩
abbrev S1024x1024 : Shape := ⟨2, ![1024, 1024]⟩
abbrev S1024x4 : Shape := ⟨2, ![1024, 4]⟩
abbrev S256x1 : Shape := ⟨2, ![256, 1]⟩
abbrev S256x512 : Shape := ⟨2, ![256, 512]⟩
abbrev S256x768 : Shape := ⟨2, ![256, 768]⟩
abbrev S1x256x768 : Shape := ⟨3, ![1, 256, 768]⟩

abbrev nBuf : Space → Nat
  | .hbm => 9
  | .vmem => 10
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x512x2x64, .f32⟩
  | .hbm, ⟨3, _⟩ => ⟨S2x512x2x64, .f32⟩
  | .hbm, ⟨4, _⟩ => ⟨S512x768, .f32⟩
  | .hbm, ⟨5, _⟩ => ⟨S512x768, .f32⟩
  | .hbm, ⟨6, _⟩ => ⟨S2x2x64x512, .f32⟩
  | .hbm, ⟨7, _⟩ => ⟨S2x2x64x512, .f32⟩
  | .hbm, ⟨8, _⟩ => ⟨S2x256x768, .f32⟩
  | .local _ .vmem, ⟨0, _⟩ => ⟨S512x768, .f32⟩
  | .local _ .vmem, ⟨1, _⟩ => ⟨S768x512, .f32⟩
  | .local _ .vmem, ⟨2, _⟩ => ⟨S2x256x768, .f32⟩
  | .local _ .vmem, ⟨3, _⟩ => ⟨S2048x128, .bf16⟩
  | .local _ .vmem, ⟨4, _⟩ => ⟨S3x2048x128, .bf16⟩
  | .local _ .vmem, ⟨5, _⟩ => ⟨S4x1024, .f32⟩
  | .local _ .vmem, ⟨6, _⟩ => ⟨S3x4x1024, .f32⟩
  | .local _ .vmem, ⟨7, _⟩ => ⟨S2x2x64x512, .f32⟩
  | .local _ .vmem, ⟨8, _⟩ => ⟨S2x2x64x512, .f32⟩
  | .local _ .vmem, ⟨9, _⟩ => ⟨S512x768, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v62 : BitVec 32 := Scalar.xori v2 c1_i32_37
  let c1_i32_39 : BitVec 32 := 1#32
  let v63 : BitVec 32 := Scalar.muli v62 c1_i32_39
  let v64 : BitVec 32 := Scalar.addi c0_i32_40 v63
  v64.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v65 : BitVec 32 := Scalar.xori v2 c3_i32
  let c1_i32_42 : BitVec 32 := 1#32
  let v66 : BitVec 32 := Scalar.muli v65 c1_i32_42
  let v67 : BitVec 32 := Scalar.addi c0_i32_43 v66
  v67.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v68 : BitVec 32 := Scalar.xori v2 c4_i32
  let c1_i32_45 : BitVec 32 := 1#32
  let v69 : BitVec 32 := Scalar.muli v68 c1_i32_45
  let v70 : BitVec 32 := Scalar.addi c0_i32_46 v69
  v70.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v71 : BitVec 32 := Scalar.xori v2 c1_i32_48
  let c1_i32_54 : BitVec 32 := 1#32
  let v72 : BitVec 32 := Scalar.muli v71 c1_i32_54
  let v73 : BitVec 32 := Scalar.addi c0_i32_55 v72
  v73.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_89 : BitVec 32 := 3#32
  let v125 : BitVec 32 := Scalar.xori v2 c3_i32_89
  let c1_i32_97 : BitVec 32 := 1#32
  let v128 : BitVec 32 := Scalar.muli v125 c1_i32_97
  let v129 : BitVec 32 := Scalar.addi c0_i32_98 v128
  v129.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_90 : BitVec 32 := 4#32
  let v126 : BitVec 32 := Scalar.xori v2 c4_i32_90
  let c1_i32_106 : BitVec 32 := 1#32
  let v137 : BitVec 32 := Scalar.muli v126 c1_i32_106
  let v138 : BitVec 32 := Scalar.addi c0_i32_107 v137
  v138.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v127 : BitVec 32 := Scalar.xori v2 c4_i32_91
  let c1_i32_114 : BitVec 32 := 1#32
  let v146 : BitVec 32 := Scalar.muli v127 c1_i32_114
  let v147 : BitVec 32 := Scalar.addi c0_i32_115 v146
  v147.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v173 : BitVec 32 := Scalar.xori v2 c3_i32_146
  let c1_i32_152 : BitVec 32 := 1#32
  let v174 : BitVec 32 := Scalar.muli v173 c1_i32_152
  let v175 : BitVec 32 := Scalar.addi c0_i32_153 v174
  v175.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_185 : BitVec 32 := 4#32
  let v202 : BitVec 32 := Scalar.xori v2 c4_i32_185
  let c1_i32_191 : BitVec 32 := 1#32
  let v203 : BitVec 32 := Scalar.muli v202 c1_i32_191
  let v204 : BitVec 32 := Scalar.addi c0_i32_192 v203
  v204.toNat
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_224 : BitVec 32 := 1#32
  let v231 : BitVec 32 := Scalar.xori v2 c1_i32_224
  let c1_i32_230 : BitVec 32 := 1#32
  let v232 : BitVec 32 := Scalar.muli v231 c1_i32_230
  let v233 : BitVec 32 := Scalar.addi c0_i32_231 v232
  v233.toNat
def k0_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_256 : BitVec 32 := 1#32
  let v258 : BitVec 32 := Scalar.xori v2 c1_i32_256
  let c1_i32_260 : BitVec 32 := 1#32
  let v259 : BitVec 32 := Scalar.muli v258 c1_i32_260
  let v260 : BitVec 32 := Scalar.addi c0_i32_261 v259
  v260.toNat
def k0_dev12 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_292 : BitVec 32 := 4#32
  let v286 : BitVec 32 := Scalar.xori v2 c4_i32_292
  let c1_i32_298 : BitVec 32 := 1#32
  let v287 : BitVec 32 := Scalar.muli v286 c1_i32_298
  let v288 : BitVec 32 := Scalar.addi c0_i32_299 v287
  v288.toNat
def k0_dev13 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_332 : BitVec 32 := 1#32
  let v315 : BitVec 32 := Scalar.xori v2 c1_i32_332
  let c1_i32_338 : BitVec 32 := 1#32
  let v316 : BitVec 32 := Scalar.muli v315 c1_i32_338
  let v317 : BitVec 32 := Scalar.addi c0_i32_339 v316
  v317.toNat
def k0_dev14 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v344 : BitVec 32 := Scalar.xori v2 c3_i32_372
  let c1_i32_378 : BitVec 32 := 1#32
  let v345 : BitVec 32 := Scalar.muli v344 c1_i32_378
  let v346 : BitVec 32 := Scalar.addi c0_i32_379 v345
  v346.toNat
def k0_dev15 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_404 : BitVec 32 := 3#32
  let v371 : BitVec 32 := Scalar.xori v2 c3_i32_404
  let c1_i32_408 : BitVec 32 := 1#32
  let v372 : BitVec 32 := Scalar.muli v371 c1_i32_408
  let v373 : BitVec 32 := Scalar.addi c0_i32_409 v372
  v373.toNat
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x4096x2x64 : Shape := ⟨4, ![2, 4096, 2, 64]⟩
abbrev S512x768 : Shape := ⟨2, ![512, 768]⟩
abbrev S2x256x512 : Shape := ⟨3, ![2, 256, 512]⟩
abbrev S2x256x8x64 : Shape := ⟨4, ![2, 256, 8, 64]⟩
abbrev S2x4096x2x4x64 : Shape := ⟨5, ![2, 4096, 2, 4, 64]⟩
abbrev S2x4096x8x64 : Shape := ⟨4, ![2, 4096, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 126
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x4096x2x64, .f32⟩
  | .hbm, ⟨3, _⟩ => ⟨S2x4096x2x64, .f32⟩
  | .hbm, ⟨4, _⟩ => ⟨S512x768, .f32⟩
  | .hbm, ⟨5, _⟩ => ⟨S2x256x512, .f32⟩
  | .hbm, ⟨6, _⟩ => ⟨S2x256x8x64, .f32⟩
  | .hbm, ⟨7, _⟩ => ⟨S2x4096x2x4x64, .f32⟩
  | .hbm, ⟨8, _⟩ => ⟨S2x4096x8x64, .f32⟩
  | .hbm, ⟨9, _⟩ => ⟨S2x4096x2x4x64, .f32⟩
  | .hbm, ⟨10, _⟩ => ⟨S2x4096x8x64, .f32⟩
  | .hbm, ⟨11, _⟩ => ⟨S_, .f32⟩
  | .hbm, ⟨12, _⟩ => ⟨S2x256x8x64, .f32⟩
  | .hbm, ⟨13, _⟩ => ⟨S_, .f32⟩
  | .hbm, ⟨14, _⟩ => ⟨S2x8x256x1, .f32⟩
  | .hbm, ⟨15, _⟩ => ⟨S_, .f32⟩
  | .hbm, ⟨16, _⟩ => ⟨S2x8x256x1, .f32⟩
  | .hbm, ⟨17, _⟩ => ⟨S2x1024x8x64, .f32⟩
  | .hbm, ⟨18, _⟩ => ⟨S2x1024x8x64, .f32⟩
  | .hbm, ⟨19, _⟩ => ⟨S2x8x256x1024, .f32⟩
  | .hbm, ⟨20, _⟩ => ⟨S_, .f32⟩
  | .hbm, ⟨21, _⟩ => ⟨S2x8x256x1024, .f32⟩
  | .hbm, ⟨22, _⟩ => ⟨S2x8x256x1024, .f32⟩
  | .hbm, ⟨23, _⟩ => ⟨S_, .f32⟩
  | .hbm, ⟨24, _⟩ => ⟨S2x8x256, .f32⟩
  | .hbm, ⟨25, _⟩ => ⟨S2x8x256x1, .f32⟩
  | .hbm, ⟨26, _⟩ => ⟨S2x8x256x1, .f32⟩
  | .hbm, ⟨27, _⟩ => ⟨S2x8x256x1, .f32⟩
  | .hbm, ⟨28, _⟩ => ⟨S2x8x256x1, .f32⟩
  | .hbm, ⟨29, _⟩ => ⟨S2x8x256x1024, .f32⟩
  | .hbm, ⟨30, _⟩ => ⟨S2x8x256x1024, .f32⟩
  | .hbm, ⟨31, _⟩ => ⟨S2x8x256x1024, .f32⟩
  | .hbm, ⟨32, _⟩ => ⟨S2x8x256x1, .f32⟩
  | .hbm, ⟨33, _⟩ => ⟨S_, .f32⟩
  | .hbm, ⟨34, _⟩ => ⟨S2x8x256, .f32⟩
  | .hbm, ⟨35, _⟩ => ⟨S2x8x256x1, .f32⟩
  | .hbm, ⟨36, _⟩ => ⟨S2x8x256x1, .f32⟩
  | .hbm, ⟨37, _⟩ => ⟨S2x256x8x1, .f32⟩
  | .hbm, ⟨38, _⟩ => ⟨S2x256x8x64, .f32⟩
  | .hbm, ⟨39, _⟩ => ⟨S2x256x8x64, .f32⟩
  | .hbm, ⟨40, _⟩ => ⟨S2x8x64x256, .f32⟩
  | .hbm, ⟨41, _⟩ => ⟨S2x256x8x64, .f32⟩
  | .hbm, ⟨42, _⟩ => ⟨S2x256x8x64, .f32⟩
  | .hbm, ⟨43, _⟩ => ⟨S2x1024x8x64, .f32⟩
  | .hbm, ⟨44, _⟩ => ⟨S2x1024x8x64, .f32⟩
  | .hbm, ⟨45, _⟩ => ⟨S2x8x256x1024, .f32⟩
  | .hbm, ⟨46, _⟩ => ⟨S_, .f32⟩
  | .hbm, ⟨47, _⟩ => ⟨S2x8x256x1024, .f32⟩
  | .hbm, ⟨48, _⟩ => ⟨S2x8x256x1024, .f32⟩
  | .hbm, ⟨49, _⟩ => ⟨S_, .f32⟩
  | .hbm, ⟨50, _⟩ => ⟨S2x8x256, .f32⟩
  | .hbm, ⟨51, _⟩ => ⟨S2x8x256x1, .f32⟩
  | .hbm, ⟨52, _⟩ => ⟨S2x8x256x1, .f32⟩
  | .hbm, ⟨53, _⟩ => ⟨S2x8x256x1, .f32⟩
  | .hbm, ⟨54, _⟩ => ⟨S2x8x256x1, .f32⟩
  | .hbm, ⟨55, _⟩ => ⟨S2x8x256x1024, .f32⟩
  | .hbm, ⟨56, _⟩ => ⟨S2x8x256x1024, .f32⟩
  | .hbm, ⟨57, _⟩ => ⟨S2x8x256x1024, .f32⟩
  | .hbm, ⟨58, _⟩ => ⟨S2x8x256x1, .f32⟩
  | .hbm, ⟨59, _⟩ => ⟨S_, .f32⟩
  | .hbm, ⟨60, _⟩ => ⟨S2x8x256, .f32⟩
  | .hbm, ⟨61, _⟩ => ⟨S2x8x256x1, .f32⟩
  | .hbm, ⟨62, _⟩ => ⟨S2x8x256x1, .f32⟩
  | .hbm, ⟨63, _⟩ => ⟨S2x256x8x1, .f32⟩
  | .hbm, ⟨64, _⟩ => ⟨S2x256x8x64, .f32⟩
  | .hbm, ⟨65, _⟩ => ⟨S2x256x8x64, .f32⟩
  | .hbm, ⟨66, _⟩ => ⟨S2x8x64x256, .f32⟩
  | .hbm, ⟨67, _⟩ => ⟨S2x256x8x64, .f32⟩
  | .hbm, ⟨68, _⟩ => ⟨S2x256x8x64, .f32⟩
  | .hbm, ⟨69, _⟩ => ⟨S2x1024x8x64, .f32⟩
  | .hbm, ⟨70, _⟩ => ⟨S2x1024x8x64, .f32⟩
  | .hbm, ⟨71, _⟩ => ⟨S2x8x256x1024, .f32⟩
  | .hbm, ⟨72, _⟩ => ⟨S_, .f32⟩
  | .hbm, ⟨73, _⟩ => ⟨S2x8x256x1024, .f32⟩
  | .hbm, ⟨74, _⟩ => ⟨S2x8x256x1024, .f32⟩
  | .hbm, ⟨75, _⟩ => ⟨S_, .f32⟩
  | .hbm, ⟨76, _⟩ => ⟨S2x8x256, .f32⟩
  | .hbm, ⟨77, _⟩ => ⟨S2x8x256x1, .f32⟩
  | .hbm, ⟨78, _⟩ => ⟨S2x8x256x1, .f32⟩
  | .hbm, ⟨79, _⟩ => ⟨S2x8x256x1, .f32⟩
  | .hbm, ⟨80, _⟩ => ⟨S2x8x256x1, .f32⟩
  | .hbm, ⟨81, _⟩ => ⟨S2x8x256x1024, .f32⟩
  | .hbm, ⟨82, _⟩ => ⟨S2x8x256x1024, .f32⟩
  | .hbm, ⟨83, _⟩ => ⟨S2x8x256x1024, .f32⟩
  | .hbm, ⟨84, _⟩ => ⟨S2x8x256x1, .f32⟩
  | .hbm, ⟨85, _⟩ => ⟨S_, .f32⟩
  | .hbm, ⟨86, _⟩ => ⟨S2x8x256, .f32⟩
  | .hbm, ⟨87, _⟩ => ⟨S2x8x256x1, .f32⟩
  | .hbm, ⟨88, _⟩ => ⟨S2x8x256x1, .f32⟩
  | .hbm, ⟨89, _⟩ => ⟨S2x256x8x1, .f32⟩
  | .hbm, ⟨90, _⟩ => ⟨S2x256x8x64, .f32⟩
  | .hbm, ⟨91, _⟩ => ⟨S2x256x8x64, .f32⟩
  | .hbm, ⟨92, _⟩ => ⟨S2x8x64x256, .f32⟩
  | .hbm, ⟨93, _⟩ => ⟨S2x256x8x64, .f32⟩
  | .hbm, ⟨94, _⟩ => ⟨S2x256x8x64, .f32⟩
  | .hbm, ⟨95, _⟩ => ⟨S2x1024x8x64, .f32⟩
  | .hbm, ⟨96, _⟩ => ⟨S2x1024x8x64, .f32⟩
  | .hbm, ⟨97, _⟩ => ⟨S2x8x256x1024, .f32⟩
  | .hbm, ⟨98, _⟩ => ⟨S_, .f32⟩
  | .hbm, ⟨99, _⟩ => ⟨S2x8x256x1024, .f32⟩
  | .hbm, ⟨100, _⟩ => ⟨S2x8x256x1024, .f32⟩
  | .hbm, ⟨101, _⟩ => ⟨S_, .f32⟩
  | .hbm, ⟨102, _⟩ => ⟨S2x8x256, .f32⟩
  | .hbm, ⟨103, _⟩ => ⟨S2x8x256x1, .f32⟩
  | .hbm, ⟨104, _⟩ => ⟨S2x8x256x1, .f32⟩
  | .hbm, ⟨105, _⟩ => ⟨S2x8x256x1, .f32⟩
  | .hbm, ⟨106, _⟩ => ⟨S2x8x256x1, .f32⟩
  | .hbm, ⟨107, _⟩ => ⟨S2x8x256x1024, .f32⟩
  | .hbm, ⟨108, _⟩ => ⟨S2x8x256x1024, .f32⟩
  | .hbm, ⟨109, _⟩ => ⟨S2x8x256x1024, .f32⟩
  | .hbm, ⟨110, _⟩ => ⟨S2x8x256x1, .f32⟩
  | .hbm, ⟨111, _⟩ => ⟨S_, .f32⟩
  | .hbm, ⟨112, _⟩ => ⟨S2x8x256, .f32⟩
  | .hbm, ⟨113, _⟩ => ⟨S2x8x256x1, .f32⟩
  | .hbm, ⟨114, _⟩ => ⟨S2x8x256x1, .f32⟩
  | .hbm, ⟨115, _⟩ => ⟨S2x256x8x1, .f32⟩
  | .hbm, ⟨116, _⟩ => ⟨S2x256x8x64, .f32⟩
  | .hbm, ⟨117, _⟩ => ⟨S2x256x8x64, .f32⟩
  | .hbm, ⟨118, _⟩ => ⟨S2x8x64x256, .f32⟩
  | .hbm, ⟨119, _⟩ => ⟨S2x256x8x64, .f32⟩
  | .hbm, ⟨120, _⟩ => ⟨S2x256x8x64, .f32⟩
  | .hbm, ⟨121, _⟩ => ⟨S2x256x8x1, .f32⟩
  | .hbm, ⟨122, _⟩ => ⟨S2x256x8x64, .f32⟩
  | .hbm, ⟨123, _⟩ => ⟨S2x256x8x64, .f32⟩
  | .hbm, ⟨124, _⟩ => ⟨S2x256x512, .f32⟩
  | .hbm, ⟨125, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Contents.lean ====
/-
# What the buffers of the exchange hold

The eight devices exchange partial sums in three phases. Four independent chains run through the phases: three
row parts of the numerator buffer and the denominator buffer. This module names the chains and phases, who talks
to whom, and what each chain holds before each phase, as functions of every device's inputs.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.ValueIdx

@[expose] public section

noncomputable section

namespace Cert.Exchange

open Cert.KernelIdeal Cert.KernelIdeal.Gen
open Idealize.ShloMosaic
open Idealize.ShloMosaic.TcCoe
open Idealize.ShloMosaic.ValueIdx

/-! ## Chains, phases, partners -/

/-- The four chains: three row parts of the numerators, and the denominators. -/
inductive Ch | a | b | d | l
deriving DecidableEq

/-- The three phases. -/
inductive Ph | p0 | p1 | p2
deriving DecidableEq

instance : Fintype Ch := ⟨{.a, .b, .d, .l}, by intro x; cases x <;> decide⟩
instance : Fintype Ph := ⟨{.p0, .p1, .p2}, by intro x; cases x <;> decide⟩

/-- The three ways two devices are partners: their numbers differ by the bits of 1, of 3 or of 4. -/
inductive Leg | m1 | m3 | m4
deriving DecidableEq

instance : Fintype Leg := ⟨{.m1, .m3, .m4}, by intro x; cases x <;> decide⟩

abbrev Leg.mask : Leg → ℕ | .m1 => 1 | .m3 => 3 | .m4 => 4

theorem flip_lt (j : Leg) (c : Dev nD) : c.val ^^^ j.mask < nD := by revert c; cases j <;> decide

/-- The partner of device `c` along `j`. -/
def flip (j : Leg) (c : Dev nD) : Dev nD := ⟨c.val ^^^ j.mask, flip_lt j c⟩

theorem flip_flip (j : Leg) (c : Dev nD) : flip j (flip j c) = c := by revert c; cases j <;> decide
theorem flip_ne (j : Leg) (c : Dev nD) : flip j c ≠ c := by revert c; cases j <;> decide

/-- Along which leg a chain is exchanged in a phase. -/
def legOf : Ch → Ph → Leg
  | .a, .p0 => .m1 | .a, .p1 => .m3 | .a, .p2 => .m4
  | .b, .p0 => .m3 | .b, .p1 => .m4 | .b, .p2 => .m1
  | .d, .p0 => .m4 | .d, .p1 => .m1 | .d, .p2 => .m3
  | .l, .p0 => .m4 | .l, .p1 => .m1 | .l, .p2 => .m3

/-- In which phase a chain is exchanged along a leg. -/
def phOf : Leg → Ch → Ph
  | .m1, .a => .p0 | .m3, .a => .p1 | .m4, .a => .p2
  | .m3, .b => .p0 | .m4, .b => .p1 | .m1, .b => .p2
  | .m4, .d => .p0 | .m1, .d => .p1 | .m3, .d => .p2
  | .m4, .l => .p0 | .m1, .l => .p1 | .m3, .l => .p2

theorem legOf_phOf (j : Leg) (k : Ch) : legOf k (phOf j k) = j := by cases j <;> cases k <;> rfl
theorem phOf_legOf (k : Ch) (p : Ph) : phOf (legOf k p) k = p := by cases p <;> cases k <;> rfl

/-- The device a chain of device `c` is exchanged with in a phase. -/
def peer (k : Ch) (p : Ph) (c : Dev nD) : Dev nD := flip (legOf k p) c

theorem peer_peer (k : Ch) (p : Ph) (c : Dev nD) : peer k p (peer k p c) = c := flip_flip _ _

/-! ## The memrefs of a chain -/

/-- The shape of a chain. -/
abbrev csh : Ch → Shape | .a => S688x128 | .b => S688x128 | .d => S672x128 | .l => S4x1024
/-- Its element type. -/
abbrev cel : Ch → EltTy | .a => .bf16 | .b => .bf16 | .d => .bf16 | .l => .f32

/-- Where a chain is accumulated and sent from. -/
abbrev srcM : (k : Ch) → Memref sig .tc .vmem (csh k) (cel k)
  | .a => (Memref.whole cc0_scratch0).slice (Rect.unit (s := S2048x128) ![0, 0] S688x128.size inb_S2048x128_S688x128_0_0) (fun _ => rfl)
  | .b => (Memref.whole cc0_scratch0).slice (Rect.unit (s := S2048x128) ![688, 0] S688x128.size inb_S2048x128_S688x128_688_0) (fun _ => rfl)
  | .d => (Memref.whole cc0_scratch0).slice (Rect.unit (s := S2048x128) ![1376, 0] S672x128.size inb_S2048x128_S672x128_1376_0) (fun _ => rfl)
  | .l => Memref.whole cc0_scratch2

/-- Where what the partner sends in a phase lands. -/
abbrev landM : (k : Ch) → Ph → Memref sig .tc .vmem (csh k) (cel k)
  | .a, .p0 => ((Memref.whole cc0_scratch1).slice (Rect.unit (s := S3x2048x128) ![0, 0, 0] S1x688x128.size inb_S3x2048x128_S1x688x128_0_0_0) (fun _ => rfl)).squeeze S688x128 squeezes_S1x688x128_S688x128
  | .a, .p1 => ((Memref.whole cc0_scratch1).slice (Rect.unit (s := S3x2048x128) ![1, 0, 0] S1x688x128.size inb_S3x2048x128_S1x688x128_1_0_0) (fun _ => rfl)).squeeze S688x128 squeezes_S1x688x128_S688x128
  | .a, .p2 => ((Memref.whole cc0_scratch1).slice (Rect.unit (s := S3x2048x128) ![2, 0, 0] S1x688x128.size inb_S3x2048x128_S1x688x128_2_0_0) (fun _ => rfl)).squeeze S688x128 squeezes_S1x688x128_S688x128
  | .b, .p0 => ((Memref.whole cc0_scratch1).slice (Rect.unit (s := S3x2048x128) ![0, 688, 0] S1x688x128.size inb_S3x2048x128_S1x688x128_0_688_0) (fun _ => rfl)).squeeze S688x128 squeezes_S1x688x128_S688x128
  | .b, .p1 => ((Memref.whole cc0_scratch1).slice (Rect.unit (s := S3x2048x128) ![1, 688, 0] S1x688x128.size inb_S3x2048x128_S1x688x128_1_688_0) (fun _ => rfl)).squeeze S688x128 squeezes_S1x688x128_S688x128
  | .b, .p2 => ((Memref.whole cc0_scratch1).slice (Rect.unit (s := S3x2048x128) ![2, 688, 0] S1x688x128.size inb_S3x2048x128_S1x688x128_2_688_0) (fun _ => rfl)).squeeze S688x128 squeezes_S1x688x128_S688x128
  | .d, .p0 => ((Memref.whole cc0_scratch1).slice (Rect.unit (s := S3x2048x128) ![0, 1376, 0] S1x672x128.size inb_S3x2048x128_S1x672x128_0_1376_0) (fun _ => rfl)).squeeze S672x128 squeezes_S1x672x128_S672x128
  | .d, .p1 => ((Memref.whole cc0_scratch1).slice (Rect.unit (s := S3x2048x128) ![1, 1376, 0] S1x672x128.size inb_S3x2048x128_S1x672x128_1_1376_0) (fun _ => rfl)).squeeze S672x128 squeezes_S1x672x128_S672x128
  | .d, .p2 => ((Memref.whole cc0_scratch1).slice (Rect.unit (s := S3x2048x128) ![2, 1376, 0] S1x672x128.size inb_S3x2048x128_S1x672x128_2_1376_0) (fun _ => rfl)).squeeze S672x128 squeezes_S1x672x128_S672x128
  | .l, .p0 => ((Memref.whole cc0_scratch3).slice (Rect.unit (s := S3x4x1024) ![0, 0, 0] S1x4x1024.size inb_S3x4x1024_S1x4x1024_0_0_0) (fun _ => rfl)).squeeze S4x1024 squeezes_S1x4x1024_S4x1024
  | .l, .p1 => ((Memref.whole cc0_scratch3).slice (Rect.unit (s := S3x4x1024) ![1, 0, 0] S1x4x1024.size inb_S3x4x1024_S1x4x1024_1_0_0) (fun _ => rfl)).squeeze S4x1024 squeezes_S1x4x1024_S4x1024
  | .l, .p2 => ((Memref.whole cc0_scratch3).slice (Rect.unit (s := S3x4x1024) ![2, 0, 0] S1x4x1024.size inb_S3x4x1024_S1x4x1024_2_0_0) (fun _ => rfl)).squeeze S4x1024 squeezes_S1x4x1024_S4x1024

variable {F : FTy → Type} [FloatOps F]

/-- What a chain holds. -/
abbrev X (F : FTy → Type) (k : Ch) : Type := Vec F (csh k) (cel k)

/-- Two chains' contents added elementwise. -/
def mrg : (k : Ch) → X F k → X F k → X F k
  | .a, x, y => addf (φ := .bf16) x y | .b, x, y => addf (φ := .bf16) x y
  | .d, x, y => addf (φ := .bf16) x y | .l, x, y => addf (φ := .f32) x y

/-! ## What a device computes from its inputs -/

/-- What one device reads: the rows, the query weights, the output weights, and its block of keys and of values,
    the sequence axis last. -/
structure Inp (F : FTy → Type) where
  x : Vec F S512x768 .f32
  wq : Vec F S768x512 .f32
  wo : Vec F S512x768 .f32
  kt : Vec F S2x2x64x512 .f32
  vt : Vec F S2x2x64x512 .f32

/-- The block of one batch entry and one group of heads. -/
abbrev blk00 (f : Vec F S2x2x64x512 .f32) : Vec F S1x1x64x512 .f32 :=
  ((Memref.whole cc0_scratch4).access (Rect.unit (s := S2x2x64x512) ![0, 0, 0, 0] S1x1x64x512.size inb_S2x2x64x512_S1x1x64x512_0_0_0_0)).read (Elt F) f
abbrev blk01 (f : Vec F S2x2x64x512 .f32) : Vec F S1x1x64x512 .f32 :=
  ((Memref.whole cc0_scratch4).access (Rect.unit (s := S2x2x64x512) ![0, 1, 0, 0] S1x1x64x512.size inb_S2x2x64x512_S1x1x64x512_0_1_0_0)).read (Elt F) f
abbrev blk10 (f : Vec F S2x2x64x512 .f32) : Vec F S1x1x64x512 .f32 :=
  ((Memref.whole cc0_scratch4).access (Rect.unit (s := S2x2x64x512) ![1, 0, 0, 0] S1x1x64x512.size inb_S2x2x64x512_S1x1x64x512_1_0_0_0)).read (Elt F) f
abbrev blk11 (f : Vec F S2x2x64x512 .f32) : Vec F S1x1x64x512 .f32 :=
  ((Memref.whole cc0_scratch4).access (Rect.unit (s := S2x2x64x512) ![1, 1, 0, 0] S1x1x64x512.size inb_S2x2x64x512_S1x1x64x512_1_1_0_0)).read (Elt F) f

/-- The scale of the scores. -/
abbrev scl : F .f32 := Scalar.ofBits .f32 0x3E000000#32

/-- The queries. -/
abbrev qry (I : Inp F) : FVec F S512x512 .f32 := k0_pay2 I.x I.wq

/-- The numerators of one batch entry and one group. -/
def num00 (I : Inp F) : FVec F S1024x64 .bf16 := k0_pay6 (k0_pay5 I.x I.wq (blk00 I.kt) (blk00 I.vt))
def num01 (I : Inp F) : FVec F S1024x64 .bf16 := k0_pay9 (qry I) (blk01 I.kt) (blk01 I.vt)
def num10 (I : Inp F) : FVec F S1024x64 .bf16 := k0_pay13 (k0_pay11 (qry I) (blk10 I.kt)) scl (blk10 I.vt)
def num11 (I : Inp F) : FVec F S1024x64 .bf16 := k0_pay16 (qry I) (blk11 I.kt) (blk11 I.vt)

/-- The denominators of one batch entry and one group. -/
def den00 (I : Inp F) : FVec F S1x1024 .f32 := k0_pay7 k0_pay3 (k0_pay4 I.x I.wq (blk00 I.kt))
def den01 (I : Inp F) : FVec F S1x1024 .f32 := k0_pay10 (qry I) k0_pay3 (blk01 I.kt)
def den10 (I : Inp F) : FVec F S1x1024 .f32 := k0_pay14 k0_pay3 (k0_pay11 (qry I) (blk10 I.kt)) scl
def den11 (I : Inp F) : FVec F S1x1024 .f32 := k0_pay18 (k0_pay17 (qry I) k0_pay3 (blk11 I.kt))

/-- The numerator buffer: rows by batch entry, columns by group. -/
def num (I : Inp F) : Vec F S2048x128 .bf16 := fun i =>
  if h0 : (i 0).val < 1024 then
    if h1 : (i 1).val < 64 then num00 I (ix2 (⟨(i 0).val, h0⟩ : Fin 1024) (⟨(i 1).val, h1⟩ : Fin 64))
    else num01 I (ix2 (⟨(i 0).val, h0⟩ : Fin 1024) (⟨(i 1).val - 64, by have : (i 1).val < 128 := (i 1).isLt; omega⟩ : Fin 64))
  else
    if h1 : (i 1).val < 64 then
      num10 I (ix2 (⟨(i 0).val - 1024, by have : (i 0).val < 2048 := (i 0).isLt; omega⟩ : Fin 1024) (⟨(i 1).val, h1⟩ : Fin 64))
    else num11 I (ix2 (⟨(i 0).val - 1024, by have : (i 0).val < 2048 := (i 0).isLt; omega⟩ : Fin 1024)
      (⟨(i 1).val - 64, by have : (i 1).val < 128 := (i 1).isLt; omega⟩ : Fin 64))

/-- The denominator buffer: a row for each batch entry and group. -/
def den (I : Inp F) : Vec F S4x1024 .f32 := fun i =>
  if (i 0).val = 0 then den00 I (ix2 (0 : Fin 1) (⟨(i 1).val, (i 1).isLt⟩ : Fin 1024))
  else if (i 0).val = 1 then den01 I (ix2 (0 : Fin 1) (⟨(i 1).val, (i 1).isLt⟩ : Fin 1024))
  else if (i 0).val = 2 then den10 I (ix2 (0 : Fin 1) (⟨(i 1).val, (i 1).isLt⟩ : Fin 1024))
  else den11 I (ix2 (0 : Fin 1) (⟨(i 1).val, (i 1).isLt⟩ : Fin 1024))

/-! ## What each chain holds before each phase -/

variable (I : Dev nD → Inp F)

/-- Before the first phase. -/
def st0 (c : Dev nD) : (k : Ch) → X F k
  | .a => (srcM .a).view.read (Elt F) (num (I c))
  | .b => (srcM .b).view.read (Elt F) (num (I c))
  | .d => (srcM .d).view.read (Elt F) (num (I c))
  | .l => (srcM .l).view.read (Elt F) (den (I c))
/-- Before the second. -/
def st1 (c : Dev nD) (k : Ch) : X F k := mrg k (st0 I c k) (st0 I (peer k .p0 c) k)
/-- Before the third. -/
def st2 (c : Dev nD) (k : Ch) : X F k := mrg k (st1 I c k) (st1 I (peer k .p1 c) k)
/-- After it. -/
def st3 (c : Dev nD) (k : Ch) : X F k := mrg k (st2 I c k) (st2 I (peer k .p2 c) k)

/-- What a chain of a device holds before a phase. -/
def st : Ph → Dev nD → (k : Ch) → X F k
  | .p0 => st0 I | .p1 => st1 I | .p2 => st2 I

/-! ## The result -/

/-- The whole numerator buffer from its three row parts. -/
def glue (w : (k : Ch) → X F k) : Vec F S2048x128 .bf16 := fun i =>
  if h0 : (i 0).val < 688 then (w .a : Vec F S688x128 .bf16) (ix2 (⟨(i 0).val, h0⟩ : Fin 688) (⟨(i 1).val, (i 1).isLt⟩ : Fin 128))
  else if h1 : (i 0).val < 1376 then
    (w .b : Vec F S688x128 .bf16) (ix2 (⟨(i 0).val - 688, by omega⟩ : Fin 688) (⟨(i 1).val, (i 1).isLt⟩ : Fin 128))
  else (w .d : Vec F S672x128 .bf16) (ix2 (⟨(i 0).val - 1376, by have : (i 0).val < 2048 := (i 0).isLt; omega⟩ : Fin 672)
    (⟨(i 1).val, (i 1).isLt⟩ : Fin 128))

/-- What a device's numerators and denominators are at the end, and the two blocks of the result they give. -/
abbrev rnum (c : Dev nD) : FVec F S2048x128 .f32 := k0_pay35 (glue (st3 I c))
abbrev rden (c : Dev nD) : FVec F S1024x4 .f32 := k0_pay36 k0_pay29 (st3 I c .l : Vec F S4x1024 .f32)
def out0 (c : Dev nD) : FVec F S1x256x768 .f32 :=
  k0_pay39 (rnum I c) (rden I c) (k0_pay37 k0_pay29 (glue (st3 I c)) (st3 I c .l : Vec F S4x1024 .f32))
    (k0_pay38 k0_pay29 (glue (st3 I c)) (st3 I c .l : Vec F S4x1024 .f32)) (I c).wo
def out1 (c : Dev nD) : FVec F S1x256x768 .f32 :=
  k0_pay1 (rnum I c) (rden I c) (k0_pay40 (rnum I c) (rden I c)) (k0_pay41 (rnum I c) (rden I c)) (k0_pay42 (rnum I c) (rden I c))
    (k0_pay43 (rnum I c) (rden I c)) (k0_pay44 (rnum I c) (rden I c)) (k0_pay45 (rnum I c)) (k0_pay46 (rden I c)) (I c).wo

/-- The result of a device: one block per batch entry. -/
def outV (c : Dev nD) : Vec F S2x256x768 .f32 := fun i =>
  if (i 0).val = 0 then out0 I c (ix3 (0 : Fin 1) (⟨(i 1).val, (i 1).isLt⟩ : Fin 256) (⟨(i 2).val, (i 2).isLt⟩ : Fin 768))
  else out1 I c (ix3 (0 : Fin 1) (⟨(i 1).val, (i 1).isLt⟩ : Fin 256) (⟨(i 2).val, (i 2).isLt⟩ : Fin 768))

end Cert.Exchange

end
-- ==== Proof.Protocol.lean ====
/-
# The protocol of the exchange

Every device signals its three partners once it may be written to, waits for all three, and then exchanges each
chain once per phase. Each semaphore is used for one round. A barrier cell's duty along a leg hands over the four
landing places the partner along that leg writes; a send cell's duty gives the source back; a receive cell's duty
gives the landing place at the partner's contents; a local cell's duty gives a staged copy and its source.
-/
module

public import proofs.«01_k».proof.Proof.Contents
public import Idealize.ShloMosaic.Lib.Pipeline.Launch
public import Idealize.ShloMosaic.Lib.Pipeline.Kit
public import Idealize.ShloMosaic.Lib.Pipeline.RegionTalk
public import Idealize.ShloMosaic.Lib.Rounds.Family

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Leg
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Semaphores and cells -/

/-- The runtime's barrier semaphore. -/
abbrev barS : Sem sig := (SemArray.scalar (sig.barrier 0 rfl) : Sems sig S_).sem

/-- The semaphore that counts a chain's outgoing transfer of a phase. -/
abbrev sendS : Ch → Ph → DmaSem sig
  | .a, .p0 => 3 | .b, .p0 => 4 | .d, .p0 => 5
  | .a, .p1 => 6 | .b, .p1 => 7 | .d, .p1 => 8
  | .a, .p2 => 9 | .b, .p2 => 10 | .d, .p2 => 11
  | .l, .p0 => 21 | .l, .p1 => 22 | .l, .p2 => 23
/-- The semaphore that counts the incoming one. -/
abbrev recvS : Ch → Ph → DmaSem sig
  | .a, .p0 => 12 | .b, .p0 => 13 | .d, .p0 => 14
  | .a, .p1 => 15 | .b, .p1 => 16 | .d, .p1 => 17
  | .a, .p2 => 18 | .b, .p2 => 19 | .d, .p2 => 20
  | .l, .p0 => 24 | .l, .p1 => 25 | .l, .p2 => 26

/-- The three local copies: keys, values, output weights. -/
inductive Lo | k | v | o
deriving DecidableEq
instance : Fintype Lo := ⟨{.k, .v, .o}, by intro x; cases x <;> decide⟩

abbrev locS : Lo → DmaSem sig | .k => 27 | .v => 28 | .o => 29

/-- What a semaphore is for. -/
inductive Role
  | bar | send (k : Ch) (p : Ph) | recv (k : Ch) (p : Ph) | loc (j : Lo) | other
deriving DecidableEq

/-- The role of a transfer semaphore, by its number. -/
def roleOf : ℕ → Role
  | 3 => .send .a .p0 | 4 => .send .b .p0 | 5 => .send .d .p0
  | 6 => .send .a .p1 | 7 => .send .b .p1 | 8 => .send .d .p1
  | 9 => .send .a .p2 | 10 => .send .b .p2 | 11 => .send .d .p2
  | 21 => .send .l .p0 | 22 => .send .l .p1 | 23 => .send .l .p2
  | 12 => .recv .a .p0 | 13 => .recv .b .p0 | 14 => .recv .d .p0
  | 15 => .recv .a .p1 | 16 => .recv .b .p1 | 17 => .recv .d .p1
  | 18 => .recv .a .p2 | 19 => .recv .b .p2 | 20 => .recv .d .p2
  | 24 => .recv .l .p0 | 25 => .recv .l .p1 | 26 => .recv .l .p2
  | 27 => .loc .k | 28 => .loc .v | 29 => .loc .o
  | _ => .other

def role : SemLoc sig → Role
  | .reg _ => .bar
  | .dma n => roleOf n.val

/-- The scoped semaphores, by role. -/
abbrev Cx : Type := (Ch × Ph) ⊕ (Ch × Ph) ⊕ Lo

abbrev csem : Cx → SemLoc sig
  | .inl (k, p) => .dma (sendS k p)
  | .inr (.inl (k, p)) => .dma (recvS k p)
  | .inr (.inr j) => .dma (locS j)

/-- The role of a scoped semaphore. -/
def crole : Cx → Role
  | .inl (k, p) => .send k p
  | .inr (.inl (k, p)) => .recv k p
  | .inr (.inr j) => .loc j

theorem role_csem (x : Cx) : role (csem x) = crole x := by
  rcases x with ⟨k, p⟩ | ⟨k, p⟩ | j
  · cases k <;> cases p <;> rfl
  · cases k <;> cases p <;> rfl
  · cases j <;> rfl

theorem crole_inj : Function.Injective crole := by
  rintro (⟨k, p⟩ | ⟨k, p⟩ | j) (⟨k', p'⟩ | ⟨k', p'⟩ | j') h <;> simp only [crole, reduceCtorEq, Role.send.injEq, Role.recv.injEq, Role.loc.injEq] at h
  · rw [h.1, h.2]
  · rw [h.1, h.2]
  · rw [h]

theorem csem_inj : Function.Injective csem := fun x y h =>
  crole_inj (by rw [← role_csem, ← role_csem, h])

abbrev barCell (c : Dev nD) : GSem nD τ sig := ((c : Thread nD τ), .reg barS)
abbrev cell (x : Cx) (c : Dev nD) : GSem nD τ sig := ((c : Thread nD τ), csem x)
abbrev sndCell (k : Ch) (p : Ph) (c : Dev nD) : GSem nD τ sig := ((c : Thread nD τ), .dma (sendS k p))
abbrev rcvCell (k : Ch) (p : Ph) (c : Dev nD) : GSem nD τ sig := ((c : Thread nD τ), .dma (recvS k p))
abbrev locCell (j : Lo) (c : Dev nD) : GSem nD τ sig := ((c : Thread nD τ), .dma (locS j))

theorem role_snd (k : Ch) (p : Ph) : role (.dma (sendS k p)) = .send k p := role_csem (.inl (k, p))
theorem role_rcv (k : Ch) (p : Ph) : role (.dma (recvS k p)) = .recv k p := role_csem (.inr (.inl (k, p)))
theorem role_loc (j : Lo) : role (.dma (locS j)) = .loc j := role_csem (.inr (.inr j))

/-! ## Ownership -/

/-- Device `c` owns what a view covers, and the view reads `w`. -/
def holds {sp : Space} {s : Shape} {e : EltTy} (v : View sig .tc sp s e) (c : Dev nD) (w : s.Idx → Elt F e) : sProp 𝕄 :=
  iprop(∃ f : Buf (Elt F) (v.loc (c : Thread nD τ)), ⌜v.read (Elt F) f = w⌝ ∗ (v.loc (c : Thread nD τ) ↦[v.set]{fullShare} f))

/-- Device `c` owns what a view covers, at contents not named. -/
def room {sp : Space} {s : Shape} {e : EltTy} (v : View sig .tc sp s e) (c : Dev nD) : sProp 𝕄 :=
  iprop(∃ f : Buf (Elt F) (v.loc (c : Thread nD τ)), v.loc (c : Thread nD τ) ↦[v.set]{fullShare} f)

instance holds_storable {sp : Space} {s : Shape} {e : EltTy} (v : View sig .tc sp s e) (c : Dev nD) (w : s.Idx → Elt F e) :
    BI.Storable (upEmb : UEmb _ 𝕄) (holds v c w) := by unfold holds; infer_instance
instance room_storable {sp : Space} {s : Shape} {e : EltTy} (v : View sig .tc sp s e) (c : Dev nD) :
    BI.Storable (upEmb : UEmb _ 𝕄) (room (F := F) v c) := by unfold room; infer_instance

theorem holds_room {sp : Space} {s : Shape} {e : EltTy} (v : View sig .tc sp s e) (c : Dev nD) (w : s.Idx → Elt F e) :
    (holds v c w : sProp 𝕄) ⊢ room v c := by
  unfold holds room
  iintro ⟨%f, -, H⟩
  iexists f
  iexact H

/-! ## The schedule -/

variable (I : Dev nD → Inp F)

/-- Paid to `c`'s barrier along `j` by its partner there: the four places of the partner's that `c` writes along `j`,
    one per chain, and that their cells are at their first round. -/
def barPay1 (j : Leg) (c : Dev nD) (k : Ch) : sProp 𝕄 :=
  iprop(room (landM k (phOf j k)).view (flip j c) ∗ reached ER (rcvCell k (phOf j k) (flip j c)) 0)
def barPay (j : Leg) (c : Dev nD) : sProp 𝕄 :=
  iprop(barPay1 j c .a ∗ barPay1 j c .b ∗ barPay1 j c .d ∗ barPay1 j c .l)
def sndPay (k : Ch) (p : Ph) (c : Dev nD) : sProp 𝕄 := holds (srcM k).view c (st I p c k)
def rcvPay (k : Ch) (p : Ph) (c : Dev nD) : sProp 𝕄 := holds (landM k p).view c (st I p (peer k p c) k)
def locPay : Lo → Dev nD → sProp 𝕄
  | .k, c => iprop(holds (View.whole cc0_scratch4) c (I c).kt ∗ holds (View.whole main_v2) c (I c).kt)
  | .v, c => iprop(holds (View.whole cc0_scratch5) c (I c).vt ∗ holds (View.whole main_v3) c (I c).vt)
  | .o, c => iprop(holds (View.whole cc0_scratch6) c (I c).wo ∗ holds (View.whole main_arg4) c (I c).wo)

instance barPay1_storable (j : Leg) (c : Dev nD) (k : Ch) : BI.Storable (upEmb : UEmb _ 𝕄) (barPay1 (F := F) j c k) := by
  unfold barPay1; infer_instance
instance barPay_storable (j : Leg) (c : Dev nD) : BI.Storable (upEmb : UEmb _ 𝕄) (barPay (F := F) j c) := by
  unfold barPay; infer_instance
instance sndPay_storable (k : Ch) (p : Ph) (c : Dev nD) : BI.Storable (upEmb : UEmb _ 𝕄) (sndPay I k p c) := by
  unfold sndPay; infer_instance
instance rcvPay_storable (k : Ch) (p : Ph) (c : Dev nD) : BI.Storable (upEmb : UEmb _ 𝕄) (rcvPay I k p c) := by
  unfold rcvPay; infer_instance
instance locPay_storable (j : Lo) (c : Dev nD) : BI.Storable (upEmb : UEmb _ 𝕄) (locPay I j c) := by
  cases j <;> (unfold locPay; infer_instance)

/-- What a chain's transfer counts. -/
abbrev amt (k : Ch) : ℕ := (srcM k).view.dmaCredit
/-- What a local copy counts. -/
abbrev lamt : Lo → ℕ
  | .k => (View.whole (sig := sig) (κ := .tc) cc0_scratch4).dmaCredit
  | .v => (View.whole (sig := sig) (κ := .tc) cc0_scratch5).dmaCredit
  | .o => (View.whole (sig := sig) (κ := .tc) cc0_scratch6).dmaCredit

theorem amt_pos (k : Ch) : 0 < amt k := by cases k <;> exact View.dmaCredit_pos _ (by decide)
theorem lamt_pos (j : Lo) : 0 < lamt j := by cases j <;> exact View.dmaCredit_pos _ (by decide)
theorem land_amt (k : Ch) (p : Ph) : (landM k p).view.dmaCredit = amt k := by cases k <;> cases p <;> rfl

def rAmt : Role → ℕ
  | .bar => 1 | .send k _ => amt k | .recv k _ => amt k | .loc j => lamt j | .other => 1
def rDut : Role → Finset Leg
  | .bar => Finset.univ | .other => ∅ | _ => {.m1}
def rPay (r : Role) (c : Dev nD) (d : Leg) : sProp 𝕄 :=
  match r with
  | .bar => barPay d c | .send k p => sndPay I k p c | .recv k p => rcvPay I k p c | .loc j => locPay I j c | .other => iprop(emp)

instance rPay_storable (r : Role) (c : Dev nD) (d : Leg) : BI.Storable (upEmb : UEmb _ 𝕄) (rPay I r c d) := by
  cases r <;> (unfold rPay; infer_instance)

/-- One round on every semaphore of the kernel. -/
def Rd : Rounds.Schedule (GSem nD τ sig) Leg 𝕄 where
  duties g r := if r = 0 ∧ g.1.2 = .tc then rDut (role g.2) else ∅
  unitless _ := False
  amount g _ _ := rAmt (role g.2)
  payload g _ d := rPay I (role g.2) g.1.1 d
  amount_pos g _ _ _ := by
    cases h : role g.2 with
    | bar => exact Nat.one_pos
    | send k p => exact amt_pos k
    | recv k p => exact amt_pos k
    | loc j => exact lamt_pos j
    | other => exact Nat.one_pos

instance Rd_storable (g : GSem nD τ sig) (r : ℕ) (d : Leg) : BI.Storable (upEmb : UEmb _ 𝕄) ((Rd I).payload g r d) := by
  show BI.Storable upEmb (rPay I (role g.2) g.1.1 d); infer_instance

section Table
variable (c : Dev nD)

theorem duties_tc (sm : SemLoc sig) : (Rd I).duties ((c : Thread nD τ), sm) 0 = rDut (role sm) := by
  dsimp only [Rd]; exact if_pos ⟨rfl, rfl⟩
theorem duties_later (g : GSem nD τ sig) : ∀ r, 1 ≤ r → (Rd I).duties g r = ∅ :=
  fun r hr => by dsimp only [Rd]; exact if_neg fun h => by omega

theorem duties_bar : (Rd I).duties (barCell c) 0 = Finset.univ := duties_tc I c _
theorem duties_snd (k : Ch) (p : Ph) : (Rd I).duties (sndCell k p c) 0 = {.m1} := by rw [duties_tc, role_snd]; rfl
theorem duties_rcv (k : Ch) (p : Ph) : (Rd I).duties (rcvCell k p c) 0 = {.m1} := by rw [duties_tc, role_rcv]; rfl
theorem duties_loc (j : Lo) : (Rd I).duties (locCell j c) 0 = {.m1} := by rw [duties_tc, role_loc]; rfl
theorem duties_cell (x : Cx) : (Rd I).duties (cell x c) 0 = {.m1} := by
  rw [duties_tc, role_csem]; rcases x with ⟨k, p⟩ | ⟨k, p⟩ | j <;> rfl

theorem amount_bar (d : Leg) : (Rd I).amount (barCell c) 0 d = 1 := rfl
theorem amount_snd (k : Ch) (p : Ph) (d : Leg) : (Rd I).amount (sndCell k p c) 0 d = amt k := by
  show rAmt (role (.dma (sendS k p))) = _; rw [role_snd]; rfl
theorem amount_rcv (k : Ch) (p : Ph) (d : Leg) : (Rd I).amount (rcvCell k p c) 0 d = amt k := by
  show rAmt (role (.dma (recvS k p))) = _; rw [role_rcv]; rfl
theorem amount_loc (j : Lo) (d : Leg) : (Rd I).amount (locCell j c) 0 d = lamt j := by
  show rAmt (role (.dma (locS j))) = _; rw [role_loc]; rfl

theorem expect_bar : (Rd I).expect (barCell c) 0 = 3 := by
  unfold Schedule.expect Schedule.amountOf
  rw [duties_bar, Finset.sum_congr rfl fun d _ => amount_bar I c d]
  rfl
theorem expect_snd (k : Ch) (p : Ph) : (Rd I).expect (sndCell k p c) 0 = amt k := by
  unfold Schedule.expect Schedule.amountOf; rw [duties_snd, Finset.sum_singleton, amount_snd]
theorem expect_rcv (k : Ch) (p : Ph) : (Rd I).expect (rcvCell k p c) 0 = amt k := by
  unfold Schedule.expect Schedule.amountOf; rw [duties_rcv, Finset.sum_singleton, amount_rcv]
theorem expect_loc (j : Lo) : (Rd I).expect (locCell j c) 0 = lamt j := by
  unfold Schedule.expect Schedule.amountOf; rw [duties_loc, Finset.sum_singleton, amount_loc]

theorem payload_bar (d : Leg) : (Rd I).payload (barCell c) 0 d = barPay d c := rfl
theorem payload_snd (k : Ch) (p : Ph) (d : Leg) : (Rd I).payload (sndCell k p c) 0 d = sndPay I k p c := by
  show rPay I (role (.dma (sendS k p))) c d = _; rw [role_snd]; rfl
theorem payload_rcv (k : Ch) (p : Ph) (d : Leg) : (Rd I).payload (rcvCell k p c) 0 d = rcvPay I k p c := by
  show rPay I (role (.dma (recvS k p))) c d = _; rw [role_rcv]; rfl
theorem payload_loc (j : Lo) (d : Leg) : (Rd I).payload (locCell j c) 0 d = locPay I j c := by
  show rPay I (role (.dma (locS j))) c d = _; rw [role_loc]; rfl

theorem rest_bar : bigSep ((Rd I).duties (barCell c) 0 \ ∅) (fun d => (Rd I).payload (barCell c) 0 d)
    = iprop(barPay .m1 c ∗ barPay .m3 c ∗ barPay .m4 c) := by
  rw [Finset.sdiff_empty, duties_bar, bigSep_univ_eq_bigSepL [Leg.m1, Leg.m3, Leg.m4] (by decide) (by decide)]
  rfl
theorem rest_snd (k : Ch) (p : Ph) : bigSep ((Rd I).duties (sndCell k p c) 0 \ ∅) (fun d => (Rd I).payload (sndCell k p c) 0 d) = sndPay I k p c := by
  rw [Finset.sdiff_empty, duties_snd, bigSep_singleton, payload_snd]
theorem rest_rcv (k : Ch) (p : Ph) : bigSep ((Rd I).duties (rcvCell k p c) 0 \ ∅) (fun d => (Rd I).payload (rcvCell k p c) 0 d) = rcvPay I k p c := by
  rw [Finset.sdiff_empty, duties_rcv, bigSep_singleton, payload_rcv]
theorem rest_loc (j : Lo) : bigSep ((Rd I).duties (locCell j c) 0 \ ∅) (fun d => (Rd I).payload (locCell j c) 0 d) = locPay I j c := by
  rw [Finset.sdiff_empty, duties_loc, bigSep_singleton, payload_loc]

end Table

/-! ## What a device owes; the levels -/

/-- A payment: a signal along a leg, or a chain's transfer of a phase. -/
inductive Py | sig (j : Leg) | tr (k : Ch) (p : Ph)

def pcell : Py → Dev nD → GSem nD τ sig
  | .sig j, c => barCell (flip j c)
  | .tr k p, c => rcvCell k p (peer k p c)
def pamt : Py → ℕ | .sig _ => 1 | .tr k _ => amt k

/-- What device `c` owes while these payments are to come, the next first. -/
def owe (c : Dev nD) : List Py → CellTallies nD τ sig Unit
  | [] => 0
  | x :: xs => owe c xs + tallyAt (pcell x c) () (pamt x)

/-- All payments in program order. -/
abbrev pays : List Py :=
  [.sig .m1, .sig .m3, .sig .m4, .tr .a .p0, .tr .b .p0, .tr .d .p0, .tr .l .p0,
    .tr .a .p1, .tr .b .p1, .tr .d .p1, .tr .l .p1, .tr .a .p2, .tr .b .p2, .tr .d .p2, .tr .l .p2]

def L (g : GSem nD τ sig) : Finset Unit := if g.1.2 = .tc then {()} else ∅
abbrev plev : Ph → ℕ | .p0 => 2 | .p1 => 3 | .p2 => 4
def rlev : Role → ℕ | .bar => 1 | .recv _ p => plev p | _ => 0
/-- The barrier at 1, receive cells above it phase by phase, the rest at 0. -/
def lv (g : GSem nD τ sig) (_ : Unit) : ℕ := rlev (role g.2)
def pylev : Py → ℕ | .sig _ => 1 | .tr _ p => plev p

theorem L_of_ne (g : GSem nD τ sig) (h : g.1.2 ≠ .tc) : L g = ∅ := if_neg h
theorem L_tc (c : Dev nD) (sm : SemLoc sig) : L ((c : Thread nD τ), sm) = {()} := if_pos rfl

theorem lv_pcell (x : Py) (c : Dev nD) : lv (pcell x c) () = pylev x := by
  cases x with
  | sig j => rfl
  | tr k p => show rlev (role (.dma (recvS k p))) = plev p; rw [role_rcv]; rfl
theorem L_pcell (x : Py) (c : Dev nD) : L (pcell x c) = {()} := by cases x <;> exact if_pos rfl

theorem owe_pos {c : Dev nD} {xs : List Py} {g : GSem nD τ sig} {u : Unit} (h : 0 < owe c xs g u) : ∃ x ∈ xs, g = pcell x c := by
  induction xs with
  | nil => exact absurd h (Nat.lt_irrefl 0)
  | cons x xs ih =>
    unfold owe at h
    rw [Pi.add_apply, Finsupp.add_apply, tallyAt_apply] at h
    by_cases hx : g = pcell x c ∧ u = ()
    · exact ⟨x, List.mem_cons_self, hx.1⟩
    · rw [if_neg hx] at h
      obtain ⟨y, hy, e⟩ := ih h
      exact ⟨y, List.mem_cons_of_mem _ hy, e⟩

/-- A device may wait on a semaphore of lower level than everything it still owes. -/
theorem mayWait (c : Dev nD) (sm : SemLoc sig) (xs : List Py) (h : ∀ x ∈ xs, rlev (role sm) < pylev x) :
    (levAts L lv : sProp 𝕄) ⊢ MayWait (c : Thread nD τ) sm () (owe c xs) :=
  MayOwe.of_cut (L := L) (lev := lv) (rlev (role sm))
    (fun p hp => by rw [Finset.mem_singleton.mp hp, L_tc]; exact Finset.mem_singleton_self _)
    (fun g u hg => by obtain ⟨x, -, rfl⟩ := owe_pos hg; rw [L_pcell]; exact Finset.mem_singleton_self _)
    (fun p hp => by rw [Finset.mem_singleton.mp hp]; exact le_rfl)
    (fun g u hg => by obtain ⟨x, hx, rfl⟩ := owe_pos hg; rw [lv_pcell]; exact h x hx)

/-! ## All cells -/

def barCells : Finset (GSem nD τ sig) :=
  Finset.univ.map ⟨barCell, fun c d h => congrArg (fun g : GSem nD τ sig => g.1.1) h⟩
def scCells : Finset (GSem nD τ sig) :=
  (Finset.univ : Finset (Dev nD × Cx)).map ⟨fun q => cell q.2 q.1, fun q r h => by
    have h1 : q.1 = r.1 := congrArg (fun g : GSem nD τ sig => g.1.1) h
    have h2 : csem q.2 = csem r.2 := congrArg (fun g : GSem nD τ sig => g.2) h
    exact Prod.ext h1 (csem_inj h2)⟩

theorem mem_bar (c : Dev nD) : barCell c ∈ barCells := Finset.mem_map_of_mem _ (Finset.mem_univ c)
theorem mem_sc (x : Cx) (c : Dev nD) : cell x c ∈ scCells :=
  Finset.mem_map.mpr ⟨(c, x), Finset.mem_univ _, rfl⟩

/-- The cells' invariants at the names the launch chose, and that every barrier cell is at its first round. -/
def recs (κ : GSem nD τ sig → ℕ) : sProp 𝕄 :=
  iprop(bigSep (barCells ∪ scCells) (fun g => cellInv ER (Rd I) (κ g) g) ∗ bigSep barCells (fun g => reached ER g 0))

instance recs_persistent (κ : GSem nD τ sig → ℕ) : BI.Persistent (recs I κ : sProp 𝕄) := by unfold recs; infer_instance

theorem recs_bar (κ : GSem nD τ sig → ℕ) (c : Dev nD) : (recs I κ : sProp 𝕄) ⊢ cellInv ER (Rd I) (κ (barCell c)) (barCell c) := by
  unfold recs
  exact sep_elim_left.trans (bigSep_elim (s := barCells ∪ scCells) (i := barCell c) (Finset.mem_union_left scCells (mem_bar c))
    (Φ := fun g => (cellInv ER (Rd I) (κ g) g : sProp 𝕄)))
theorem recs_reached (κ : GSem nD τ sig → ℕ) (c : Dev nD) : (recs I κ : sProp 𝕄) ⊢ reached ER (barCell c) 0 := by
  unfold recs
  exact sep_elim_right.trans (bigSep_elim (s := barCells) (i := barCell c) (mem_bar c) (Φ := fun g => (reached ER g 0 : sProp 𝕄)))
theorem recs_cell (κ : GSem nD τ sig → ℕ) (x : Cx) (c : Dev nD) : (recs I κ : sProp 𝕄) ⊢ cellInv ER (Rd I) (κ (cell x c)) (cell x c) := by
  unfold recs
  exact sep_elim_left.trans (bigSep_elim (s := barCells ∪ scCells) (i := cell x c) (Finset.mem_union_right barCells (mem_sc x c))
    (Φ := fun g => (cellInv ER (Rd I) (κ g) g : sProp 𝕄)))

end Cert.Exchange

end
-- ==== Proof.Steps.lean ====
/-
# One step of the exchange at a time

Rules for the transfers, the waits, the loads and the stores of the kernel, each stated on what a device holds.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

theorem holds_eq {sp : Space} {s : Shape} {e : EltTy} (v : View sig .tc sp s e) (c : Dev nD) (w : s.Idx → Elt F e) :
    (holds v c w : sProp 𝕄) = iprop(∃ f : Buf (Elt F) (v.loc (c : Thread nD τ)), ⌜v.read (Elt F) f = w⌝ ∗ (v.loc (c : Thread nD τ) ↦[v.set]{fullShare} f)) := rfl

/-- What a view's place holds, from its contents there. -/
theorem holds_intro {sp : Space} {s : Shape} {e : EltTy} {v : View sig .tc sp s e} {c : Dev nD} {w : s.Idx → Elt F e}
    {f : Buf (Elt F) (v.loc (c : Thread nD τ))} (hf : v.read (Elt F) f = w) :
    (v.loc (c : Thread nD τ) ↦[v.set]{fullShare} f : sProp 𝕄) ⊢ holds v c w := by
  rw [holds_eq]
  iintro H
  iexists f
  isplitr; · (ipureintro; exact hf)
  iexact H

/-- The weakest precondition of a device's program. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes the payments `xs`. -/
def owing (c : Dev nD) (xs : List Py) : sProp 𝕄 := iprop(∃ W, owes (c : Thread nD τ) (owe c xs) W)

theorem pylev_pos (x : Py) : 0 < pylev x := by
  rcases x with j | ⟨k, p⟩
  · revert j; decide
  · revert k p; decide

/-! ## The stages of one chain's transfer in one phase -/

/-- Its tokens, both cells unopened, the partner's cell not known to be ready. -/
def leg0 (k : Ch) (p : Ph) (c : Dev nD) : sProp 𝕄 :=
  iprop(atPos ER (sndCell k p c) 0 ∅ 0 ∗ reached ER (sndCell k p c) 0 ∗ dutyTok ER (sndCell k p c) 0 .m1
    ∗ dutyTok ER (rcvCell k p (peer k p c)) 0 .m1
    ∗ atPos ER (rcvCell k p c) 0 ∅ 0 ∗ cred (tallyAt (rcvCell k p c) () (amt k)))
/-- And with the place at the partner to write to. -/
def ready (k : Ch) (p : Ph) (c : Dev nD) : sProp 𝕄 :=
  iprop(leg0 k p c ∗ room (landM k p).view (peer k p c) ∗ reached ER (rcvCell k p (peer k p c)) 0)
/-- In flight. -/
def fly (k : Ch) (p : Ph) (c : Dev nD) : sProp 𝕄 :=
  iprop(atPos ER (sndCell k p c) 0 ∅ 0 ∗ cred (tallyAt (sndCell k p c) () (amt k))
    ∗ atPos ER (rcvCell k p c) 0 ∅ 0 ∗ cred (tallyAt (rcvCell k p c) () (amt k)))
/-- Sent, what comes in not yet waited for. -/
def half (k : Ch) (p : Ph) (c : Dev nD) : sProp 𝕄 :=
  iprop(atPos ER (sndCell k p c) (0 + 1) ∅ 0
    ∗ atPos ER (rcvCell k p c) 0 ∅ 0 ∗ cred (tallyAt (rcvCell k p c) () (amt k)))
/-- Both over. -/
def over (k : Ch) (p : Ph) (c : Dev nD) : sProp 𝕄 :=
  iprop(atPos ER (sndCell k p c) (0 + 1) ∅ 0 ∗ atPos ER (rcvCell k p c) (0 + 1) ∅ 0)

section Transfer

variable (c : Dev nD) (k : Ch) (p : Ph)

/-- Starting a chain's transfer of a phase: the source at its contents goes, and with it the payment. -/
theorem send_step {dst : Memref sig .tc .vmem (csh k) (cel k)} {sS rS : DmaSem sig} {n : Dev nD}
    (hdst : dst = landM k p) (hsS : sS = sendS k p) (hrS : rS = recvS k p) (hn : n = peer k p c)
    (xs : List Py)
    {hsc : (dst : Memref sig (Dev.tc n : Thread nD τ).2.kind .vmem (csh k) (cel k)).view.ref.isScScratch = false}
    {hsrc : (srcM k).view.WordExact} {hdw : dst.view.WordExact}
    {hsem : DmaTarget.Typed .vmem (.dma rS) (.remote (Dev.tc n : Thread nD τ) dst (.dma sS) hsc)}
    {α : Type} {Q : α → sProp 𝕄} {g : PUnit → Prog (TpuEff nD τ sig (Elt F) Λ₀ .tc) α} :
    iprop(recs I κ ∗ ready k p c ∗ holds (srcM k).view c (st I p c k) ∗ owing c (.tr k p :: xs))
      ⊢ iprop((fly k p c ∗ owing c xs -∗ wpc c (g ⟨⟩) Q)
          -∗ wpc c (.op (.enqueueDma (srcM k) (.remote (Dev.tc n : Thread nD τ) dst (.dma sS) hsc) (.dma rS) hsrc hdw hsem) g) Q) := by
  subst hdst hsS hrS hn
  unfold ready leg0 room owing fly
  rw [holds_eq]
  iintro ⟨#Hr, ⟨⟨Hat, #Hrs, Ht1, Ht2, Hat2, Hc2⟩, ⟨%fd, Hd⟩, #Hrr⟩, ⟨%fs, %hfs, Hs⟩, ⟨%W, HO⟩⟩ Hk
  ihave #Hi1 := (recs_cell I κ (.inl (k, p)) c) $$ Hr
  ihave #Hi2 := (recs_cell I κ (.inr (.inl (k, p))) (peer k p c)) $$ Hr
  iapply (Rounds.wp_send_pointsTo 𝒱₀ ER (Rd I) (c : Thread nD τ) none (κ₁ := κ (sndCell k p c)) (κ₂ := κ (rcvCell k p (peer k p c)))
    (c' := (peer k p c : Thread nD τ)) (src := srcM k) (dst := landM k p)
    (r₁ := 0) (r₂ := 0) (d₁ := .m1) (d₂ := .m1) (fs := fs) (fd := fd) (sS := .dma (sendS k p)) (sem := .dma (recvS k p))
    (by rw [duties_snd]; exact Finset.mem_singleton_self _) (by rw [duties_rcv]; exact Finset.mem_singleton_self _)
    () () (amt k) (land_amt k p) (amount_snd I c k p .m1) (amount_rcv I (peer k p c) k p .m1) (owe c xs) rfl (W := W)
    (by rw [payload_snd]; exact holds_intro hfs)
    (by rw [payload_rcv]; exact holds_intro (by rw [View.read_write_univ, peer_peer]; exact hfs))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hrs
    isplitl [Ht2]; · iexact Ht2
    iexact Hrr
  iintro ⟨Hc1, HO⟩
  iapply Hk
  isplitl [Hat Hc1 Hat2 Hc2]
  · isplitl [Hat]; · iexact Hat
    isplitl [Hc1]; · iexact Hc1
    isplitl [Hat2]; · iexact Hat2
    iexact Hc2
  iexists W; iexact HO

/-- Waiting for the outgoing transfer: the source is back. -/
theorem sent_step {sp sp' : Space} {s s' : Shape} {e e' : EltTy} {a : Memref sig .tc sp s e} {b : Memref sig .tc sp' s' e'} {sS : DmaSem sig}
    (hsS : sS = sendS k p) (hb : b.view.dmaCredit = amt k) (xs : List Py)
    {ha : a.view.WordExact} {hb' : b.view.WordExact}
    {α : Type} {Q : α → sProp 𝕄} {g : PUnit → Prog (TpuEff nD τ sig (Elt F) Λ₀ .tc) α} :
    iprop(recs I κ ∗ levAts L lv ∗ fly k p c ∗ owing c xs)
      ⊢ iprop((half k p c ∗ holds (srcM k).view c (st I p c k) ∗ owing c xs -∗ wpc c (g ⟨⟩) Q)
          -∗ wpc c (.op (.waitDma2 sS a b ha hb') g) Q) := by
  subst hsS
  unfold fly owing half
  iintro ⟨#Hr, #Hl, ⟨Hat, Hc1, Hat2, Hc2⟩, ⟨%W, HO⟩⟩ Hk
  ihave #Hi1 := (recs_cell I κ (.inl (k, p)) c) $$ Hr
  iapply (Rounds.wp_wait_rest_token 𝒱₀ ER (Rd I) (c : Thread nD τ) none (κ := κ (sndCell k p c)) (sm := .dma (sendS k p))
      (wpE_waitDma2_eq 𝒱₀ (c : Thread nD τ) none Set.univ) (Set.mem_univ _) () (O := owe c xs) (W := W) (R := 0) (m := 0) (T := ∅)
      (by rw [hb, expect_snd, Nat.zero_add])) $$ [Hc1 HO Hat]
  · isplitr; · iexact Hi1
    isplitl [Hc1]; · rw [hb]; iexact Hc1
    isplitl [HO]; · iexact HO
    isplitr
    · iapply (mayWait c (.dma (sendS k p)) xs (fun x _ => by rw [role_snd]; exact pylev_pos x)); iexact Hl
    iexact Hat
  rw [rest_snd, sndPay]
  iintro ⟨HO, Hat, -, Hpay⟩
  iapply Hk
  isplitl [Hat Hat2 Hc2]
  · isplitl [Hat]; · iexact Hat
    isplitl [Hat2]; · iexact Hat2
    iexact Hc2
  isplitl [Hpay]; · iexact Hpay
  iexists _; iexact HO

/-- Waiting for the incoming one: the landing place, at the partner's contents. -/
theorem got_step {sp sp' : Space} {s s' : Shape} {e e' : EltTy} {a : Memref sig .tc sp s e} {b : Memref sig .tc sp' s' e'} {rS : DmaSem sig}
    (hrS : rS = recvS k p) (hb : b.view.dmaCredit = amt k) (xs : List Py) (hxs : ∀ x ∈ xs, plev p < pylev x)
    {ha : a.view.WordExact} {hb' : b.view.WordExact}
    {α : Type} {Q : α → sProp 𝕄} {g : PUnit → Prog (TpuEff nD τ sig (Elt F) Λ₀ .tc) α} :
    iprop(recs I κ ∗ levAts L lv ∗ half k p c ∗ owing c xs)
      ⊢ iprop((over k p c ∗ holds (landM k p).view c (st I p (peer k p c) k) ∗ owing c xs -∗ wpc c (g ⟨⟩) Q)
          -∗ wpc c (.op (.waitDma2 rS a b ha hb') g) Q) := by
  subst hrS
  unfold half owing over
  iintro ⟨#Hr, #Hl, ⟨Hat, Hat2, Hc2⟩, ⟨%W, HO⟩⟩ Hk
  ihave #Hi1 := (recs_cell I κ (.inr (.inl (k, p))) c) $$ Hr
  iapply (Rounds.wp_wait_rest_token 𝒱₀ ER (Rd I) (c : Thread nD τ) none (κ := κ (rcvCell k p c)) (sm := .dma (recvS k p))
      (wpE_waitDma2_eq 𝒱₀ (c : Thread nD τ) none Set.univ) (Set.mem_univ _) () (O := owe c xs) (W := W) (R := 0) (m := 0) (T := ∅)
      (by rw [hb, expect_rcv, Nat.zero_add])) $$ [Hc2 HO Hat2]
  · isplitr; · iexact Hi1
    isplitl [Hc2]; · rw [hb]; iexact Hc2
    isplitl [HO]; · iexact HO
    isplitr
    · iapply (mayWait c (.dma (recvS k p)) xs (fun x hx => by rw [role_rcv]; exact hxs x hx)); iexact Hl
    iexact Hat2
  rw [rest_rcv, rcvPay]
  iintro ⟨HO, Hat2, -, Hpay⟩
  iapply Hk
  isplitl [Hat Hat2]
  · isplitl [Hat]; · iexact Hat
    iexact Hat2
  isplitl [Hpay]; · iexact Hpay
  iexists _; iexact HO

end Transfer

/-! ## The local copies -/

/-- A local copy's tokens. -/
def loc0 (j : Lo) (c : Dev nD) : sProp 𝕄 :=
  iprop(atPos ER (locCell j c) 0 ∅ 0 ∗ reached ER (locCell j c) 0 ∗ dutyTok ER (locCell j c) 0 .m1)
def locFly (j : Lo) (c : Dev nD) : sProp 𝕄 :=
  iprop(atPos ER (locCell j c) 0 ∅ 0 ∗ cred (tallyAt (locCell j c) () (lamt j)))

/-- Starting a local copy of a whole array into a whole buffer. -/
theorem copy_step (c : Dev nD) (j : Lo) {sp sp' : Space} {s : Shape} {e : EltTy} {src : Memref sig .tc sp s e} {dst : Memref sig .tc sp' s e}
    {sS : DmaSem sig} (hS : sS = locS j) (hN : dst.view.dmaCredit = lamt j) (w : s.Idx → Elt F e)
    (hpay : iprop(holds dst.view c w ∗ holds src.view c w) ⊢ locPay I j c)
    {h1 : src.view.WordExact} {h2 : dst.view.WordExact} {h3 : DmaTarget.Typed (nD := nD) (τ := τ) (p := .tc) sp (.dma sS) (.here dst)}
    {α : Type} {Q : α → sProp 𝕄} {g : PUnit → Prog (TpuEff nD τ sig (Elt F) Λ₀ .tc) α} :
    iprop(recs I κ ∗ loc0 j c ∗ holds src.view c w ∗ room dst.view c)
      ⊢ iprop((locFly j c -∗ wpc c (g ⟨⟩) Q) -∗ wpc c (.op (.enqueueDma src (.here dst) (.dma sS) h1 h2 h3) g) Q) := by
  subst hS
  unfold loc0 locFly room
  rw [holds_eq src.view] at hpay ⊢
  iintro ⟨#Hr, ⟨Hat, #Hrs, Ht⟩, ⟨%fs, %hfs, Hs⟩, ⟨%fd, Hd⟩⟩ Hk
  ihave #Hi := (recs_cell I κ (.inr (.inr j)) c) $$ Hr
  iapply (Rounds.wp_copy_pointsTo 𝒱₀ ER (Rd I) (c : Thread nD τ) none (κ := κ (locCell j c)) (r := 0) (d := .m1) (fs := fs) (fd := fd)
    (src := src) (dst := dst) (sem := .dma (locS j)) (by rw [duties_loc]; exact Finset.mem_singleton_self _) () (lamt j) hN (amount_loc I c j .m1)
    (by rw [payload_loc]
        exact (BIClass.sep_mono (holds_intro (by rw [View.read_write_univ]; exact hfs)) (holds_intro hfs)).trans hpay)) $$ [Hs Hd Ht]
  · isplitr; · iexact Hi
    isplitl [Hs]; · iexact Hs
    isplitl [Hd]; · iexact Hd
    isplitl [Ht]; · iexact Ht
    iexact Hrs
  iintro Hc
  iapply Hk
  isplitl [Hat]; · iexact Hat
  iexact Hc

/-- Waiting for a local copy. -/
theorem copied_step (c : Dev nD) (j : Lo) {sp sp' : Space} {s s' : Shape} {e e' : EltTy} {a : Memref sig .tc sp s e} {b : Memref sig .tc sp' s' e'}
    {sS : DmaSem sig} (hS : sS = locS j) (hb : b.view.dmaCredit = lamt j) (xs : List Py)
    {ha : a.view.WordExact} {hb' : b.view.WordExact}
    {α : Type} {Q : α → sProp 𝕄} {g : PUnit → Prog (TpuEff nD τ sig (Elt F) Λ₀ .tc) α} :
    iprop(recs I κ ∗ levAts L lv ∗ locFly j c ∗ owing c xs)
      ⊢ iprop((atPos ER (locCell j c) (0 + 1) ∅ 0 ∗ locPay I j c ∗ owing c xs -∗ wpc c (g ⟨⟩) Q)
          -∗ wpc c (.op (.waitDma2 sS a b ha hb') g) Q) := by
  subst hS
  unfold locFly owing
  iintro ⟨#Hr, #Hl, ⟨Hat, Hc⟩, ⟨%W, HO⟩⟩ Hk
  ihave #Hi := (recs_cell I κ (.inr (.inr j)) c) $$ Hr
  iapply (Rounds.wp_wait_rest_token 𝒱₀ ER (Rd I) (c : Thread nD τ) none (κ := κ (locCell j c)) (sm := .dma (locS j))
      (wpE_waitDma2_eq 𝒱₀ (c : Thread nD τ) none Set.univ) (Set.mem_univ _) () (O := owe c xs) (W := W) (R := 0) (m := 0) (T := ∅)
      (by rw [hb, expect_loc, Nat.zero_add])) $$ [Hc HO Hat]
  · isplitr; · iexact Hi
    isplitl [Hc]; · rw [hb]; iexact Hc
    isplitl [HO]; · iexact HO
    isplitr
    · iapply (mayWait c (.dma (locS j)) xs (fun x _ => by rw [role_loc]; exact pylev_pos x)); iexact Hl
    iexact Hat
  rw [rest_loc]
  iintro ⟨HO, Hat, -, Hpay⟩
  iapply Hk
  isplitl [Hat]; · iexact Hat
  isplitl [Hpay]; · iexact Hpay
  iexists _; iexact HO

/-! ## The barrier -/

/-- Telling the partner along `j` that it may write here. -/
theorem signal_step (c : Dev nD) (j : Leg) {n : Dev nD} (hn : n = flip j c) (xs : List Py)
    {α : Type} {Q : α → sProp 𝕄} {g : PUnit → Prog (TpuEff nD τ sig (Elt F) Λ₀ .tc) α} :
    iprop(recs I κ ∗ dutyTok ER (barCell (flip j c)) 0 j ∗ barPay j (flip j c) ∗ owing c (.sig j :: xs))
      ⊢ iprop((owing c xs -∗ wpc c (g ⟨⟩) Q) -∗ wpc c (.op (.semSignal (Dev.tc n : Thread nD τ) barS 1) g) Q) := by
  subst hn
  unfold owing
  iintro ⟨#Hr, Ht, Hp, ⟨%W, HO⟩⟩ Hk
  ihave #Hi := (recs_bar I κ (flip j c)) $$ Hr
  ihave #Hr0 := (recs_reached I κ (flip j c)) $$ Hr
  iapply (Rounds.wp_signal 𝒱₀ ER (Rd I) (c : Thread nD τ) none (dst := (flip j c : Thread nD τ)) (κ := κ (barCell (flip j c)))
      (r := 0) (d := j) (by rw [duties_bar]; exact Finset.mem_univ _) (amount_bar I (flip j c) j) () (owe c xs) rfl (W := W))
    $$ [HO Ht Hp]
  · isplitr; · iexact Hi
    isplitl [HO]; · iexact HO
    isplitl [Ht]; · iexact Ht
    isplitl [Hp]; · rw [payload_bar]; iexact Hp
    iexact Hr0
  iintro HO
  iapply Hk
  iexists W; iexact HO

/-- Waiting for all three partners. -/
theorem barrier_step (c : Dev nD) (xs : List Py) (hxs : ∀ x ∈ xs, 1 < pylev x)
    {α : Type} {Q : α → sProp 𝕄} {g : PUnit → Prog (TpuEff nD τ sig (Elt F) Λ₀ .tc) α} :
    iprop(recs I κ ∗ levAts L lv ∗ atPos ER (barCell c) 0 ∅ 0 ∗ cred (tallyAt (barCell c) () 3) ∗ owing c xs)
      ⊢ iprop((atPos ER (barCell c) (0 + 1) ∅ 0 ∗ (barPay .m1 c ∗ barPay .m3 c ∗ barPay .m4 c) ∗ owing c xs -∗ wpc c (g ⟨⟩) Q)
          -∗ wpc c (.op (.semWait barS 3) g) Q) := by
  unfold owing
  iintro ⟨#Hr, #Hl, Hat, Hc, ⟨%W, HO⟩⟩ Hk
  ihave #Hi := (recs_bar I κ c) $$ Hr
  iapply (Rounds.wp_wait_rest_token 𝒱₀ ER (Rd I) (c : Thread nD τ) none (κ := κ (barCell c)) (sm := .reg barS)
      (wpE_semWait_eq 𝒱₀ (c : Thread nD τ) none Set.univ) (Set.mem_univ _) () (O := owe c xs) (W := W) (R := 0) (m := 0) (T := ∅)
      (by rw [expect_bar])) $$ [Hc HO Hat]
  · isplitr; · iexact Hi
    isplitl [Hc]; · iexact Hc
    isplitl [HO]; · iexact HO
    isplitr
    · iapply (mayWait c (.reg barS) xs hxs); iexact Hl
    iexact Hat
  rw [rest_bar]
  iintro ⟨HO, Hat, -, Hpay⟩
  iapply Hk
  isplitl [Hat]; · iexact Hat
  isplitl [Hpay]; · iexact Hpay
  iexists _; iexact HO

/-! ## Loads and stores -/

section Memory
variable (c : Dev nD) {cs : CoreSpace} {s : Shape} {e : EltTy} {m : Memref sig .tc cs s e} {r : Rect s}
  {α : Type} {Q : α → sProp 𝕄}

/-- A load reads what its rectangle holds. -/
theorem load_step {Q : α → sProp 𝕄} {hl : m.view.LoadsAt r} {g : (r.shape.Idx → Elt F e) → Prog (TpuEff nD τ sig (Elt F) Λ₀ .tc) α}
    (w : r.shape.Idx → Elt F e) :
    (holds (m.access r) c w : sProp 𝕄) ⊢ iprop((holds (m.access r) c w -∗ wpc c (g w) Q) -∗ wpc c (.op (.load m r hl) g) Q) := by
  unfold holds
  iintro ⟨%f, %hf, H⟩ Hk
  iapply (wp_load_rect 𝒱₀ (c : Thread nD τ) none Set.univ (m := m) (r := r) (f := f) (Finset.Subset.refl _)) $$ H
  iintro H
  rw [hf]
  iapply Hk
  iexists f; isplitr; · (ipureintro; exact hf)
  iexact H

/-- A landing place is read through its rectangle before the leading axis of one is dropped. -/
theorem load_land_step {Q : α → sProp 𝕄} {t : Shape} (hn : t.numel = r.shape.numel) {hl : m.view.LoadsAt r}
    {g : (r.shape.Idx → Elt F e) → Prog (TpuEff nD τ sig (Elt F) Λ₀ .tc) α} (w : t.Idx → Elt F e) :
    (holds ((m.access r).reshape t hn) c w : sProp 𝕄)
      ⊢ iprop((∀ w', ⌜shapeCast t w' hn = w⌝ -∗ holds ((m.access r).reshape t hn) c w -∗ wpc c (g w') Q) -∗ wpc c (.op (.load m r hl) g) Q) := by
  unfold holds
  iintro ⟨%f, %hf, H⟩ Hk
  rw [View.set_reshape]
  iapply (wp_load_rect 𝒱₀ (c : Thread nD τ) none Set.univ (m := m) (r := r) (f := f) (Finset.Subset.refl _)) $$ H
  iintro H
  iapply Hk
  · ipureintro; exact hf
  iexists f; isplitr; · (ipureintro; exact hf)
  iexact H

/-- A store replaces what its rectangle holds. -/
theorem store_step {Q : α → sProp 𝕄} {w' : r.shape.Idx → Elt F e} {hx : (m.access r).Stores Finset.univ} {hm : (Finset.univ : Finset r.shape.Idx) = Finset.univ ∨ ∀ a, r.stride a = 1}
    {g : PUnit → Prog (TpuEff nD τ sig (Elt F) Λ₀ .tc) α} (w : r.shape.Idx → Elt F e) {w₂ : r.shape.Idx → Elt F e} (hw : w' = w₂) :
    (holds (m.access r) c w : sProp 𝕄) ⊢ iprop((holds (m.access r) c w₂ -∗ wpc c (g ⟨⟩) Q) -∗ wpc c (.op (.store m r w' Finset.univ hx hm) g) Q) := by
  subst hw
  rw [holds_eq (m.access r) c w]
  iintro ⟨%f, %hf, H⟩ Hk
  iapply (wp_store (defs := defs₀ (F := F)) 𝒱₀ (c : Thread nD τ) none Set.univ (m := m) (r := r) (w := w') (Mk := Finset.univ) (hx := hx) (hm := hm) (f := f) (S := (m.access r).set)
    (le_of_eq (View.setOn_univ _))) $$ H
  iintro H
  iapply Hk
  iapply (holds_intro (View.read_write_univ f w')) $$ H

/-- Device `c` owns the elements `S` of a memref's buffer, and on `T` they are `G`'s. -/
def upto (m : Memref sig .tc cs s e) (c : Dev nD) (S T : Finset (Idx (m.view.loc (c : Thread nD τ)))) (G : Buf (Elt F) (m.view.loc (c : Thread nD τ))) : sProp 𝕄 :=
  iprop(∃ f : Buf (Elt F) (m.view.loc (c : Thread nD τ)), ⌜∀ i ∈ T, f i = G i⌝ ∗ (m.view.loc (c : Thread nD τ) ↦[S]{fullShare} f))

/-- A load within it, of values not used. -/
theorem load_upto {Q : α → sProp 𝕄} {hl : m.view.LoadsAt r} {g : (r.shape.Idx → Elt F e) → Prog (TpuEff nD τ sig (Elt F) Λ₀ .tc) α}
    {S T : Finset (Idx (m.view.loc (c : Thread nD τ)))} {G : Buf (Elt F) (m.view.loc (c : Thread nD τ))} (hS : (m.access r).set ⊆ S) :
    (upto m c S T G : sProp 𝕄) ⊢ iprop((∀ w, upto m c S T G -∗ wpc c (g w) Q) -∗ wpc c (.op (.load m r hl) g) Q) := by
  unfold upto
  iintro ⟨%f, %hf, H⟩ Hk
  iapply (wp_load_rect 𝒱₀ (c : Thread nD τ) none Set.univ (m := m) (r := r) (f := f) hS) $$ H
  iintro H
  iapply Hk
  iexists f; isplitr; · (ipureintro; exact hf)
  iexact H

/-- A store of `G`'s elements within it. -/
theorem store_upto {Q : α → sProp 𝕄} {w' : r.shape.Idx → Elt F e} {hx : (m.access r).Stores Finset.univ} {hm : (Finset.univ : Finset r.shape.Idx) = Finset.univ ∨ ∀ a, r.stride a = 1}
    {g : PUnit → Prog (TpuEff nD τ sig (Elt F) Λ₀ .tc) α}
    {S T : Finset (Idx (m.view.loc (c : Thread nD τ)))} {G : Buf (Elt F) (m.view.loc (c : Thread nD τ))} (hS : (m.access r).set ⊆ S)
    (hw : (m.access r).read (Elt F) G = w') :
    (upto m c S T G : sProp 𝕄) ⊢ iprop((upto m c S (T ∪ (m.access r).set) G -∗ wpc c (g ⟨⟩) Q) -∗ wpc c (.op (.store m r w' Finset.univ hx hm) g) Q) := by
  unfold upto
  iintro ⟨%f, %hf, H⟩ Hk
  iapply (wp_store (defs := defs₀ (F := F)) 𝒱₀ (c : Thread nD τ) none Set.univ (m := m) (r := r) (w := w') (Mk := Finset.univ) (hx := hx) (hm := hm) (f := f) (S := S)
    ((le_of_eq (View.setOn_univ _)).trans hS)) $$ H
  iintro H
  iapply Hk
  iexists _; isplitr; swap; · iexact H
  ipureintro
  intro i hi
  by_cases hin : i ∈ (m.access r).set
  · obtain ⟨x, -, rfl⟩ := Finset.mem_map.mp hin
    rw [View.write_emb_of_mem _ _ (Finset.mem_univ x), ← hw, View.read_apply]
    exact cast_cast _ _ _
  · rw [View.write_of_not_mem _ _ _ (by rw [View.setOn_univ]; exact hin)]
    exact hf i ((Finset.mem_union.mp hi).resolve_right hin)

/-- Taking a rectangle out of it. -/
theorem upto_split {S T : Finset (Idx (m.view.loc (c : Thread nD τ)))} {G : Buf (Elt F) (m.view.loc (c : Thread nD τ))}
    (hS : (m.view.slice r).set ⊆ S) (hT : (m.view.slice r).set ⊆ T) :
    (upto m c S T G : sProp 𝕄) ⊢ iprop(holds (m.view.slice r) c ((m.view.slice r).read (Elt F) G) ∗ upto m c (S \ (m.view.slice r).set) T G) := by
  unfold upto
  iintro ⟨%f, %hf, H⟩
  ihave H := (pointsTo_split_subset hS).1 $$ H
  icases H with ⟨H1, H2⟩
  isplitl [H1]
  · iapply (holds_intro (v := m.view.slice r) (View.read_congr (fun i hi => hf i (hT hi)))) $$ H1
  iexists f; isplitr; · (ipureintro; exact hf)
  iexact H2

end Memory

end Cert.Exchange

end
-- ==== Proof.BodyA.lean ====
/-
# The kernel up to the first transfers

Each part of the program before the first merge, from what it uses to what it leaves.
-/
module

public import proofs.«01_k».proof.Proof.Steps

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

/-! ## The devices the program names -/

section Devs
variable (c : Dev nD)
theorem dev1_eq : (⟨k0_dev1 c, k0_dev1_lt c⟩ : Dev nD) = flip .m1 c := by revert c; decide
theorem dev2_eq : (⟨k0_dev2 c, k0_dev2_lt c⟩ : Dev nD) = flip .m3 c := by revert c; decide
theorem dev3_eq : (⟨k0_dev3 c, k0_dev3_lt c⟩ : Dev nD) = flip .m4 c := by revert c; decide
theorem dev4_eq : (⟨k0_dev4 c, k0_dev4_lt c⟩ : Dev nD) = peer .a .p0 c := by revert c; decide
theorem dev5_eq : (⟨k0_dev5 c, k0_dev5_lt c⟩ : Dev nD) = peer .b .p0 c := by revert c; decide
theorem dev6_eq : (⟨k0_dev6 c, k0_dev6_lt c⟩ : Dev nD) = peer .d .p0 c := by revert c; decide
theorem dev7_eq : (⟨k0_dev7 c, k0_dev7_lt c⟩ : Dev nD) = peer .l .p0 c := by revert c; decide
theorem dev8_eq : (⟨k0_dev8 c, k0_dev8_lt c⟩ : Dev nD) = peer .a .p1 c := by revert c; decide
theorem dev9_eq : (⟨k0_dev9 c, k0_dev9_lt c⟩ : Dev nD) = peer .b .p1 c := by revert c; decide
theorem dev10_eq : (⟨k0_dev10 c, k0_dev10_lt c⟩ : Dev nD) = peer .d .p1 c := by revert c; decide
theorem dev11_eq : (⟨k0_dev11 c, k0_dev11_lt c⟩ : Dev nD) = peer .l .p1 c := by revert c; decide
theorem dev12_eq : (⟨k0_dev12 c, k0_dev12_lt c⟩ : Dev nD) = peer .a .p2 c := by revert c; decide
theorem dev13_eq : (⟨k0_dev13 c, k0_dev13_lt c⟩ : Dev nD) = peer .b .p2 c := by revert c; decide
theorem dev14_eq : (⟨k0_dev14 c, k0_dev14_lt c⟩ : Dev nD) = peer .d .p2 c := by revert c; decide
theorem dev15_eq : (⟨k0_dev15 c, k0_dev15_lt c⟩ : Dev nD) = peer .l .p2 c := by revert c; decide
end Devs

/-! ## A whole buffer read through a rectangle -/

/-- A load from a buffer held whole reads its contents there. -/
theorem load_whole (c : Dev nD) {cs : CoreSpace} {s : Shape} {e : EltTy} {m : Memref sig .tc cs s e} {r : Rect s} {α : Type} {Q : α → sProp 𝕄}
    {hl : m.view.LoadsAt r} {g : (r.shape.Idx → Elt F e) → Prog (TpuEff nD τ sig (Elt F) Λ₀ .tc) α}
    (w : s.Idx → Elt F e) {w' : r.shape.Idx → Elt F e} (hw : ∀ x, w (r.emb x) = w' x) :
    (holds m.view c w : sProp 𝕄) ⊢ iprop((holds m.view c w -∗ wpc c (g w') Q) -∗ wpc c (.op (.load m r hl) g) Q) := by
  rw [holds_eq m.view c w]
  iintro ⟨%f, %hf, H⟩ Hk
  iapply (wp_load_rect 𝒱₀ (c : Thread nD τ) none Set.univ (m := m) (r := r) (f := f) (View.set_slice_subset m.view r)) $$ H
  iintro H
  rw [show (m.access r).read (Elt F) f = w' from by funext x; rw [← hw]; subst hf; rfl]
  iapply Hk
  iexists f; isplitr; · (ipureintro; exact hf)
  iexact H

/-- A program that ends. -/
theorem ret_step (c : Dev nD) {α : Type} {a b : α} {Q : α → sProp 𝕄} (h : a = b) : Q b ⊢ wpc (F := F) c (.ret a) Q := by
  subst h
  unfold wpc
  iintro H
  rw [wp_ret]
  imodintro
  iexact H

theorem emb0 {s : Shape} {off : Fin s.rank → ℕ} (h : off = fun _ => 0) (inb : ∀ a, off a + s.size a ≤ s.size a) (x : s.Idx) :
    (Rect.unit off s.size inb).emb x = x := by
  subst h
  funext a
  apply Fin.ext
  rw [Rect.emb_apply]
  simp

/-! ## The parts -/

abbrev xM : Memref sig .tc .vmem S512x768 .f32 := Memref.whole cc0_stg0_0
abbrev wqM : Memref sig .tc .vmem S768x512 .f32 := Memref.whole cc0_stg1_0
abbrev oM : Memref sig .tc .vmem S2x256x768 .f32 := Memref.whole cc0_stg2_0
abbrev nM : Memref sig .tc .vmem S2048x128 .bf16 := Memref.whole cc0_scratch0
abbrev lM : Memref sig .tc .vmem S4x1024 .f32 := Memref.whole cc0_scratch2
abbrev ktM : Memref sig .tc .vmem S2x2x64x512 .f32 := Memref.whole cc0_scratch4
abbrev vtM : Memref sig .tc .vmem S2x2x64x512 .f32 := Memref.whole cc0_scratch5
abbrev woM : Memref sig .tc .vmem S512x768 .f32 := Memref.whole cc0_scratch6
abbrev kHb : Memref sig .tc .hbm S2x2x64x512 .f32 := Memref.whole main_v2
abbrev vHb : Memref sig .tc .hbm S2x2x64x512 .f32 := Memref.whole main_v3
abbrev oHb : Memref sig .tc .hbm S512x768 .f32 := Memref.whole main_arg4

/-- What the body has of its inputs. -/
def inp0 (c : Dev nD) : sProp 𝕄 := iprop(holds xM.view c (I c).x ∗ holds wqM.view c (I c).wq)

set_option maxHeartbeats 1000000 in
theorem part1_wp (c : Dev nD) (h0 h1 h2 h3 h4 h5 h6 h7 h8 h9 h10 h11 h12) {Q : _ → sProp 𝕄} :
    iprop(recs I κ ∗ levAts L lv ∗ loc0 .k c ∗ loc0 .v c ∗ loc0 .o c
        ∗ holds kHb.view c (I c).kt ∗ holds vHb.view c (I c).vt ∗ holds oHb.view c (I c).wo
        ∗ room ktM.view c ∗ room vtM.view c ∗ room woM.view c
        ∗ inp0 I c ∗ owing c pays
        ∗ (∀ v2, (atPos ER (locCell .k c) (0 + 1) ∅ 0 ∗ atPos ER (locCell .v c) (0 + 1) ∅ 0 ∗ locFly .o c
            ∗ holds kHb.view c (I c).kt ∗ holds vHb.view c (I c).vt ∗ holds ktM.view c (I c).kt ∗ holds vtM.view c (I c).vt
            ∗ inp0 I c ∗ owing c pays)
          -∗ Q ⟨c, v2, qry (I c), k0_pay3, k0_pay4 (I c).x (I c).wq (blk00 (I c).kt), k0_pay5 (I c).x (I c).wq (blk00 (I c).kt) (blk00 (I c).vt)⟩))
      ⊢ wpc c (k0_part1 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12) Q := by
  rw [k0_part1_eq_skeleton]
  unfold k0_part1_skel inp0
  simp only [Prog.lift, Prog.bind_op, Prog.bind_ret, Prog.pure_eq_ret, wp_deviceId]
  iintro ⟨#Hr, #Hl, Hk, Hv, Ho, Hkh, Hvh, Hoh, Hkr, Hvr, Hor, ⟨Hx, Hwq⟩, HO, HQ⟩
  iapply (copy_step I κ c .k rfl rfl (I c).kt (by unfold locPay; exact .rfl)) $$ [Hk Hkh Hkr]
  · isplitr; · iexact Hr
    isplitl [Hk]; · iexact Hk
    isplitl [Hkh]; · iexact Hkh
    iexact Hkr
  iintro Hk
  iapply (copy_step I κ c .v rfl rfl (I c).vt (by unfold locPay; exact .rfl)) $$ [Hv Hvh Hvr]
  · isplitr; · iexact Hr
    isplitl [Hv]; · iexact Hv
    isplitl [Hvh]; · iexact Hvh
    iexact Hvr
  iintro Hv
  iapply (copy_step I κ c .o rfl rfl (I c).wo (by unfold locPay; exact .rfl)) $$ [Ho Hoh Hor]
  · isplitr; · iexact Hr
    isplitl [Ho]; · iexact Ho
    isplitl [Hoh]; · iexact Hoh
    iexact Hor
  iintro Ho
  iapply (load_whole c (m := xM) (I c).x (w' := (I c).x) (fun x => congrArg _ (emb0 (s := S512x768) (by decide) _ x))) $$ Hx
  iintro Hx
  iapply (load_whole c (m := wqM) (I c).wq (w' := (I c).wq) (fun x => congrArg _ (emb0 (s := S768x512) (by decide) _ x))) $$ Hwq
  iintro Hwq
  iapply (copied_step I κ c .k rfl rfl pays) $$ [Hk HO]
  · isplitr; · iexact Hr
    isplitr; · iexact Hl
    isplitl [Hk]; · iexact Hk
    iexact HO
  unfold locPay
  iintro ⟨Hk, ⟨Hkt, Hkh⟩, HO⟩
  iapply (copied_step I κ c .v rfl rfl pays) $$ [Hv HO]
  · isplitr; · iexact Hr
    isplitr; · iexact Hl
    isplitl [Hv]; · iexact Hv
    iexact HO
  unfold locPay
  iintro ⟨Hv, ⟨Hvt, Hvh⟩, HO⟩
  iapply (load_whole c (m := ktM) (I c).kt (w' := blk00 (I c).kt) (fun _ => rfl)) $$ Hkt
  iintro Hkt
  iapply (load_whole c (m := vtM) (I c).vt (w' := blk00 (I c).vt) (fun _ => rfl)) $$ Hvt
  iintro Hvt
  iapply (ret_step c rfl)
  iapply HQ $$ [Hk Hv Ho Hkh Hvh Hkt Hvt Hx Hwq HO]
  isplitl [Hk]; · iexact Hk
  isplitl [Hv]; · iexact Hv
  isplitl [Ho]; · iexact Ho
  isplitl [Hkh]; · iexact Hkh
  isplitl [Hvh]; · iexact Hvh
  isplitl [Hkt]; · iexact Hkt
  isplitl [Hvt]; · iexact Hvt
  isplitl [Hx Hwq]
  · isplitl [Hx]; · iexact Hx
    iexact Hwq
  iexact HO

end Cert.Exchange

end
-- ==== Proof.Reads.lean ====
/-
# The arrays read through the kernel's rectangles

Which part of the numerators, the denominators and the result each store writes, that the stores cover what is sent,
and what the merging terms are.
-/
module

public import proofs.«01_k».proof.Proof.BodyA
public import Idealize.ShloMosaic.Lib.Pipeline.Value

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles of the stores -/

abbrev n00 : Rect S2048x128 := Rect.unit (s := S2048x128) ![0, 0] S1024x64.size inb_S2048x128_S1024x64_0_0
abbrev n01 : Rect S2048x128 := Rect.unit (s := S2048x128) ![0, 64] S1024x64.size inb_S2048x128_S1024x64_0_64
abbrev n10 : Rect S2048x128 := Rect.unit (s := S2048x128) ![1024, 0] S1024x64.size inb_S2048x128_S1024x64_1024_0
abbrev n11 : Rect S2048x128 := Rect.unit (s := S2048x128) ![1024, 64] S1024x64.size inb_S2048x128_S1024x64_1024_64
abbrev l0 : Rect S4x1024 := Rect.unit (s := S4x1024) ![0, 0] S1x1024.size inb_S4x1024_S1x1024_0_0
abbrev l1 : Rect S4x1024 := Rect.unit (s := S4x1024) ![1, 0] S1x1024.size inb_S4x1024_S1x1024_1_0
abbrev l2 : Rect S4x1024 := Rect.unit (s := S4x1024) ![2, 0] S1x1024.size inb_S4x1024_S1x1024_2_0
abbrev l3 : Rect S4x1024 := Rect.unit (s := S4x1024) ![3, 0] S1x1024.size inb_S4x1024_S1x1024_3_0
abbrev o0 : Rect S2x256x768 := Rect.unit (s := S2x256x768) ![0, 0, 0] S1x256x768.size inb_S2x256x768_S1x256x768_0_0_0
abbrev o1 : Rect S2x256x768 := Rect.unit (s := S2x256x768) ![1, 0, 0] S1x256x768.size inb_S2x256x768_S1x256x768_1_0_0
abbrev ra : Rect S2048x128 := Rect.unit (s := S2048x128) ![0, 0] S688x128.size inb_S2048x128_S688x128_0_0
abbrev rb : Rect S2048x128 := Rect.unit (s := S2048x128) ![688, 0] S688x128.size inb_S2048x128_S688x128_688_0
abbrev rd : Rect S2048x128 := Rect.unit (s := S2048x128) ![1376, 0] S672x128.size inb_S2048x128_S672x128_1376_0

section Num
variable (I : Inp F)

theorem num_n00 (x : Fin 1024) (y : Fin 64) : num I (n00.emb (ix2 x y)) = num00 I (ix2 x y) := by
  have e0 : (n00.emb (ix2 x y) 0).val = x.val := by rw [Rect.emb_apply]; simp
  have e1 : (n00.emb (ix2 x y) 1).val = y.val := by rw [Rect.emb_apply]; simp
  unfold num
  rw [dif_pos (by omega), dif_pos (by omega)]
  congr 1
  simp only [e0, e1]
theorem num_n01 (x : Fin 1024) (y : Fin 64) : num I (n01.emb (ix2 x y)) = num01 I (ix2 x y) := by
  have e0 : (n01.emb (ix2 x y) 0).val = x.val := by rw [Rect.emb_apply]; simp
  have e1 : (n01.emb (ix2 x y) 1).val = 64 + y.val := by rw [Rect.emb_apply]; simp
  unfold num
  rw [dif_pos (by omega), dif_neg (by omega)]
  congr 1
  simp only [e0, e1, Nat.add_sub_cancel_left]
theorem num_n10 (x : Fin 1024) (y : Fin 64) : num I (n10.emb (ix2 x y)) = num10 I (ix2 x y) := by
  have e0 : (n10.emb (ix2 x y) 0).val = 1024 + x.val := by rw [Rect.emb_apply]; simp
  have e1 : (n10.emb (ix2 x y) 1).val = y.val := by rw [Rect.emb_apply]; simp
  unfold num
  rw [dif_neg (by omega), dif_pos (by omega)]
  congr 1
  simp only [e0, e1, Nat.add_sub_cancel_left]
theorem num_n11 (x : Fin 1024) (y : Fin 64) : num I (n11.emb (ix2 x y)) = num11 I (ix2 x y) := by
  have e0 : (n11.emb (ix2 x y) 0).val = 1024 + x.val := by rw [Rect.emb_apply]; simp
  have e1 : (n11.emb (ix2 x y) 1).val = 64 + y.val := by rw [Rect.emb_apply]; simp
  unfold num
  rw [dif_neg (by omega), dif_neg (by omega)]
  congr 1
  simp only [e0, e1, Nat.add_sub_cancel_left]

theorem read_n00 : (nM.access n00).read (Elt F) (num I) = num00 I := by
  funext j; rw [eq_ix2 j]; exact num_n00 I _ _
theorem read_n01 : (nM.access n01).read (Elt F) (num I) = num01 I := by
  funext j; rw [eq_ix2 j]; exact num_n01 I _ _
theorem read_n10 : (nM.access n10).read (Elt F) (num I) = num10 I := by
  funext j; rw [eq_ix2 j]; exact num_n10 I _ _
theorem read_n11 : (nM.access n11).read (Elt F) (num I) = num11 I := by
  funext j; rw [eq_ix2 j]; exact num_n11 I _ _

theorem den_at (r : Rect S4x1024) (k : ℕ) (hr0 : r.off 0 = k) (hr1 : r.off 1 = 0) (hs : ∀ a, r.stride a = 1) (x : r.shape.Idx) (hx0 : (x 0).val = 0) :
    (r.emb x 0).val = k ∧ (r.emb x 1).val = (x 1).val := by
  constructor
  · rw [Rect.emb_apply, hr0, hx0]; simp
  · rw [Rect.emb_apply, hr1, hs]; simp

theorem read_l0 : (lM.access l0).read (Elt F) (den I) = den00 I := by
  funext j; rw [eq_ix2 j]
  have h : (j 0).val = 0 := by have : (j 0).val < 1 := (j 0).isLt; omega
  obtain ⟨e0, e1⟩ := den_at l0 0 rfl rfl (fun _ => rfl) (ix2 (j 0) (j 1)) h
  show den I (l0.emb (ix2 (j 0) (j 1))) = _
  unfold den
  rw [if_pos e0]
  congr 1
  refine congrArg₂ ix2 (Fin.ext ?_) (Fin.ext e1)
  exact h.symm
theorem read_l1 : (lM.access l1).read (Elt F) (den I) = den01 I := by
  funext j; rw [eq_ix2 j]
  have h : (j 0).val = 0 := by have : (j 0).val < 1 := (j 0).isLt; omega
  obtain ⟨e0, e1⟩ := den_at l1 1 rfl rfl (fun _ => rfl) (ix2 (j 0) (j 1)) h
  show den I (l1.emb (ix2 (j 0) (j 1))) = _
  unfold den
  rw [if_neg (by omega), if_pos e0]
  congr 1
  refine congrArg₂ ix2 (Fin.ext ?_) (Fin.ext e1)
  exact h.symm
theorem read_l2 : (lM.access l2).read (Elt F) (den I) = den10 I := by
  funext j; rw [eq_ix2 j]
  have h : (j 0).val = 0 := by have : (j 0).val < 1 := (j 0).isLt; omega
  obtain ⟨e0, e1⟩ := den_at l2 2 rfl rfl (fun _ => rfl) (ix2 (j 0) (j 1)) h
  show den I (l2.emb (ix2 (j 0) (j 1))) = _
  unfold den
  rw [if_neg (by omega), if_neg (by omega), if_pos e0]
  congr 1
  refine congrArg₂ ix2 (Fin.ext ?_) (Fin.ext e1)
  exact h.symm
theorem read_l3 : (lM.access l3).read (Elt F) (den I) = den11 I := by
  funext j; rw [eq_ix2 j]
  have h : (j 0).val = 0 := by have : (j 0).val < 1 := (j 0).isLt; omega
  obtain ⟨e0, e1⟩ := den_at l3 3 rfl rfl (fun _ => rfl) (ix2 (j 0) (j 1)) h
  show den I (l3.emb (ix2 (j 0) (j 1))) = _
  unfold den
  rw [if_neg (by omega), if_neg (by omega), if_neg (by omega)]
  congr 1
  refine congrArg₂ ix2 (Fin.ext ?_) (Fin.ext e1)
  exact h.symm

end Num

section Out
variable (I : Dev nD → Inp F) (c : Dev nD)

theorem read_o0 : (oM.access o0).read (Elt F) (outV I c) = out0 I c := by
  funext j; rw [eq_ix3 j]
  have h : (j 0).val = 0 := by have : (j 0).val < 1 := (j 0).isLt; omega
  show outV I c (o0.emb (ix3 (j 0) (j 1) (j 2))) = _
  have e0 : (o0.emb (ix3 (j 0) (j 1) (j 2)) 0).val = 0 := by rw [Rect.emb_apply]; simp; exact h
  have e1 : (o0.emb (ix3 (j 0) (j 1) (j 2)) 1).val = (j 1).val := by rw [Rect.emb_apply]; simp
  have e2 : (o0.emb (ix3 (j 0) (j 1) (j 2)) 2).val = (j 2).val := by rw [Rect.emb_apply]; simp
  unfold outV
  rw [if_pos e0]
  congr 1
  have h' : (0 : Fin 1) = j 0 := Fin.ext h.symm
  rw [h']
  refine congrArg₂ (ix3 (j 0)) (Fin.ext e1) (Fin.ext e2)
theorem read_o1 : (oM.access o1).read (Elt F) (outV I c) = out1 I c := by
  funext j; rw [eq_ix3 j]
  have h : (j 0).val = 0 := by have : (j 0).val < 1 := (j 0).isLt; omega
  show outV I c (o1.emb (ix3 (j 0) (j 1) (j 2))) = _
  have e0 : (o1.emb (ix3 (j 0) (j 1) (j 2)) 0).val = 1 := by rw [Rect.emb_apply]; simp; exact h
  have e1 : (o1.emb (ix3 (j 0) (j 1) (j 2)) 1).val = (j 1).val := by rw [Rect.emb_apply]; simp
  have e2 : (o1.emb (ix3 (j 0) (j 1) (j 2)) 2).val = (j 2).val := by rw [Rect.emb_apply]; simp
  unfold outV
  rw [if_neg (by omega)]
  congr 1
  have h' : (0 : Fin 1) = j 0 := Fin.ext h.symm
  rw [h']
  refine congrArg₂ (ix3 (j 0)) (Fin.ext e1) (Fin.ext e2)
end Out

/-! ## Which elements are written -/

theorem mem_n (off size : Fin 2 → ℕ) (inb) (i : S2048x128.Idx) :
    i ∈ (nM.view.slice (Rect.unit (s := S2048x128) off size inb)).set ↔ (off 0 ≤ (i 0).val ∧ (i 0).val < off 0 + size 0) ∧ (off 1 ≤ (i 1).val ∧ (i 1).val < off 1 + size 1) := by
  rw [show (nM.view.slice (Rect.unit (s := S2048x128) off size inb)).set = (Rect.unit (s := S2048x128) off size inb).set from View.set_slice_whole _ _, Rect.mem_set_unit]
  exact Fin.forall_fin_two
theorem mem_l (off size : Fin 2 → ℕ) (inb) (i : S4x1024.Idx) :
    i ∈ (lM.view.slice (Rect.unit (s := S4x1024) off size inb)).set ↔ (off 0 ≤ (i 0).val ∧ (i 0).val < off 0 + size 0) ∧ (off 1 ≤ (i 1).val ∧ (i 1).val < off 1 + size 1) := by
  rw [show (lM.view.slice (Rect.unit (s := S4x1024) off size inb)).set = (Rect.unit (s := S4x1024) off size inb).set from View.set_slice_whole _ _, Rect.mem_set_unit]
  exact Fin.forall_fin_two
theorem mem_o (off size : Fin 3 → ℕ) (inb) (i : S2x256x768.Idx) :
    i ∈ (oM.view.slice (Rect.unit (s := S2x256x768) off size inb)).set ↔ (off 0 ≤ (i 0).val ∧ (i 0).val < off 0 + size 0) ∧ (off 1 ≤ (i 1).val ∧ (i 1).val < off 1 + size 1)
      ∧ (off 2 ≤ (i 2).val ∧ (i 2).val < off 2 + size 2) := by
  rw [show (oM.view.slice (Rect.unit (s := S2x256x768) off size inb)).set = (Rect.unit (s := S2x256x768) off size inb).set from View.set_slice_whole _ _, Rect.mem_set_unit]
  rw [Fin.forall_fin_succ, Fin.forall_fin_two]
  rfl

abbrev nSet (r : Rect S2048x128) : Finset S2048x128.Idx := (nM.view.slice r).set
abbrev lSet (r : Rect S4x1024) : Finset S4x1024.Idx := (lM.view.slice r).set
abbrev oSet (r : Rect S2x256x768) : Finset S2x256x768.Idx := (oM.view.slice r).set

theorem mem_n00 (i : S2048x128.Idx) : i ∈ nSet n00 ↔ (0 ≤ (i 0).val ∧ (i 0).val < 0 + 1024) ∧ (0 ≤ (i 1).val ∧ (i 1).val < 0 + 64) := mem_n _ _ _ i
theorem mem_n01 (i : S2048x128.Idx) : i ∈ nSet n01 ↔ (0 ≤ (i 0).val ∧ (i 0).val < 0 + 1024) ∧ (64 ≤ (i 1).val ∧ (i 1).val < 64 + 64) := mem_n _ _ _ i
theorem mem_n10 (i : S2048x128.Idx) : i ∈ nSet n10 ↔ (1024 ≤ (i 0).val ∧ (i 0).val < 1024 + 1024) ∧ (0 ≤ (i 1).val ∧ (i 1).val < 0 + 64) := mem_n _ _ _ i
theorem mem_n11 (i : S2048x128.Idx) : i ∈ nSet n11 ↔ (1024 ≤ (i 0).val ∧ (i 0).val < 1024 + 1024) ∧ (64 ≤ (i 1).val ∧ (i 1).val < 64 + 64) := mem_n _ _ _ i
theorem mem_ra (i : S2048x128.Idx) : i ∈ nSet ra ↔ (0 ≤ (i 0).val ∧ (i 0).val < 0 + 688) ∧ (0 ≤ (i 1).val ∧ (i 1).val < 0 + 128) := mem_n _ _ _ i
theorem mem_rb (i : S2048x128.Idx) : i ∈ nSet rb ↔ (688 ≤ (i 0).val ∧ (i 0).val < 688 + 688) ∧ (0 ≤ (i 1).val ∧ (i 1).val < 0 + 128) := mem_n _ _ _ i
theorem mem_rd (i : S2048x128.Idx) : i ∈ nSet rd ↔ (1376 ≤ (i 0).val ∧ (i 0).val < 1376 + 672) ∧ (0 ≤ (i 1).val ∧ (i 1).val < 0 + 128) := mem_n _ _ _ i
theorem mem_l0 (i : S4x1024.Idx) : i ∈ lSet l0 ↔ (0 ≤ (i 0).val ∧ (i 0).val < 0 + 1) ∧ (0 ≤ (i 1).val ∧ (i 1).val < 0 + 1024) := mem_l _ _ _ i
theorem mem_l1 (i : S4x1024.Idx) : i ∈ lSet l1 ↔ (1 ≤ (i 0).val ∧ (i 0).val < 1 + 1) ∧ (0 ≤ (i 1).val ∧ (i 1).val < 0 + 1024) := mem_l _ _ _ i
theorem mem_l2 (i : S4x1024.Idx) : i ∈ lSet l2 ↔ (2 ≤ (i 0).val ∧ (i 0).val < 2 + 1) ∧ (0 ≤ (i 1).val ∧ (i 1).val < 0 + 1024) := mem_l _ _ _ i
theorem mem_l3 (i : S4x1024.Idx) : i ∈ lSet l3 ↔ (3 ≤ (i 0).val ∧ (i 0).val < 3 + 1) ∧ (0 ≤ (i 1).val ∧ (i 1).val < 0 + 1024) := mem_l _ _ _ i
theorem mem_o0 (i : S2x256x768.Idx) : i ∈ oSet o0 ↔ (0 ≤ (i 0).val ∧ (i 0).val < 0 + 1) ∧ (0 ≤ (i 1).val ∧ (i 1).val < 0 + 256) ∧ (0 ≤ (i 2).val ∧ (i 2).val < 0 + 768) := mem_o _ _ _ i
theorem mem_o1 (i : S2x256x768.Idx) : i ∈ oSet o1 ↔ (1 ≤ (i 0).val ∧ (i 0).val < 1 + 1) ∧ (0 ≤ (i 1).val ∧ (i 1).val < 0 + 256) ∧ (0 ≤ (i 2).val ∧ (i 2).val < 0 + 768) := mem_o _ _ _ i

/-- After the first two stores, then after all four. -/
abbrev T2 : Finset S2048x128.Idx := (∅ ∪ nSet n00) ∪ nSet n01
abbrev T4 : Finset S2048x128.Idx := (T2 ∪ nSet n10) ∪ nSet n11
abbrev D2 : Finset S4x1024.Idx := (∅ ∪ lSet l0) ∪ lSet l1
abbrev D3 : Finset S4x1024.Idx := D2 ∪ lSet l2
abbrev D4 : Finset S4x1024.Idx := D3 ∪ lSet l3
abbrev O1 : Finset S2x256x768.Idx := ∅ ∪ oSet o0
abbrev O2 : Finset S2x256x768.Idx := O1 ∪ oSet o1

theorem lt_n0 (i : S2048x128.Idx) : (i 0).val < 2048 := (i 0).isLt
theorem lt_n1 (i : S2048x128.Idx) : (i 1).val < 128 := (i 1).isLt

theorem T2_a : nSet ra ⊆ T2 := by
  intro i hi
  have h1 := lt_n1 i
  simp only [mem_n00, mem_n01, mem_n10, mem_n11, mem_ra, mem_rb, mem_rd, Finset.mem_union, Finset.notMem_empty, false_or, Matrix.cons_val_zero, Matrix.cons_val_one] at hi ⊢
  omega
theorem T4_all (i : S2048x128.Idx) : i ∈ T4 := by
  have h0 := lt_n0 i
  have h1 := lt_n1 i
  simp only [mem_n00, mem_n01, mem_n10, mem_n11, mem_ra, mem_rb, mem_rd, Finset.mem_union, Finset.notMem_empty, false_or, Matrix.cons_val_zero, Matrix.cons_val_one]
  omega
theorem D4_all (i : S4x1024.Idx) : i ∈ D4 := by
  have h0 : (i 0).val < 4 := (i 0).isLt
  have h1 : (i 1).val < 1024 := (i 1).isLt
  simp only [mem_l0, mem_l1, mem_l2, mem_l3, Finset.mem_union, Finset.notMem_empty, false_or, Matrix.cons_val_zero, Matrix.cons_val_one]
  omega
theorem O2_all (i : S2x256x768.Idx) : i ∈ O2 := by
  have h0 : (i 0).val < 2 := (i 0).isLt
  have h1 : (i 1).val < 256 := (i 1).isLt
  have h2 : (i 2).val < 768 := (i 2).isLt
  simp only [mem_o0, mem_o1, Finset.mem_union, Finset.notMem_empty, false_or, Matrix.cons_val_zero, Matrix.cons_val_one, Matrix.cons_val]
  omega

/-- What is left of the numerator buffer without the first part; without the second as well. -/
abbrev R1 : Finset S2048x128.Idx := Finset.univ \ nSet ra
abbrev R2 : Finset S2048x128.Idx := R1 \ nSet rb

theorem R1_n10 : nSet n10 ⊆ R1 := by
  intro i hi
  simp only [mem_n00, mem_n01, mem_n10, mem_n11, mem_ra, mem_rb, mem_rd, Finset.mem_sdiff, Finset.mem_univ, true_and, Matrix.cons_val_zero, Matrix.cons_val_one] at hi ⊢
  omega
theorem R1_n11 : nSet n11 ⊆ R1 := by
  intro i hi
  simp only [mem_n00, mem_n01, mem_n10, mem_n11, mem_ra, mem_rb, mem_rd, Finset.mem_sdiff, Finset.mem_univ, true_and, Matrix.cons_val_zero, Matrix.cons_val_one] at hi ⊢
  omega
theorem R1_b : nSet rb ⊆ R1 := by
  intro i hi
  simp only [mem_n00, mem_n01, mem_n10, mem_n11, mem_ra, mem_rb, mem_rd, Finset.mem_sdiff, Finset.mem_univ, true_and, Matrix.cons_val_zero, Matrix.cons_val_one] at hi ⊢
  omega
theorem R2_d : nSet rd ⊆ R2 := by
  intro i hi
  simp only [mem_n00, mem_n01, mem_n10, mem_n11, mem_ra, mem_rb, mem_rd, Finset.mem_sdiff, Finset.mem_univ, true_and, Matrix.cons_val_zero, Matrix.cons_val_one] at hi ⊢
  omega
theorem ab_disj : Disjoint (nSet ra) (nSet rb) := by
  rw [Finset.disjoint_left]
  intro i h1 h2
  simp only [mem_n00, mem_n01, mem_n10, mem_n11, mem_ra, mem_rb, mem_rd, Matrix.cons_val_zero, Matrix.cons_val_one] at h1 h2
  omega
theorem abd_disj : Disjoint (nSet ra ∪ nSet rb) (nSet rd) := by
  rw [Finset.disjoint_left]
  intro i h1 h2
  simp only [mem_n00, mem_n01, mem_n10, mem_n11, mem_ra, mem_rb, mem_rd, Finset.mem_union, Matrix.cons_val_zero, Matrix.cons_val_one] at h1 h2
  omega
theorem abd_univ : (nSet ra ∪ nSet rb) ∪ nSet rd = Finset.univ := by
  ext i
  have h0 := lt_n0 i
  have h1 := lt_n1 i
  simp only [mem_n00, mem_n01, mem_n10, mem_n11, mem_ra, mem_rb, mem_rd, Finset.mem_union, Finset.mem_univ, iff_true, Matrix.cons_val_zero, Matrix.cons_val_one]
  omega

/-! ## The merging terms -/

section Merge
theorem pay19_eq {x w : Vec F S688x128 .bf16} {w' : Vec F S1x688x128 .bf16} (h : shapeCast S688x128 w' shapeCasts_S1x688x128_S688x128 = w) : k0_pay19 x w' = mrg .a x w := by
  unfold k0_pay19; simp only [shapeCast_self, h]; rfl
theorem pay20_eq {x w : Vec F S688x128 .bf16} {w' : Vec F S1x688x128 .bf16} (h : shapeCast S688x128 w' shapeCasts_S1x688x128_S688x128 = w) : k0_pay20 x w' = mrg .b x w := by
  unfold k0_pay20; simp only [shapeCast_self, h]; rfl
theorem pay21_eq {x w : Vec F S672x128 .bf16} {w' : Vec F S1x672x128 .bf16} (h : shapeCast S672x128 w' shapeCasts_S1x672x128_S672x128 = w) : k0_pay21 x w' = mrg .d x w := by
  unfold k0_pay21; simp only [shapeCast_self, h]; rfl
theorem pay22_eq {x w : Vec F S4x1024 .f32} {w' : Vec F S1x4x1024 .f32} (h : shapeCast S4x1024 w' shapeCasts_S1x4x1024_S4x1024 = w) : k0_pay22 x w' = mrg .l x w := by
  unfold k0_pay22; simp only [shapeCast_self, h]; rfl
theorem pay23_eq {x w : Vec F S688x128 .bf16} {w' : Vec F S1x688x128 .bf16} (h : shapeCast S688x128 w' shapeCasts_S1x688x128_S688x128 = w) : k0_pay23 x w' = mrg .a x w := by
  unfold k0_pay23; simp only [shapeCast_self, h]; rfl
theorem pay24_eq {x w : Vec F S688x128 .bf16} {w' : Vec F S1x688x128 .bf16} (h : shapeCast S688x128 w' shapeCasts_S1x688x128_S688x128 = w) : k0_pay24 x w' = mrg .b x w := by
  unfold k0_pay24; simp only [shapeCast_self, h]; rfl
theorem pay25_eq {x w : Vec F S672x128 .bf16} {w' : Vec F S1x672x128 .bf16} (h : shapeCast S672x128 w' shapeCasts_S1x672x128_S672x128 = w) : k0_pay25 x w' = mrg .d x w := by
  unfold k0_pay25; simp only [h]; rfl
theorem pay26_eq (x : Vec F S672x128 .bf16) : k0_pay26 x = x := by
  unfold k0_pay26; simp only [shapeCast_self]
theorem pay27_eq {x w : Vec F S4x1024 .f32} {w' : Vec F S1x4x1024 .f32} (h : shapeCast S4x1024 w' shapeCasts_S1x4x1024_S4x1024 = w) : k0_pay27 x w' = mrg .l x w := by
  unfold k0_pay27; simp only [h]; rfl
theorem pay28_eq (x : Vec F S4x1024 .f32) : k0_pay28 x = x := by
  unfold k0_pay28; simp only [shapeCast_self]
theorem pay30_eq {x w : Vec F S688x128 .bf16} {w' : Vec F S1x688x128 .bf16} (h : shapeCast S688x128 w' shapeCasts_S1x688x128_S688x128 = w) : k0_pay30 x w' = mrg .a x w := by
  unfold k0_pay30; simp only [shapeCast_self, h]; rfl
theorem pay31_eq {x w : Vec F S688x128 .bf16} {w' : Vec F S1x688x128 .bf16} (h : shapeCast S688x128 w' shapeCasts_S1x688x128_S688x128 = w) : k0_pay31 x w' = mrg .b x w := by
  unfold k0_pay31; simp only [shapeCast_self, h]; rfl
theorem pay32_eq {x w : Vec F S672x128 .bf16} {w' : Vec F S1x672x128 .bf16} (h : shapeCast S672x128 w' shapeCasts_S1x672x128_S672x128 = w) : k0_pay32 x w' = mrg .d x w := by
  unfold k0_pay32; simp only [h]; rfl
theorem pay33_eq (x : Vec F S672x128 .bf16) : k0_pay33 x = x := by
  unfold k0_pay33; simp only [shapeCast_self]
theorem pay34_eq {x w : Vec F S4x1024 .f32} {w' : Vec F S1x4x1024 .f32} (h : shapeCast S4x1024 w' shapeCasts_S1x4x1024_S4x1024 = w) : k0_pay34 x w' = mrg .l x w := by
  unfold k0_pay34; simp only [shapeCast_self, h]; rfl
end Merge

/-! ## Whole buffers -/

/-- What is owned whole, and agrees with `G` everywhere, holds `G`. -/
theorem upto_all (c : Dev nD) {cs : CoreSpace} {s : Shape} {e : EltTy} {m : Memref sig .tc cs s e} {T : Finset (Idx (m.view.loc (c : Thread nD τ)))} {G : Buf (Elt F) (m.view.loc (c : Thread nD τ))}
    (hm : m.view.set = Finset.univ) (hT : ∀ i, i ∈ T) :
    (upto m c Finset.univ T G : sProp 𝕄) ⊢ holds m.view c (m.view.read (Elt F) G) := by
  unfold upto
  iintro ⟨%f, %hf, H⟩
  rw [← hm]
  iapply (holds_intro (v := m.view) (View.read_congr (fun i _ => hf i (hT i)))) $$ H

/-- And to begin with nothing is known. -/
theorem upto_none (c : Dev nD) {cs : CoreSpace} {s : Shape} {e : EltTy} {m : Memref sig .tc cs s e} (G : Buf (Elt F) (m.view.loc (c : Thread nD τ)))
    (hm : m.view.set = Finset.univ) :
    (room m.view c : sProp 𝕄) ⊢ upto m c Finset.univ ∅ G := by
  unfold room upto
  rw [hm]
  iintro ⟨%f, H⟩
  iexists f
  isplitr; · (ipureintro; intro i hi; exact absurd hi (Finset.notMem_empty i))
  iexact H

/-- A store over all of a whole buffer. -/
theorem store_all (c : Dev nD) {cs : CoreSpace} {s : Shape} {e : EltTy} {m : Memref sig .tc cs s e} {off : Fin s.rank → ℕ} {inb : ∀ a, off a + s.size a ≤ s.size a}
    {α : Type} {Q : α → sProp 𝕄} {w' : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {g : PUnit → Prog (TpuEff nD τ sig (Elt F) Λ₀ .tc) α} (h0 : off = fun _ => 0) (w w₂ : s.Idx → Elt F e) (hw : w' = w₂) :
    (holds m.view c w : sProp 𝕄) ⊢ iprop((holds m.view c w₂ -∗ wpc c (g ⟨⟩) Q)
      -∗ wpc c (.op (.store m (Rect.unit off s.size inb) w' Finset.univ hx hm) g) Q) := by
  subst hw
  rw [holds_eq m.view c w]
  iintro ⟨%f, %hf, H⟩ Hk
  iapply (wp_store (defs := defs₀ (F := F)) 𝒱₀ (c : Thread nD τ) none Set.univ (m := m) (r := Rect.unit off s.size inb) (w := w') (Mk := Finset.univ) (hx := hx) (hm := hm) (f := f) (S := m.view.set)
    ((le_of_eq (View.setOn_univ _)).trans (View.set_slice_subset m.view _))) $$ H
  iintro H
  iapply Hk
  iapply (holds_intro (v := m.view) (w := w') ?_) $$ H
  funext x
  have := congrFun (View.read_write_univ (v := m.access (Rect.unit off s.size inb)) f w') x
  rw [← this]
  conv_lhs => rw [← emb0 h0 inb x]
  rfl

/-- The three parts of the numerator buffer put together. -/
theorem join_n (c : Dev nD) (w : (k : Ch) → X F k) :
    iprop(holds (srcM .a).view c (w .a) ∗ holds (srcM .b).view c (w .b) ∗ holds (srcM .d).view c (w .d)) ⊢ (holds nM.view c (glue w) : sProp 𝕄) := by
  rw [holds_eq (srcM .a).view, holds_eq (srcM .b).view, holds_eq (srcM .d).view]
  iintro ⟨⟨%fa, %ha, Ha⟩, ⟨%fb, %hb, Hb⟩, ⟨%fd, %hd, Hd⟩⟩
  ihave H := (pointsTo_join (ℓ := nM.view.loc (c : Thread nD τ)) ab_disj) $$ [Ha Hb]
  · isplitl [Ha]; · iexact Ha
    iexact Hb
  ihave H := (pointsTo_join (ℓ := nM.view.loc (c : Thread nD τ)) abd_disj) $$ [H Hd]
  · isplitl [H]; · iexact H
    iexact Hd
  rw [abd_univ, show (Finset.univ : Finset S2048x128.Idx) = nM.view.set from (View.set_whole cc0_scratch0).symm]
  iapply (holds_intro (v := nM.view) (w := glue w) ?_) $$ H
  funext i
  show ((nSet rd).piecewise fd ((nSet rb).piecewise fb fa)) i = glue w i
  have h0 := lt_n0 i
  have h1 := lt_n1 i
  unfold glue
  by_cases hA : (i 0).val < 688
  · rw [Finset.piecewise_eq_of_notMem _ _ _ (by simp only [mem_n00, mem_n01, mem_n10, mem_n11, mem_ra, mem_rb, mem_rd, Matrix.cons_val_zero, Matrix.cons_val_one]; omega),
      Finset.piecewise_eq_of_notMem _ _ _ (by simp only [mem_n00, mem_n01, mem_n10, mem_n11, mem_ra, mem_rb, mem_rd, Matrix.cons_val_zero, Matrix.cons_val_one]; omega), dif_pos hA, ← ha]
    show fa i = fa (ra.emb (ix2 (⟨(i 0).val, hA⟩ : Fin 688) (⟨(i 1).val, (i 1).isLt⟩ : Fin 128)))
    congr 1
    funext a; apply Fin.ext; rw [Rect.emb_apply]
    match a with
    | ⟨0, _⟩ => simp
    | ⟨1, _⟩ => simp
  · by_cases hB : (i 0).val < 1376
    · rw [Finset.piecewise_eq_of_notMem _ _ _ (by simp only [mem_n00, mem_n01, mem_n10, mem_n11, mem_ra, mem_rb, mem_rd, Matrix.cons_val_zero, Matrix.cons_val_one]; omega),
        Finset.piecewise_eq_of_mem _ _ _ (by simp only [mem_n00, mem_n01, mem_n10, mem_n11, mem_ra, mem_rb, mem_rd, Matrix.cons_val_zero, Matrix.cons_val_one]; omega), dif_neg hA, dif_pos hB, ← hb]
      show fb i = fb (rb.emb (ix2 (⟨(i 0).val - 688, by omega⟩ : Fin 688) (⟨(i 1).val, (i 1).isLt⟩ : Fin 128)))
      congr 1
      funext a; apply Fin.ext; rw [Rect.emb_apply]
      match a with
      | ⟨0, _⟩ => simp; omega
      | ⟨1, _⟩ => simp
    · rw [Finset.piecewise_eq_of_mem _ _ _ (by simp only [mem_n00, mem_n01, mem_n10, mem_n11, mem_ra, mem_rb, mem_rd, Matrix.cons_val_zero, Matrix.cons_val_one]; omega), dif_neg hA, dif_neg hB, ← hd]
      show fd i = fd (rd.emb (ix2 (⟨(i 0).val - 1376, by omega⟩ : Fin 672) (⟨(i 1).val, (i 1).isLt⟩ : Fin 128)))
      congr 1
      funext a; apply Fin.ext; rw [Rect.emb_apply]
      match a with
      | ⟨0, _⟩ => simp; omega
      | ⟨1, _⟩ => simp

end Cert.Exchange

end
-- ==== Proof.BodyB.lean ====
/-
# The kernel up to the first merge

The parts of the program that fill the buffers, cross the barrier and start the first transfers.
-/
module

public import proofs.«01_k».proof.Proof.Reads

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

/-! ## The payments still to come -/

abbrev pa15 : List Py := []
abbrev pa14 : List Py := .tr .l .p2 :: pa15
abbrev pa13 : List Py := .tr .d .p2 :: pa14
abbrev pa12 : List Py := .tr .b .p2 :: pa13
abbrev pa11 : List Py := .tr .a .p2 :: pa12
abbrev pa10 : List Py := .tr .l .p1 :: pa11
abbrev pa9 : List Py := .tr .d .p1 :: pa10
abbrev pa8 : List Py := .tr .b .p1 :: pa9
abbrev pa7 : List Py := .tr .a .p1 :: pa8
abbrev pa6 : List Py := .tr .l .p0 :: pa7
abbrev pa5 : List Py := .tr .d .p0 :: pa6
abbrev pa4 : List Py := .tr .b .p0 :: pa5
abbrev pa3 : List Py := .tr .a .p0 :: pa4
abbrev pa2 : List Py := .sig .m4 :: pa3
abbrev pa1 : List Py := .sig .m3 :: pa2
abbrev pa0 : List Py := .sig .m1 :: pa1

theorem pa3_lev : ∀ x ∈ pa3, 1 < pylev x := by simp [pylev]
theorem pa7_lev0 : ∀ x ∈ pa7, plev .p0 < pylev x := by simp [pylev, plev]
theorem pa8_lev0 : ∀ x ∈ pa8, plev .p0 < pylev x := by simp [pylev, plev]
theorem pa9_lev0 : ∀ x ∈ pa9, plev .p0 < pylev x := by simp [pylev, plev]
theorem pa10_lev0 : ∀ x ∈ pa10, plev .p0 < pylev x := by simp [pylev, plev]
theorem pa11_lev1 : ∀ x ∈ pa11, plev .p1 < pylev x := by simp [pylev, plev]
theorem pa12_lev1 : ∀ x ∈ pa12, plev .p1 < pylev x := by simp [pylev, plev]
theorem pa13_lev1 : ∀ x ∈ pa13, plev .p1 < pylev x := by simp [pylev, plev]
theorem pa14_lev1 : ∀ x ∈ pa14, plev .p1 < pylev x := by simp [pylev, plev]
theorem pa15_lev2 : ∀ x ∈ pa15, plev .p2 < pylev x := by simp [pylev, plev]

/-- What a partner's signal brings completes a chain's place for a transfer. -/
theorem ready_of (j : Leg) (k : Ch) (c : Dev nD) :
    iprop(leg0 k (phOf j k) c ∗ barPay1 j c k) ⊢ (ready (F := F) k (phOf j k) c : sProp 𝕄) := by
  have h : peer k (phOf j k) c = flip j c := by unfold peer; rw [legOf_phOf]
  unfold ready barPay1
  rw [h]

set_option maxHeartbeats 4000000 in
/-- The first two column blocks of numerators and denominators are written. -/
theorem part2_wp (c : Dev nD) (h0 h1 h2 h3 h4 h5 h6 h7 h8 h9 h10 h11 h12) (v2 : BitVec 32) {Q : _ → sProp 𝕄} :
    iprop(recs I κ ∗ levAts L lv
        ∗ upto nM c Finset.univ ∅ (num (I c))
        ∗ upto lM c Finset.univ ∅ (den (I c))
        ∗ holds ktM.view c (I c).kt
        ∗ holds vtM.view c (I c).vt
        ∗ (∀ u, (upto nM c Finset.univ T2 (num (I c))
            ∗ upto lM c Finset.univ D2 (den (I c))
            ∗ holds ktM.view c (I c).kt
            ∗ holds vtM.view c (I c).vt) -∗ Q ⟨SemArray.scalar (sig.barrier 0 rfl), u, 1#32⟩))
      ⊢ wpc c (k0_part2 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 v2 (qry (I c)) k0_pay3 (k0_pay4 (I c).x (I c).wq (blk00 (I c).kt)) (k0_pay5 (I c).x (I c).wq (blk00 (I c).kt) (blk00 (I c).vt))) Q := by
  rw [k0_part2_eq_skeleton]
  unfold k0_part2_skel
  simp only [semSignalWord, semWaitWord, Prog.lift, Prog.bind_op, Prog.bind_ret, Prog.pure_eq_ret]
  iintro ⟨#Hr, #Hl, NB, LB, KT, VT, HQ⟩
  iapply (load_upto c (m := nM) (r := n00) (S := Finset.univ) (T := ∅) (G := (num (I c))) (Finset.subset_univ _)) $$ NB
  iintro %w' NB
  iapply (store_upto c (m := nM) (r := n00) (S := Finset.univ) (T := ∅) (G := (num (I c))) (Finset.subset_univ _) (read_n00 (I c))) $$ NB
  iintro NB
  iapply (load_upto c (m := lM) (r := l0) (S := Finset.univ) (T := ∅) (G := (den (I c))) (Finset.subset_univ _)) $$ LB
  iintro %w' LB
  iapply (store_upto c (m := lM) (r := l0) (S := Finset.univ) (T := ∅) (G := (den (I c))) (Finset.subset_univ _) (read_l0 (I c))) $$ LB
  iintro LB
  iapply (load_whole c (m := ktM) (I c).kt (w' := blk01 (I c).kt) (fun _ => rfl)) $$ KT
  iintro KT
  iapply (load_whole c (m := vtM) (I c).vt (w' := blk01 (I c).vt) (fun _ => rfl)) $$ VT
  iintro VT
  iapply (load_upto c (m := nM) (r := n01) (S := Finset.univ) (T := (∅ ∪ nSet n00)) (G := (num (I c))) (Finset.subset_univ _)) $$ NB
  iintro %w' NB
  iapply (store_upto c (m := nM) (r := n01) (S := Finset.univ) (T := (∅ ∪ nSet n00)) (G := (num (I c))) (Finset.subset_univ _) (read_n01 (I c))) $$ NB
  iintro NB
  iapply (load_upto c (m := lM) (r := l1) (S := Finset.univ) (T := (∅ ∪ lSet l0)) (G := (den (I c))) (Finset.subset_univ _)) $$ LB
  iintro %w' LB
  iapply (store_upto c (m := lM) (r := l1) (S := Finset.univ) (T := (∅ ∪ lSet l0)) (G := (den (I c))) (Finset.subset_univ _) (read_l1 (I c))) $$ LB
  iintro LB
  iapply (ret_step c rfl)
  iapply HQ $$ [NB LB KT VT]
  · isplitl [NB]; · iexact NB
    isplitl [LB]; · iexact LB
    isplitl [KT]; · iexact KT
    iexact VT

set_option maxHeartbeats 4000000 in
/-- The barrier, and the first transfer. -/
theorem part3_wp (c : Dev nD) (h0 h1 h2 h3 h4 h5 h6 h7 h8 h9 h10 h11 h12) (v2 v62 v63 : BitVec 32) {Q : _ → sProp 𝕄} :
    iprop(recs I κ ∗ levAts L lv
        ∗ atPos ER (barCell c) 0 ∅ 0
        ∗ cred (tallyAt (barCell c) () 3)
        ∗ dutyTok ER (barCell (flip .m1 c)) 0 .m1
        ∗ barPay .m1 (flip .m1 c)
        ∗ dutyTok ER (barCell (flip .m3 c)) 0 .m3
        ∗ barPay .m3 (flip .m3 c)
        ∗ dutyTok ER (barCell (flip .m4 c)) 0 .m4
        ∗ barPay .m4 (flip .m4 c)
        ∗ leg0 .a .p0 c
        ∗ leg0 .b .p0 c
        ∗ leg0 .d .p0 c
        ∗ leg0 .l .p0 c
        ∗ leg0 .a .p1 c
        ∗ leg0 .b .p1 c
        ∗ leg0 .d .p1 c
        ∗ leg0 .l .p1 c
        ∗ leg0 .a .p2 c
        ∗ leg0 .b .p2 c
        ∗ leg0 .d .p2 c
        ∗ leg0 .l .p2 c
        ∗ upto nM c Finset.univ T2 (num (I c))
        ∗ owing c pa0
        ∗ holds ktM.view c (I c).kt
        ∗ (∀ u, (atPos ER (barCell c) (0 + 1) ∅ 0
            ∗ fly .a .p0 c
            ∗ ready .b .p0 c
            ∗ ready .d .p0 c
            ∗ ready .l .p0 c
            ∗ ready .a .p1 c
            ∗ ready .b .p1 c
            ∗ ready .d .p1 c
            ∗ ready .l .p1 c
            ∗ ready .a .p2 c
            ∗ ready .b .p2 c
            ∗ ready .d .p2 c
            ∗ ready .l .p2 c
            ∗ upto nM c R1 T2 (num (I c))
            ∗ owing c pa4
            ∗ holds ktM.view c (I c).kt) -∗ Q ⟨u, k0_pay11 (qry (I c)) (blk10 (I c).kt), scl⟩))
      ⊢ wpc c (k0_part3 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 (qry (I c)) (SemArray.scalar (sig.barrier 0 rfl)) v62 v63) Q := by
  rw [k0_part3_eq_skeleton]
  unfold k0_part3_skel
  simp only [semSignalWord, semWaitWord, Prog.lift, Prog.bind_op, Prog.bind_ret, Prog.pure_eq_ret]
  iintro ⟨#Hr, #Hl, HB, HC, Dm1, Pm1, Dm3, Pm3, Dm4, Pm4, Ta0, Tb0, Td0, Tl0, Ta1, Tb1, Td1, Tl1, Ta2, Tb2, Td2, Tl2, NB, HO, KT, HQ⟩
  iapply (signal_step I κ c .m1 (dev1_eq c) pa1) $$ [Dm1 Pm1 HO]
  · isplitr; · iexact Hr
    isplitl [Dm1]; · iexact Dm1
    isplitl [Pm1]; · iexact Pm1
    iexact HO
  iintro HO
  iapply (signal_step I κ c .m3 (dev2_eq c) pa2) $$ [Dm3 Pm3 HO]
  · isplitr; · iexact Hr
    isplitl [Dm3]; · iexact Dm3
    isplitl [Pm3]; · iexact Pm3
    iexact HO
  iintro HO
  iapply (signal_step I κ c .m4 (dev3_eq c) pa3) $$ [Dm4 Pm4 HO]
  · isplitr; · iexact Hr
    isplitl [Dm4]; · iexact Dm4
    isplitl [Pm4]; · iexact Pm4
    iexact HO
  iintro HO
  iapply (barrier_step I κ c pa3 pa3_lev) $$ [HB HC HO]
  · isplitr; · iexact Hr
    isplitr; · iexact Hl
    isplitl [HB]; · iexact HB
    isplitl [HC]; · iexact HC
    iexact HO
  iintro ⟨HB, ⟨B1, B3, B4⟩, HO⟩
  unfold barPay
  icases B1 with ⟨B1a, B1b, B1d, B1l⟩
  ihave Ta0 := (ready_of (F := F) .m1 .a c) $$ [Ta0 B1a]
  · isplitl [Ta0]; · iexact Ta0
    iexact B1a
  ihave Tb2 := (ready_of (F := F) .m1 .b c) $$ [Tb2 B1b]
  · isplitl [Tb2]; · iexact Tb2
    iexact B1b
  ihave Td1 := (ready_of (F := F) .m1 .d c) $$ [Td1 B1d]
  · isplitl [Td1]; · iexact Td1
    iexact B1d
  ihave Tl1 := (ready_of (F := F) .m1 .l c) $$ [Tl1 B1l]
  · isplitl [Tl1]; · iexact Tl1
    iexact B1l
  icases B3 with ⟨B3a, B3b, B3d, B3l⟩
  ihave Ta1 := (ready_of (F := F) .m3 .a c) $$ [Ta1 B3a]
  · isplitl [Ta1]; · iexact Ta1
    iexact B3a
  ihave Tb0 := (ready_of (F := F) .m3 .b c) $$ [Tb0 B3b]
  · isplitl [Tb0]; · iexact Tb0
    iexact B3b
  ihave Td2 := (ready_of (F := F) .m3 .d c) $$ [Td2 B3d]
  · isplitl [Td2]; · iexact Td2
    iexact B3d
  ihave Tl2 := (ready_of (F := F) .m3 .l c) $$ [Tl2 B3l]
  · isplitl [Tl2]; · iexact Tl2
    iexact B3l
  icases B4 with ⟨B4a, B4b, B4d, B4l⟩
  ihave Ta2 := (ready_of (F := F) .m4 .a c) $$ [Ta2 B4a]
  · isplitl [Ta2]; · iexact Ta2
    iexact B4a
  ihave Tb1 := (ready_of (F := F) .m4 .b c) $$ [Tb1 B4b]
  · isplitl [Tb1]; · iexact Tb1
    iexact B4b
  ihave Td0 := (ready_of (F := F) .m4 .d c) $$ [Td0 B4d]
  · isplitl [Td0]; · iexact Td0
    iexact B4d
  ihave Tl0 := (ready_of (F := F) .m4 .l c) $$ [Tl0 B4l]
  · isplitl [Tl0]; · iexact Tl0
    iexact B4l
  ihave NB := (upto_split c (m := nM) (r := ra) (Finset.subset_univ _) T2_a) $$ NB
  icases NB with ⟨Sa, NB⟩
  iapply (send_step I κ c .a .p0 rfl rfl rfl (dev4_eq c) pa4) $$ [Ta0 Sa HO]
  · isplitr; · iexact Hr
    isplitl [Ta0]; · iexact Ta0
    isplitl [Sa]; · iexact Sa
    iexact HO
  iintro ⟨Ta0, HO⟩
  iapply (load_whole c (m := ktM) (I c).kt (w' := blk10 (I c).kt) (fun _ => rfl)) $$ KT
  iintro KT
  iapply (ret_step c rfl)
  iapply HQ $$ [HB Ta0 Tb0 Td0 Tl0 Ta1 Tb1 Td1 Tl1 Ta2 Tb2 Td2 Tl2 NB HO KT]
  · isplitl [HB]; · iexact HB
    isplitl [Ta0]; · iexact Ta0
    isplitl [Tb0]; · iexact Tb0
    isplitl [Td0]; · iexact Td0
    isplitl [Tl0]; · iexact Tl0
    isplitl [Ta1]; · iexact Ta1
    isplitl [Tb1]; · iexact Tb1
    isplitl [Td1]; · iexact Td1
    isplitl [Tl1]; · iexact Tl1
    isplitl [Ta2]; · iexact Ta2
    isplitl [Tb2]; · iexact Tb2
    isplitl [Td2]; · iexact Td2
    isplitl [Tl2]; · iexact Tl2
    isplitl [NB]; · iexact NB
    isplitl [HO]; · iexact HO
    iexact KT

set_option maxHeartbeats 4000000 in
/-- The second batch entry's numerators, and its first denominators. -/
theorem part4_wp (c : Dev nD) (h0 h1 h2 h3 h4 h5 h6 h7 h8 h9 h10 h11 h12) {Q : _ → sProp 𝕄} :
    iprop(recs I κ ∗ levAts L lv
        ∗ upto nM c R1 T2 (num (I c))
        ∗ upto lM c Finset.univ D2 (den (I c))
        ∗ holds ktM.view c (I c).kt
        ∗ holds vtM.view c (I c).vt
        ∗ ((upto nM c R1 T4 (num (I c))
            ∗ upto lM c Finset.univ D3 (den (I c))
            ∗ holds ktM.view c (I c).kt
            ∗ holds vtM.view c (I c).vt) -∗ Q (k0_pay17 (qry (I c)) k0_pay3 (blk11 (I c).kt))))
      ⊢ wpc c (k0_part4 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 (qry (I c)) k0_pay3 (k0_pay11 (qry (I c)) (blk10 (I c).kt)) scl) Q := by
  rw [k0_part4_eq_skeleton]
  unfold k0_part4_skel
  simp only [semSignalWord, semWaitWord, Prog.lift, Prog.bind_op, Prog.bind_ret, Prog.pure_eq_ret]
  iintro ⟨#Hr, #Hl, NB, LB, KT, VT, HQ⟩
  iapply (load_whole c (m := vtM) (I c).vt (w' := blk10 (I c).vt) (fun _ => rfl)) $$ VT
  iintro VT
  iapply (load_upto c (m := nM) (r := n10) (S := R1) (T := T2) (G := (num (I c))) R1_n10) $$ NB
  iintro %w' NB
  iapply (store_upto c (m := nM) (r := n10) (S := R1) (T := T2) (G := (num (I c))) R1_n10 (read_n10 (I c))) $$ NB
  iintro NB
  iapply (load_upto c (m := lM) (r := l2) (S := Finset.univ) (T := D2) (G := (den (I c))) (Finset.subset_univ _)) $$ LB
  iintro %w' LB
  iapply (store_upto c (m := lM) (r := l2) (S := Finset.univ) (T := D2) (G := (den (I c))) (Finset.subset_univ _) (read_l2 (I c))) $$ LB
  iintro LB
  iapply (load_whole c (m := ktM) (I c).kt (w' := blk11 (I c).kt) (fun _ => rfl)) $$ KT
  iintro KT
  iapply (load_whole c (m := vtM) (I c).vt (w' := blk11 (I c).vt) (fun _ => rfl)) $$ VT
  iintro VT
  iapply (load_upto c (m := nM) (r := n11) (S := R1) (T := (T2 ∪ nSet n10)) (G := (num (I c))) R1_n11) $$ NB
  iintro %w' NB
  iapply (store_upto c (m := nM) (r := n11) (S := R1) (T := (T2 ∪ nSet n10)) (G := (num (I c))) R1_n11 (read_n11 (I c))) $$ NB
  iintro NB
  iapply (ret_step c rfl)
  iapply HQ $$ [NB LB KT VT]
  · isplitl [NB]; · iexact NB
    isplitl [LB]; · iexact LB
    isplitl [KT]; · iexact KT
    iexact VT

set_option maxHeartbeats 4000000 in
/-- The last denominators; the other two row parts go out. -/
theorem part5_wp (c : Dev nD) (h0 h1 h2 h3 h4 h5 h6 h7 h8 h9 h10 h11 h12) (v2 : BitVec 32) {Q : _ → sProp 𝕄} :
    iprop(recs I κ ∗ levAts L lv
        ∗ upto nM c R1 T4 (num (I c))
        ∗ upto lM c Finset.univ D3 (den (I c))
        ∗ ready .b .p0 c
        ∗ ready .d .p0 c
        ∗ owing c pa4
        ∗ (∀ u u' u'' u''', (fly .b .p0 c
            ∗ fly .d .p0 c
            ∗ owing c pa6
            ∗ holds (srcM .l).view c (st I .p0 c .l)) -∗ Q ⟨u, u', u'', u''', 0#32⟩))
      ⊢ wpc c (k0_part5 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 (k0_pay17 (qry (I c)) k0_pay3 (blk11 (I c).kt))) Q := by
  rw [k0_part5_eq_skeleton]
  unfold k0_part5_skel
  simp only [semSignalWord, semWaitWord, Prog.lift, Prog.bind_op, Prog.bind_ret, Prog.pure_eq_ret]
  iintro ⟨#Hr, #Hl, NB, LB, Tb0, Td0, HO, HQ⟩
  iapply (load_upto c (m := lM) (r := l3) (S := Finset.univ) (T := D3) (G := (den (I c))) (Finset.subset_univ _)) $$ LB
  iintro %w' LB
  iapply (store_upto c (m := lM) (r := l3) (S := Finset.univ) (T := D3) (G := (den (I c))) (Finset.subset_univ _) (read_l3 (I c))) $$ LB
  iintro LB
  ihave Sl := (upto_all c (m := lM) (View.set_whole cc0_scratch2) D4_all) $$ LB
  ihave NB := (upto_split c (m := nM) (r := rb) R1_b (fun i _ => T4_all i)) $$ NB
  icases NB with ⟨Sb, NB⟩
  ihave NB := (upto_split c (m := nM) (r := rd) R2_d (fun i _ => T4_all i)) $$ NB
  icases NB with ⟨Sd, NB⟩
  iclear NB
  iapply (send_step I κ c .b .p0 rfl rfl rfl (dev5_eq c) pa5) $$ [Tb0 Sb HO]
  · isplitr; · iexact Hr
    isplitl [Tb0]; · iexact Tb0
    isplitl [Sb]; · iexact Sb
    iexact HO
  iintro ⟨Tb0, HO⟩
  iapply (send_step I κ c .d .p0 rfl rfl rfl (dev6_eq c) pa6) $$ [Td0 Sd HO]
  · isplitr; · iexact Hr
    isplitl [Td0]; · iexact Td0
    isplitl [Sd]; · iexact Sd
    iexact HO
  iintro ⟨Td0, HO⟩
  iapply (ret_step c rfl)
  iapply HQ $$ [Tb0 Td0 HO Sl]
  · isplitl [Tb0]; · iexact Tb0
    isplitl [Td0]; · iexact Td0
    isplitl [HO]; · iexact HO
    iexact Sl

end Cert.Exchange

end
-- ==== Proof.BodyC.lean ====
/-
# The merges

The parts of the program from the first merge to the last transfer.
-/
module

public import proofs.«01_k».proof.Proof.BodyB

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

set_option maxHeartbeats 4000000 in
/-- The denominators go out; the first row part's first merge. -/
theorem part6_wp (c : Dev nD) (h0 h1 h2 h3 h4 h5 h6 h7 h8 h9 h10 h11 h12) (v71 v146 v147 : BitVec 32) {Q : _ → sProp 𝕄} :
    iprop(recs I κ ∗ levAts L lv
        ∗ ready .l .p0 c
        ∗ holds (srcM .l).view c (st I .p0 c .l)
        ∗ fly .a .p0 c
        ∗ owing c pa6
        ∗ ((fly .l .p0 c
            ∗ over .a .p0 c
            ∗ owing c pa7
            ∗ holds (srcM .a).view c (st I .p1 c .a)
            ∗ holds (landM .a .p0).view c (st I .p0 (peer .a .p0 c) .a)) -∗ Q ⟨⟩))
      ⊢ wpc c (k0_part6 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v71 v146 v147) Q := by
  rw [k0_part6_eq_skeleton]
  unfold k0_part6_skel
  simp only [semSignalWord, semWaitWord, Prog.lift, Prog.bind_op, Prog.bind_ret, Prog.pure_eq_ret]
  iintro ⟨#Hr, #Hl, Tl0, Sl, Ta0, HO, HQ⟩
  iapply (send_step I κ c .l .p0 rfl rfl rfl (dev7_eq c) pa7) $$ [Tl0 Sl HO]
  · isplitr; · iexact Hr
    isplitl [Tl0]; · iexact Tl0
    isplitl [Sl]; · iexact Sl
    iexact HO
  iintro ⟨Tl0, HO⟩
  iapply (sent_step (b := srcM .a) I κ c .a .p0 rfl rfl pa7) $$ [Ta0 HO]
  · isplitr; · iexact Hr
    isplitr; · iexact Hl
    isplitl [Ta0]; · iexact Ta0
    iexact HO
  iintro ⟨Ta0, Sa, HO⟩
  iapply (got_step (b := landM .a .p0) I κ c .a .p0 rfl (land_amt .a .p0) pa7 pa7_lev0) $$ [Ta0 HO]
  · isplitr; · iexact Hr
    isplitr; · iexact Hl
    isplitl [Ta0]; · iexact Ta0
    iexact HO
  iintro ⟨Ta0, La0, HO⟩
  iapply (load_step c (m := nM) (r := ra) (st I .p0 c .a)) $$ Sa
  iintro Sa
  iapply (load_land_step c (m := (Memref.whole cc0_scratch1)) (r := (Rect.unit (s := S3x2048x128) ![0, 0, 0] S1x688x128.size inb_S3x2048x128_S1x688x128_0_0_0)) (t := S688x128) shapeCasts_S1x688x128_S688x128 (st I .p0 (peer .a .p0 c) .a)) $$ La0
  iintro %w' %hw La0
  iapply (load_step c (m := nM) (r := ra) (st I .p0 c .a)) $$ Sa
  iintro Sa
  iapply (store_step c (m := nM) (r := ra) (st I .p0 c .a) (w₂ := (st I .p1 c .a)) (pay19_eq hw)) $$ Sa
  iintro Sa
  iapply (ret_step c rfl)
  iapply HQ $$ [Tl0 Ta0 HO Sa La0]
  · isplitl [Tl0]; · iexact Tl0
    isplitl [Ta0]; · iexact Ta0
    isplitl [HO]; · iexact HO
    isplitl [Sa]; · iexact Sa
    iexact La0

set_option maxHeartbeats 4000000 in
/-- The first row part goes out again; the second has come. -/
theorem part7_wp (c : Dev nD) (h0 h1 h2 h3 h4 h5 h6 h7 h8 h9 h10 h11 h12) (v2 v125 : BitVec 32) {Q : _ → sProp 𝕄} :
    iprop(recs I κ ∗ levAts L lv
        ∗ ready .a .p1 c
        ∗ holds (srcM .a).view c (st I .p1 c .a)
        ∗ fly .b .p0 c
        ∗ owing c pa7
        ∗ (∀ u, (fly .a .p1 c
            ∗ over .b .p0 c
            ∗ owing c pa8
            ∗ holds (srcM .b).view c (st I .p0 c .b)
            ∗ holds (landM .b .p0).view c (st I .p0 (peer .b .p0 c) .b)) -∗ Q u))
      ⊢ wpc c (k0_part7 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v125) Q := by
  rw [k0_part7_eq_skeleton]
  unfold k0_part7_skel
  simp only [semSignalWord, semWaitWord, Prog.lift, Prog.bind_op, Prog.bind_ret, Prog.pure_eq_ret]
  iintro ⟨#Hr, #Hl, Ta1, Sa, Tb0, HO, HQ⟩
  iapply (send_step I κ c .a .p1 rfl rfl rfl (dev8_eq c) pa8) $$ [Ta1 Sa HO]
  · isplitr; · iexact Hr
    isplitl [Ta1]; · iexact Ta1
    isplitl [Sa]; · iexact Sa
    iexact HO
  iintro ⟨Ta1, HO⟩
  iapply (sent_step (b := srcM .b) I κ c .b .p0 rfl rfl pa8) $$ [Tb0 HO]
  · isplitr; · iexact Hr
    isplitr; · iexact Hl
    isplitl [Tb0]; · iexact Tb0
    iexact HO
  iintro ⟨Tb0, Sb, HO⟩
  iapply (got_step (b := landM .b .p0) I κ c .b .p0 rfl (land_amt .b .p0) pa8 pa8_lev0) $$ [Tb0 HO]
  · isplitr; · iexact Hr
    isplitr; · iexact Hl
    isplitl [Tb0]; · iexact Tb0
    iexact HO
  iintro ⟨Tb0, Lb0, HO⟩
  iapply (ret_step c rfl)
  iapply HQ $$ [Ta1 Tb0 HO Sb Lb0]
  · isplitl [Ta1]; · iexact Ta1
    isplitl [Tb0]; · iexact Tb0
    isplitl [HO]; · iexact HO
    isplitl [Sb]; · iexact Sb
    iexact Lb0

set_option maxHeartbeats 4000000 in
/-- The second row part's first merge; it goes out again. -/
theorem part8_wp (c : Dev nD) (h0 h1 h2 h3 h4 h5 h6 h7 h8 h9 h10 h11 h12) (v2 v126 : BitVec 32) {Q : _ → sProp 𝕄} :
    iprop(recs I κ ∗ levAts L lv
        ∗ ready .b .p1 c
        ∗ holds (srcM .b).view c (st I .p0 c .b)
        ∗ holds (landM .b .p0).view c (st I .p0 (peer .b .p0 c) .b)
        ∗ fly .d .p0 c
        ∗ owing c pa8
        ∗ (∀ u u', (fly .b .p1 c
            ∗ holds (landM .b .p0).view c (st I .p0 (peer .b .p0 c) .b)
            ∗ half .d .p0 c
            ∗ owing c pa9
            ∗ holds (srcM .d).view c (st I .p0 c .d)) -∗ Q ⟨u, u', 0#32⟩))
      ⊢ wpc c (k0_part8 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v126) Q := by
  rw [k0_part8_eq_skeleton]
  unfold k0_part8_skel
  simp only [semSignalWord, semWaitWord, Prog.lift, Prog.bind_op, Prog.bind_ret, Prog.pure_eq_ret]
  iintro ⟨#Hr, #Hl, Tb1, Sb, Lb0, Td0, HO, HQ⟩
  iapply (load_step c (m := nM) (r := rb) (st I .p0 c .b)) $$ Sb
  iintro Sb
  iapply (load_land_step c (m := (Memref.whole cc0_scratch1)) (r := (Rect.unit (s := S3x2048x128) ![0, 688, 0] S1x688x128.size inb_S3x2048x128_S1x688x128_0_688_0)) (t := S688x128) shapeCasts_S1x688x128_S688x128 (st I .p0 (peer .b .p0 c) .b)) $$ Lb0
  iintro %w' %hw Lb0
  iapply (load_step c (m := nM) (r := rb) (st I .p0 c .b)) $$ Sb
  iintro Sb
  iapply (store_step c (m := nM) (r := rb) (st I .p0 c .b) (w₂ := (st I .p1 c .b)) (pay20_eq hw)) $$ Sb
  iintro Sb
  iapply (send_step I κ c .b .p1 rfl rfl rfl (dev9_eq c) pa9) $$ [Tb1 Sb HO]
  · isplitr; · iexact Hr
    isplitl [Tb1]; · iexact Tb1
    isplitl [Sb]; · iexact Sb
    iexact HO
  iintro ⟨Tb1, HO⟩
  iapply (sent_step (b := srcM .d) I κ c .d .p0 rfl rfl pa9) $$ [Td0 HO]
  · isplitr; · iexact Hr
    isplitr; · iexact Hl
    isplitl [Td0]; · iexact Td0
    iexact HO
  iintro ⟨Td0, Sd, HO⟩
  iapply (ret_step c rfl)
  iapply HQ $$ [Tb1 Lb0 Td0 HO Sd]
  · isplitl [Tb1]; · iexact Tb1
    isplitl [Lb0]; · iexact Lb0
    isplitl [Td0]; · iexact Td0
    isplitl [HO]; · iexact HO
    iexact Sd

set_option maxHeartbeats 4000000 in
/-- The third row part's first merge; it goes out again. -/
theorem part9_wp (c : Dev nD) (h0 h1 h2 h3 h4 h5 h6 h7 h8 h9 h10 h11 h12) (v2 v217 v218 : BitVec 32) {Q : _ → sProp 𝕄} :
    iprop(recs I κ ∗ levAts L lv
        ∗ ready .d .p1 c
        ∗ holds (srcM .d).view c (st I .p0 c .d)
        ∗ half .d .p0 c
        ∗ fly .l .p0 c
        ∗ owing c pa9
        ∗ (∀ u, (fly .d .p1 c
            ∗ over .d .p0 c
            ∗ half .l .p0 c
            ∗ owing c pa10
            ∗ holds (landM .d .p0).view c (st I .p0 (peer .d .p0 c) .d)
            ∗ holds (srcM .l).view c (st I .p0 c .l)) -∗ Q u))
      ⊢ wpc c (k0_part9 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v217 v218) Q := by
  rw [k0_part9_eq_skeleton]
  unfold k0_part9_skel
  simp only [semSignalWord, semWaitWord, Prog.lift, Prog.bind_op, Prog.bind_ret, Prog.pure_eq_ret]
  iintro ⟨#Hr, #Hl, Td1, Sd, Td0, Tl0, HO, HQ⟩
  iapply (got_step (b := landM .d .p0) I κ c .d .p0 rfl (land_amt .d .p0) pa9 pa9_lev0) $$ [Td0 HO]
  · isplitr; · iexact Hr
    isplitr; · iexact Hl
    isplitl [Td0]; · iexact Td0
    iexact HO
  iintro ⟨Td0, Ld0, HO⟩
  iapply (load_step c (m := nM) (r := rd) (st I .p0 c .d)) $$ Sd
  iintro Sd
  iapply (load_land_step c (m := (Memref.whole cc0_scratch1)) (r := (Rect.unit (s := S3x2048x128) ![0, 1376, 0] S1x672x128.size inb_S3x2048x128_S1x672x128_0_1376_0)) (t := S672x128) shapeCasts_S1x672x128_S672x128 (st I .p0 (peer .d .p0 c) .d)) $$ Ld0
  iintro %w' %hw Ld0
  iapply (load_step c (m := nM) (r := rd) (st I .p0 c .d)) $$ Sd
  iintro Sd
  iapply (store_step c (m := nM) (r := rd) (st I .p0 c .d) (w₂ := (st I .p1 c .d)) (pay21_eq hw)) $$ Sd
  iintro Sd
  iapply (send_step I κ c .d .p1 rfl rfl rfl (dev10_eq c) pa10) $$ [Td1 Sd HO]
  · isplitr; · iexact Hr
    isplitl [Td1]; · iexact Td1
    isplitl [Sd]; · iexact Sd
    iexact HO
  iintro ⟨Td1, HO⟩
  iapply (sent_step (b := srcM .l) I κ c .l .p0 rfl rfl pa10) $$ [Tl0 HO]
  · isplitr; · iexact Hr
    isplitr; · iexact Hl
    isplitl [Tl0]; · iexact Tl0
    iexact HO
  iintro ⟨Tl0, Sl, HO⟩
  iapply (ret_step c rfl)
  iapply HQ $$ [Td1 Td0 Tl0 HO Ld0 Sl]
  · isplitl [Td1]; · iexact Td1
    isplitl [Td0]; · iexact Td0
    isplitl [Tl0]; · iexact Tl0
    isplitl [HO]; · iexact HO
    isplitl [Ld0]; · iexact Ld0
    iexact Sl

set_option maxHeartbeats 4000000 in
/-- The denominators' first merge; they go out again. -/
theorem part10_wp (c : Dev nD) (h0 h1 h2 h3 h4 h5 h6 h7 h8 h9 h10 h11 h12) (v2 v127 : BitVec 32) {Q : _ → sProp 𝕄} :
    iprop(recs I κ ∗ levAts L lv
        ∗ ready .l .p1 c
        ∗ holds (srcM .l).view c (st I .p0 c .l)
        ∗ half .l .p0 c
        ∗ owing c pa10
        ∗ (∀ u, (fly .l .p1 c
            ∗ over .l .p0 c
            ∗ owing c pa11
            ∗ holds (landM .l .p0).view c (st I .p0 (peer .l .p0 c) .l)) -∗ Q u))
      ⊢ wpc c (k0_part10 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v127) Q := by
  rw [k0_part10_eq_skeleton]
  unfold k0_part10_skel
  simp only [semSignalWord, semWaitWord, Prog.lift, Prog.bind_op, Prog.bind_ret, Prog.pure_eq_ret]
  iintro ⟨#Hr, #Hl, Tl1, Sl, Tl0, HO, HQ⟩
  iapply (got_step (b := landM .l .p0) I κ c .l .p0 rfl (land_amt .l .p0) pa10 pa10_lev0) $$ [Tl0 HO]
  · isplitr; · iexact Hr
    isplitr; · iexact Hl
    isplitl [Tl0]; · iexact Tl0
    iexact HO
  iintro ⟨Tl0, Ll0, HO⟩
  iapply (load_whole c (m := lM) (st I .p0 c .l) (w' := (st I .p0 c .l)) (fun x => congrArg _ (emb0 (s := S4x1024) (by decide) _ x))) $$ Sl
  iintro Sl
  iapply (load_land_step c (m := (Memref.whole cc0_scratch3)) (r := (Rect.unit (s := S3x4x1024) ![0, 0, 0] S1x4x1024.size inb_S3x4x1024_S1x4x1024_0_0_0)) (t := S4x1024) shapeCasts_S1x4x1024_S4x1024 (st I .p0 (peer .l .p0 c) .l)) $$ Ll0
  iintro %w' %hw Ll0
  iapply (load_whole c (m := lM) (st I .p0 c .l) (w' := (st I .p0 c .l)) (fun x => congrArg _ (emb0 (s := S4x1024) (by decide) _ x))) $$ Sl
  iintro Sl
  iapply (store_all c (m := lM) (by decide) (st I .p0 c .l) (st I .p1 c .l) (pay22_eq hw)) $$ Sl
  iintro Sl
  iapply (send_step I κ c .l .p1 rfl rfl rfl (dev11_eq c) pa11) $$ [Tl1 Sl HO]
  · isplitr; · iexact Hr
    isplitl [Tl1]; · iexact Tl1
    isplitl [Sl]; · iexact Sl
    iexact HO
  iintro ⟨Tl1, HO⟩
  iapply (ret_step c rfl)
  iapply HQ $$ [Tl1 Tl0 HO Ll0]
  · isplitl [Tl1]; · iexact Tl1
    isplitl [Tl0]; · iexact Tl0
    isplitl [HO]; · iexact HO
    iexact Ll0

set_option maxHeartbeats 4000000 in
/-- The first row part's second merge; it goes out for the last time. -/
theorem part11_wp (c : Dev nD) (h0 h1 h2 h3 h4 h5 h6 h7 h8 h9 h10 h11 h12) (v2 v173 : BitVec 32) {Q : _ → sProp 𝕄} :
    iprop(recs I κ ∗ levAts L lv
        ∗ ready .a .p2 c
        ∗ fly .a .p1 c
        ∗ owing c pa11
        ∗ (∀ u, (fly .a .p2 c
            ∗ over .a .p1 c
            ∗ owing c pa12
            ∗ holds (landM .a .p1).view c (st I .p1 (peer .a .p1 c) .a)) -∗ Q u))
      ⊢ wpc c (k0_part11 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v173) Q := by
  rw [k0_part11_eq_skeleton]
  unfold k0_part11_skel
  simp only [semSignalWord, semWaitWord, Prog.lift, Prog.bind_op, Prog.bind_ret, Prog.pure_eq_ret]
  iintro ⟨#Hr, #Hl, Ta2, Ta1, HO, HQ⟩
  iapply (sent_step (b := srcM .a) I κ c .a .p1 rfl rfl pa11) $$ [Ta1 HO]
  · isplitr; · iexact Hr
    isplitr; · iexact Hl
    isplitl [Ta1]; · iexact Ta1
    iexact HO
  iintro ⟨Ta1, Sa, HO⟩
  iapply (got_step (b := landM .a .p1) I κ c .a .p1 rfl (land_amt .a .p1) pa11 pa11_lev1) $$ [Ta1 HO]
  · isplitr; · iexact Hr
    isplitr; · iexact Hl
    isplitl [Ta1]; · iexact Ta1
    iexact HO
  iintro ⟨Ta1, La1, HO⟩
  iapply (load_step c (m := nM) (r := ra) (st I .p1 c .a)) $$ Sa
  iintro Sa
  iapply (load_land_step c (m := (Memref.whole cc0_scratch1)) (r := (Rect.unit (s := S3x2048x128) ![1, 0, 0] S1x688x128.size inb_S3x2048x128_S1x688x128_1_0_0)) (t := S688x128) shapeCasts_S1x688x128_S688x128 (st I .p1 (peer .a .p1 c) .a)) $$ La1
  iintro %w' %hw La1
  iapply (load_step c (m := nM) (r := ra) (st I .p1 c .a)) $$ Sa
  iintro Sa
  iapply (store_step c (m := nM) (r := ra) (st I .p1 c .a) (w₂ := (st I .p2 c .a)) (pay23_eq hw)) $$ Sa
  iintro Sa
  iapply (send_step I κ c .a .p2 rfl rfl rfl (dev12_eq c) pa12) $$ [Ta2 Sa HO]
  · isplitr; · iexact Hr
    isplitl [Ta2]; · iexact Ta2
    isplitl [Sa]; · iexact Sa
    iexact HO
  iintro ⟨Ta2, HO⟩
  iapply (ret_step c rfl)
  iapply HQ $$ [Ta2 Ta1 HO La1]
  · isplitl [Ta2]; · iexact Ta2
    isplitl [Ta1]; · iexact Ta1
    isplitl [HO]; · iexact HO
    iexact La1

set_option maxHeartbeats 4000000 in
/-- The second row part's second merge. -/
theorem part12_wp (c : Dev nD) (h0 h1 h2 h3 h4 h5 h6 h7 h8 h9 h10 h11 h12) (v2 v202 : BitVec 32) {Q : _ → sProp 𝕄} :
    iprop(recs I κ ∗ levAts L lv
        ∗ fly .b .p1 c
        ∗ owing c pa12
        ∗ (∀ u u', (over .b .p1 c
            ∗ owing c pa12
            ∗ holds (srcM .b).view c (st I .p2 c .b)
            ∗ holds (landM .b .p1).view c (st I .p1 (peer .b .p1 c) .b)) -∗ Q ⟨u, u', 0#32⟩))
      ⊢ wpc c (k0_part12 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 v2 v202) Q := by
  rw [k0_part12_eq_skeleton]
  unfold k0_part12_skel
  simp only [semSignalWord, semWaitWord, Prog.lift, Prog.bind_op, Prog.bind_ret, Prog.pure_eq_ret]
  iintro ⟨#Hr, #Hl, Tb1, HO, HQ⟩
  iapply (sent_step (b := srcM .b) I κ c .b .p1 rfl rfl pa12) $$ [Tb1 HO]
  · isplitr; · iexact Hr
    isplitr; · iexact Hl
    isplitl [Tb1]; · iexact Tb1
    iexact HO
  iintro ⟨Tb1, Sb, HO⟩
  iapply (got_step (b := landM .b .p1) I κ c .b .p1 rfl (land_amt .b .p1) pa12 pa12_lev1) $$ [Tb1 HO]
  · isplitr; · iexact Hr
    isplitr; · iexact Hl
    isplitl [Tb1]; · iexact Tb1
    iexact HO
  iintro ⟨Tb1, Lb1, HO⟩
  iapply (load_step c (m := nM) (r := rb) (st I .p1 c .b)) $$ Sb
  iintro Sb
  iapply (load_land_step c (m := (Memref.whole cc0_scratch1)) (r := (Rect.unit (s := S3x2048x128) ![1, 688, 0] S1x688x128.size inb_S3x2048x128_S1x688x128_1_688_0)) (t := S688x128) shapeCasts_S1x688x128_S688x128 (st I .p1 (peer .b .p1 c) .b)) $$ Lb1
  iintro %w' %hw Lb1
  iapply (load_step c (m := nM) (r := rb) (st I .p1 c .b)) $$ Sb
  iintro Sb
  iapply (store_step c (m := nM) (r := rb) (st I .p1 c .b) (w₂ := (st I .p2 c .b)) (pay24_eq hw)) $$ Sb
  iintro Sb
  iapply (ret_step c rfl)
  iapply HQ $$ [Tb1 HO Sb Lb1]
  · isplitl [Tb1]; · iexact Tb1
    isplitl [HO]; · iexact HO
    isplitl [Sb]; · iexact Sb
    iexact Lb1

set_option maxHeartbeats 4000000 in
/-- The second row part goes out for the last time; the third is added to what has come. -/
theorem part13_wp (c : Dev nD) (h0 h1 h2 h3 h4 h5 h6 h7 h8 h9 h10 h11 h12) (v231 v316 v317 : BitVec 32) {Q : _ → sProp 𝕄} :
    iprop(recs I κ ∗ levAts L lv
        ∗ ready .b .p2 c
        ∗ holds (srcM .b).view c (st I .p2 c .b)
        ∗ fly .d .p1 c
        ∗ owing c pa12
        ∗ ((fly .b .p2 c
            ∗ over .d .p1 c
            ∗ owing c pa13
            ∗ holds (srcM .d).view c (st I .p1 c .d)
            ∗ holds (landM .d .p1).view c (st I .p1 (peer .d .p1 c) .d)) -∗ Q ⟨st I .p2 c .d, st I .p1 c .d⟩))
      ⊢ wpc c (k0_part13 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v231 v316 v317) Q := by
  rw [k0_part13_eq_skeleton]
  unfold k0_part13_skel
  simp only [semSignalWord, semWaitWord, Prog.lift, Prog.bind_op, Prog.bind_ret, Prog.pure_eq_ret]
  iintro ⟨#Hr, #Hl, Tb2, Sb, Td1, HO, HQ⟩
  iapply (send_step I κ c .b .p2 rfl rfl rfl (dev13_eq c) pa13) $$ [Tb2 Sb HO]
  · isplitr; · iexact Hr
    isplitl [Tb2]; · iexact Tb2
    isplitl [Sb]; · iexact Sb
    iexact HO
  iintro ⟨Tb2, HO⟩
  iapply (sent_step (b := srcM .d) I κ c .d .p1 rfl rfl pa13) $$ [Td1 HO]
  · isplitr; · iexact Hr
    isplitr; · iexact Hl
    isplitl [Td1]; · iexact Td1
    iexact HO
  iintro ⟨Td1, Sd, HO⟩
  iapply (got_step (b := landM .d .p1) I κ c .d .p1 rfl (land_amt .d .p1) pa13 pa13_lev1) $$ [Td1 HO]
  · isplitr; · iexact Hr
    isplitr; · iexact Hl
    isplitl [Td1]; · iexact Td1
    iexact HO
  iintro ⟨Td1, Ld1, HO⟩
  iapply (load_step c (m := nM) (r := rd) (st I .p1 c .d)) $$ Sd
  iintro Sd
  iapply (load_land_step c (m := (Memref.whole cc0_scratch1)) (r := (Rect.unit (s := S3x2048x128) ![1, 1376, 0] S1x672x128.size inb_S3x2048x128_S1x672x128_1_1376_0)) (t := S672x128) shapeCasts_S1x672x128_S672x128 (st I .p1 (peer .d .p1 c) .d)) $$ Ld1
  iintro %w' %hw Ld1
  iapply (load_step c (m := nM) (r := rd) (st I .p1 c .d)) $$ Sd
  iintro Sd
  iapply (ret_step c (b := ⟨st I .p2 c .d, st I .p1 c .d⟩) (by rw [pay25_eq hw]; rfl))
  iapply HQ $$ [Tb2 Td1 HO Sd Ld1]
  · isplitl [Tb2]; · iexact Tb2
    isplitl [Td1]; · iexact Td1
    isplitl [HO]; · iexact HO
    isplitl [Sd]; · iexact Sd
    iexact Ld1

end Cert.Exchange

end
-- ==== Proof.BodyD.lean ====
/-
# The last merges and the result

The parts of the program from the third row part's second sum to the first block of the result.
-/
module

public import proofs.«01_k».proof.Proof.BodyB

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

set_option maxHeartbeats 4000000 in
/-- The third row part's sum is stored and goes out; the denominators are added to what has come. -/
theorem part14_wp (c : Dev nD) (h0 h1 h2 h3 h4 h5 h6 h7 h8 h9 h10 h11 h12) (v2 v258 : BitVec 32) (v341 : Vec F S672x128 .bf16) {Q : _ → sProp 𝕄} :
    iprop(recs I κ ∗ levAts L lv
        ∗ ready .d .p2 c
        ∗ holds (srcM .d).view c (st I .p1 c .d)
        ∗ fly .l .p1 c
        ∗ owing c pa13
        ∗ (∀ u, (fly .d .p2 c
            ∗ over .l .p1 c
            ∗ owing c pa14
            ∗ holds (srcM .l).view c (st I .p1 c .l)
            ∗ holds (landM .l .p1).view c (st I .p1 (peer .l .p1 c) .l)) -∗ Q ⟨u, st I .p2 c .l⟩))
      ⊢ wpc c (k0_part14 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v258 (st I .p2 c .d) v341) Q := by
  rw [k0_part14_eq_skeleton]
  unfold k0_part14_skel
  simp only [semSignalWord, semWaitWord, Prog.lift, Prog.bind_op, Prog.bind_ret, Prog.pure_eq_ret]
  iintro ⟨#Hr, #Hl, Td2, Sd, Tl1, HO, HQ⟩
  iapply (store_step c (m := nM) (r := rd) (st I .p1 c .d) (w₂ := (st I .p2 c .d)) (pay26_eq _)) $$ Sd
  iintro Sd
  iapply (send_step I κ c .d .p2 rfl rfl rfl (dev14_eq c) pa14) $$ [Td2 Sd HO]
  · isplitr; · iexact Hr
    isplitl [Td2]; · iexact Td2
    isplitl [Sd]; · iexact Sd
    iexact HO
  iintro ⟨Td2, HO⟩
  iapply (sent_step (b := srcM .l) I κ c .l .p1 rfl rfl pa14) $$ [Tl1 HO]
  · isplitr; · iexact Hr
    isplitr; · iexact Hl
    isplitl [Tl1]; · iexact Tl1
    iexact HO
  iintro ⟨Tl1, Sl, HO⟩
  iapply (got_step (b := landM .l .p1) I κ c .l .p1 rfl (land_amt .l .p1) pa14 pa14_lev1) $$ [Tl1 HO]
  · isplitr; · iexact Hr
    isplitr; · iexact Hl
    isplitl [Tl1]; · iexact Tl1
    iexact HO
  iintro ⟨Tl1, Ll1, HO⟩
  iapply (load_whole c (m := lM) (st I .p1 c .l) (w' := (st I .p1 c .l)) (fun x => congrArg _ (emb0 (s := S4x1024) (by decide) _ x))) $$ Sl
  iintro Sl
  iapply (load_land_step c (m := (Memref.whole cc0_scratch3)) (r := (Rect.unit (s := S3x4x1024) ![1, 0, 0] S1x4x1024.size inb_S3x4x1024_S1x4x1024_1_0_0)) (t := S4x1024) shapeCasts_S1x4x1024_S4x1024 (st I .p1 (peer .l .p1 c) .l)) $$ Ll1
  iintro %w' %hw Ll1
  iapply (ret_step c (b := ⟨_, st I .p2 c .l⟩) (by rw [pay27_eq hw]; rfl))
  iapply HQ $$ [Td2 Tl1 HO Sl Ll1]
  · isplitl [Td2]; · iexact Td2
    isplitl [Tl1]; · iexact Tl1
    isplitl [HO]; · iexact HO
    isplitl [Sl]; · iexact Sl
    iexact Ll1

set_option maxHeartbeats 4000000 in
/-- The denominators' sum is stored and goes out for the last time. -/
theorem part15_wp (c : Dev nD) (h0 h1 h2 h3 h4 h5 h6 h7 h8 h9 h10 h11 h12) (v2 v286 : BitVec 32) {Q : _ → sProp 𝕄} :
    iprop(recs I κ ∗ levAts L lv
        ∗ ready .l .p2 c
        ∗ holds (srcM .l).view c (st I .p1 c .l)
        ∗ fly .a .p2 c
        ∗ owing c pa14
        ∗ (∀ u, (fly .l .p2 c
            ∗ half .a .p2 c
            ∗ owing c pa15
            ∗ holds (srcM .a).view c (st I .p2 c .a)) -∗ Q ⟨u, k0_pay29⟩))
      ⊢ wpc c (k0_part15 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 c v2 v286 (st I .p2 c .l)) Q := by
  rw [k0_part15_eq_skeleton]
  unfold k0_part15_skel
  simp only [semSignalWord, semWaitWord, Prog.lift, Prog.bind_op, Prog.bind_ret, Prog.pure_eq_ret]
  iintro ⟨#Hr, #Hl, Tl2, Sl, Ta2, HO, HQ⟩
  iapply (load_whole c (m := lM) (st I .p1 c .l) (w' := (st I .p1 c .l)) (fun x => congrArg _ (emb0 (s := S4x1024) (by decide) _ x))) $$ Sl
  iintro Sl
  iapply (store_all c (m := lM) (by decide) (st I .p1 c .l) (st I .p2 c .l) (pay28_eq _)) $$ Sl
  iintro Sl
  iapply (send_step I κ c .l .p2 rfl rfl rfl (dev15_eq c) pa15) $$ [Tl2 Sl HO]
  · isplitr; · iexact Hr
    isplitl [Tl2]; · iexact Tl2
    isplitl [Sl]; · iexact Sl
    iexact HO
  iintro ⟨Tl2, HO⟩
  iapply (sent_step (b := srcM .a) I κ c .a .p2 rfl rfl pa15) $$ [Ta2 HO]
  · isplitr; · iexact Hr
    isplitr; · iexact Hl
    isplitl [Ta2]; · iexact Ta2
    iexact HO
  iintro ⟨Ta2, Sa, HO⟩
  iapply (ret_step c rfl)
  iapply HQ $$ [Tl2 Ta2 HO Sa]
  · isplitl [Tl2]; · iexact Tl2
    isplitl [Ta2]; · iexact Ta2
    isplitl [HO]; · iexact HO
    iexact Sa

set_option maxHeartbeats 4000000 in
/-- The first row part's last merge. -/
theorem part16_wp (c : Dev nD) (h0 h1 h2 h3 h4 h5 h6 h7 h8 h9 h10 h11 h12) (v315 : BitVec 32) {Q : _ → sProp 𝕄} :
    iprop(recs I κ ∗ levAts L lv
        ∗ holds (srcM .a).view c (st I .p2 c .a)
        ∗ half .a .p2 c
        ∗ fly .b .p2 c
        ∗ owing c pa15
        ∗ ((holds (srcM .a).view c (st3 I c .a)
            ∗ over .a .p2 c
            ∗ over .b .p2 c
            ∗ owing c pa15
            ∗ holds (landM .a .p2).view c (st I .p2 (peer .a .p2 c) .a)
            ∗ holds (srcM .b).view c (st I .p2 c .b)
            ∗ holds (landM .b .p2).view c (st I .p2 (peer .b .p2 c) .b)) -∗ Q (st I .p2 c .b)))
      ⊢ wpc c (k0_part16 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 v315) Q := by
  rw [k0_part16_eq_skeleton]
  unfold k0_part16_skel
  simp only [semSignalWord, semWaitWord, Prog.lift, Prog.bind_op, Prog.bind_ret, Prog.pure_eq_ret]
  iintro ⟨#Hr, #Hl, Sa, Ta2, Tb2, HO, HQ⟩
  iapply (got_step (b := landM .a .p2) I κ c .a .p2 rfl (land_amt .a .p2) pa15 pa15_lev2) $$ [Ta2 HO]
  · isplitr; · iexact Hr
    isplitr; · iexact Hl
    isplitl [Ta2]; · iexact Ta2
    iexact HO
  iintro ⟨Ta2, La2, HO⟩
  iapply (load_step c (m := nM) (r := ra) (st I .p2 c .a)) $$ Sa
  iintro Sa
  iapply (load_land_step c (m := (Memref.whole cc0_scratch1)) (r := (Rect.unit (s := S3x2048x128) ![2, 0, 0] S1x688x128.size inb_S3x2048x128_S1x688x128_2_0_0)) (t := S688x128) shapeCasts_S1x688x128_S688x128 (st I .p2 (peer .a .p2 c) .a)) $$ La2
  iintro %w' %hw La2
  iapply (load_step c (m := nM) (r := ra) (st I .p2 c .a)) $$ Sa
  iintro Sa
  iapply (store_step c (m := nM) (r := ra) (st I .p2 c .a) (w₂ := (st3 I c .a)) (pay30_eq hw)) $$ Sa
  iintro Sa
  iapply (sent_step (b := srcM .b) I κ c .b .p2 rfl rfl pa15) $$ [Tb2 HO]
  · isplitr; · iexact Hr
    isplitr; · iexact Hl
    isplitl [Tb2]; · iexact Tb2
    iexact HO
  iintro ⟨Tb2, Sb, HO⟩
  iapply (got_step (b := landM .b .p2) I κ c .b .p2 rfl (land_amt .b .p2) pa15 pa15_lev2) $$ [Tb2 HO]
  · isplitr; · iexact Hr
    isplitr; · iexact Hl
    isplitl [Tb2]; · iexact Tb2
    iexact HO
  iintro ⟨Tb2, Lb2, HO⟩
  iapply (load_step c (m := nM) (r := rb) (st I .p2 c .b)) $$ Sb
  iintro Sb
  iapply (ret_step c rfl)
  iapply HQ $$ [Sa Ta2 Tb2 HO La2 Sb Lb2]
  · isplitl [Sa]; · iexact Sa
    isplitl [Ta2]; · iexact Ta2
    isplitl [Tb2]; · iexact Tb2
    isplitl [HO]; · iexact HO
    isplitl [La2]; · iexact La2
    isplitl [Sb]; · iexact Sb
    iexact Lb2

set_option maxHeartbeats 4000000 in
/-- The second row part's last merge; the third's last sum. -/
theorem part17_wp (c : Dev nD) (h0 h1 h2 h3 h4 h5 h6 h7 h8 h9 h10 h11 h12) (v344 : BitVec 32) {Q : _ → sProp 𝕄} :
    iprop(recs I κ ∗ levAts L lv
        ∗ holds (srcM .b).view c (st I .p2 c .b)
        ∗ holds (landM .b .p2).view c (st I .p2 (peer .b .p2 c) .b)
        ∗ fly .d .p2 c
        ∗ owing c pa15
        ∗ ((holds (srcM .b).view c (st3 I c .b)
            ∗ holds (landM .b .p2).view c (st I .p2 (peer .b .p2 c) .b)
            ∗ over .d .p2 c
            ∗ owing c pa15
            ∗ holds (srcM .d).view c (st I .p2 c .d)
            ∗ holds (landM .d .p2).view c (st I .p2 (peer .d .p2 c) .d)) -∗ Q (st3 I c .d)))
      ⊢ wpc c (k0_part17 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 v344 (st I .p2 c .b)) Q := by
  rw [k0_part17_eq_skeleton]
  unfold k0_part17_skel
  simp only [semSignalWord, semWaitWord, Prog.lift, Prog.bind_op, Prog.bind_ret, Prog.pure_eq_ret]
  iintro ⟨#Hr, #Hl, Sb, Lb2, Td2, HO, HQ⟩
  iapply (load_land_step c (m := (Memref.whole cc0_scratch1)) (r := (Rect.unit (s := S3x2048x128) ![2, 688, 0] S1x688x128.size inb_S3x2048x128_S1x688x128_2_688_0)) (t := S688x128) shapeCasts_S1x688x128_S688x128 (st I .p2 (peer .b .p2 c) .b)) $$ Lb2
  iintro %w' %hw Lb2
  iapply (load_step c (m := nM) (r := rb) (st I .p2 c .b)) $$ Sb
  iintro Sb
  iapply (store_step c (m := nM) (r := rb) (st I .p2 c .b) (w₂ := (st3 I c .b)) (pay31_eq hw)) $$ Sb
  iintro Sb
  iapply (sent_step (b := srcM .d) I κ c .d .p2 rfl rfl pa15) $$ [Td2 HO]
  · isplitr; · iexact Hr
    isplitr; · iexact Hl
    isplitl [Td2]; · iexact Td2
    iexact HO
  iintro ⟨Td2, Sd, HO⟩
  iapply (got_step (b := landM .d .p2) I κ c .d .p2 rfl (land_amt .d .p2) pa15 pa15_lev2) $$ [Td2 HO]
  · isplitr; · iexact Hr
    isplitr; · iexact Hl
    isplitl [Td2]; · iexact Td2
    iexact HO
  iintro ⟨Td2, Ld2, HO⟩
  iapply (load_step c (m := nM) (r := rd) (st I .p2 c .d)) $$ Sd
  iintro Sd
  iapply (load_land_step c (m := (Memref.whole cc0_scratch1)) (r := (Rect.unit (s := S3x2048x128) ![2, 1376, 0] S1x672x128.size inb_S3x2048x128_S1x672x128_2_1376_0)) (t := S672x128) shapeCasts_S1x672x128_S672x128 (st I .p2 (peer .d .p2 c) .d)) $$ Ld2
  iintro %w' %hw Ld2
  iapply (load_step c (m := nM) (r := rd) (st I .p2 c .d)) $$ Sd
  iintro Sd
  iapply (ret_step c (b := st3 I c .d) (by rw [pay32_eq hw]; rfl))
  iapply HQ $$ [Sb Lb2 Td2 HO Sd Ld2]
  · isplitl [Sb]; · iexact Sb
    isplitl [Lb2]; · iexact Lb2
    isplitl [Td2]; · iexact Td2
    isplitl [HO]; · iexact HO
    isplitl [Sd]; · iexact Sd
    iexact Ld2

set_option maxHeartbeats 4000000 in
/-- The third row part's sum is stored, the denominators' last merge; both are read whole. -/
theorem part18_wp (c : Dev nD) (h0 h1 h2 h3 h4 h5 h6 h7 h8 h9 h10 h11 h12) (v371 : BitVec 32) {Q : _ → sProp 𝕄} :
    iprop(recs I κ ∗ levAts L lv
        ∗ holds (srcM .a).view c (st3 I c .a)
        ∗ holds (srcM .b).view c (st3 I c .b)
        ∗ holds (srcM .d).view c (st I .p2 c .d)
        ∗ fly .l .p2 c
        ∗ locFly .o c
        ∗ owing c pa15
        ∗ ((over .l .p2 c
            ∗ atPos ER (locCell .o c) (0 + 1) ∅ 0
            ∗ owing c pa15
            ∗ holds (srcM .l).view c (st3 I c .l)
            ∗ holds (landM .l .p2).view c (st I .p2 (peer .l .p2 c) .l)
            ∗ holds nM.view c (glue (st3 I c))
            ∗ holds woM.view c (I c).wo
            ∗ holds oHb.view c (I c).wo) -∗ Q ⟨rnum I c, rden I c, k0_pay37 k0_pay29 (glue (st3 I c)) (st3 I c .l : Vec F S4x1024 .f32), k0_pay38 k0_pay29 (glue (st3 I c)) (st3 I c .l : Vec F S4x1024 .f32)⟩))
      ⊢ wpc c (k0_part18 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 v371 k0_pay29 (st3 I c .d)) Q := by
  rw [k0_part18_eq_skeleton]
  unfold k0_part18_skel
  simp only [semSignalWord, semWaitWord, Prog.lift, Prog.bind_op, Prog.bind_ret, Prog.pure_eq_ret]
  iintro ⟨#Hr, #Hl, Sa, Sb, Sd, Tl2, WF, HO, HQ⟩
  iapply (store_step c (m := nM) (r := rd) (st I .p2 c .d) (w₂ := (st3 I c .d)) (pay33_eq _)) $$ Sd
  iintro Sd
  iapply (sent_step (b := srcM .l) I κ c .l .p2 rfl rfl pa15) $$ [Tl2 HO]
  · isplitr; · iexact Hr
    isplitr; · iexact Hl
    isplitl [Tl2]; · iexact Tl2
    iexact HO
  iintro ⟨Tl2, Sl, HO⟩
  iapply (got_step (b := landM .l .p2) I κ c .l .p2 rfl (land_amt .l .p2) pa15 pa15_lev2) $$ [Tl2 HO]
  · isplitr; · iexact Hr
    isplitr; · iexact Hl
    isplitl [Tl2]; · iexact Tl2
    iexact HO
  iintro ⟨Tl2, Ll2, HO⟩
  iapply (load_whole c (m := lM) (st I .p2 c .l) (w' := (st I .p2 c .l)) (fun x => congrArg _ (emb0 (s := S4x1024) (by decide) _ x))) $$ Sl
  iintro Sl
  iapply (load_land_step c (m := (Memref.whole cc0_scratch3)) (r := (Rect.unit (s := S3x4x1024) ![2, 0, 0] S1x4x1024.size inb_S3x4x1024_S1x4x1024_2_0_0)) (t := S4x1024) shapeCasts_S1x4x1024_S4x1024 (st I .p2 (peer .l .p2 c) .l)) $$ Ll2
  iintro %w' %hw Ll2
  iapply (load_whole c (m := lM) (st I .p2 c .l) (w' := (st I .p2 c .l)) (fun x => congrArg _ (emb0 (s := S4x1024) (by decide) _ x))) $$ Sl
  iintro Sl
  iapply (store_all c (m := lM) (by decide) (st I .p2 c .l) (st3 I c .l) (pay34_eq hw)) $$ Sl
  iintro Sl
  ihave SN := (join_n c (st3 I c)) $$ [Sa Sb Sd]
  · isplitl [Sa]; · iexact Sa
    isplitl [Sb]; · iexact Sb
    iexact Sd
  iapply (load_whole c (m := nM) (glue (st3 I c)) (w' := glue (st3 I c)) (fun x => congrArg _ (emb0 (s := S2048x128) (by decide) _ x))) $$ SN
  iintro SN
  iapply (load_whole c (m := lM) (st3 I c .l) (w' := (st3 I c .l)) (fun x => congrArg _ (emb0 (s := S4x1024) (by decide) _ x))) $$ Sl
  iintro Sl
  iapply (copied_step I κ c .o rfl rfl pa15) $$ [WF HO]
  · isplitr; · iexact Hr
    isplitr; · iexact Hl
    isplitl [WF]; · iexact WF
    iexact HO
  iintro ⟨WF, WP, HO⟩
  unfold locPay
  icases WP with ⟨Wo, Wh⟩
  iapply (ret_step c (b := ⟨rnum I c, rden I c, k0_pay37 k0_pay29 (glue (st3 I c)) (st3 I c .l : Vec F S4x1024 .f32), k0_pay38 k0_pay29 (glue (st3 I c)) (st3 I c .l : Vec F S4x1024 .f32)⟩) rfl)
  iapply HQ $$ [Tl2 WF HO Sl Ll2 SN Wo Wh]
  · isplitl [Tl2]; · iexact Tl2
    isplitl [WF]; · iexact WF
    isplitl [HO]; · iexact HO
    isplitl [Sl]; · iexact Sl
    isplitl [Ll2]; · iexact Ll2
    isplitl [SN]; · iexact SN
    isplitl [Wo]; · iexact Wo
    iexact Wh

set_option maxHeartbeats 4000000 in
/-- The first batch entry's result is written. -/
theorem part19_wp (c : Dev nD) (h0 h1 h2 h3 h4 h5 h6 h7 h8 h9 h10 h11 h12) {Q : _ → sProp 𝕄} :
    iprop(recs I κ ∗ levAts L lv
        ∗ holds woM.view c (I c).wo
        ∗ upto oM c Finset.univ ∅ (outV I c)
        ∗ ((holds woM.view c (I c).wo
            ∗ upto oM c Finset.univ O1 (outV I c)) -∗ Q ⟨k0_pay40 (rnum I c) (rden I c), k0_pay41 (rnum I c) (rden I c), k0_pay42 (rnum I c) (rden I c), k0_pay43 (rnum I c) (rden I c), k0_pay44 (rnum I c) (rden I c), k0_pay45 (rnum I c), k0_pay46 (rden I c)⟩))
      ⊢ wpc c (k0_part19 (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12 (rnum I c) (rden I c) (k0_pay37 k0_pay29 (glue (st3 I c)) (st3 I c .l : Vec F S4x1024 .f32)) (k0_pay38 k0_pay29 (glue (st3 I c)) (st3 I c .l : Vec F S4x1024 .f32))) Q := by
  rw [k0_part19_eq_skeleton]
  unfold k0_part19_skel
  simp only [semSignalWord, semWaitWord, Prog.lift, Prog.bind_op, Prog.bind_ret, Prog.pure_eq_ret]
  iintro ⟨#Hr, #Hl, Wo, OB, HQ⟩
  iapply (load_whole c (m := woM) (I c).wo (w' := (I c).wo) (fun x => congrArg _ (emb0 (s := S512x768) (by decide) _ x))) $$ Wo
  iintro Wo
  iapply (load_upto c (m := oM) (r := o0) (S := Finset.univ) (T := ∅) (G := (outV I c)) (Finset.subset_univ _)) $$ OB
  iintro %w' OB
  iapply (store_upto c (m := oM) (r := o0) (S := Finset.univ) (T := ∅) (G := (outV I c)) (Finset.subset_univ _) (read_o0 I c)) $$ OB
  iintro OB
  iapply (ret_step c rfl)
  iapply HQ $$ [Wo OB]
  · isplitl [Wo]; · iexact Wo
    iexact OB

end Cert.Exchange

end
-- ==== Proof.Body.lean ====
/-
# The kernel on one device

Its parts, one after the other.
-/
module

public import proofs.«01_k».proof.Proof.BodyC
public import proofs.«01_k».proof.Proof.BodyD

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

/-- A program run before another. -/
theorem bind_step (c : Dev nD) {α β : Type} {p : Prog (TpuEff nD τ sig (Elt F) Λ₀ .tc) α} {k : α → Prog (TpuEff nD τ sig (Elt F) Λ₀ .tc) β} {Q : β → sProp 𝕄} :
    (wpc c p (fun a => wpc c (k a) Q) : sProp 𝕄) ⊢ wpc c (p >>= k) Q :=
  Entails.of_eq (wp_bind _ _ _ p k Q).symm

/-- What device `c` holds when its kernel starts, beside the records and the levels. -/
def bodyPre (c : Dev nD) : sProp 𝕄 :=
  iprop(loc0 .k c
    ∗ loc0 .v c
    ∗ loc0 .o c
    ∗ holds kHb.view c (I c).kt
    ∗ holds vHb.view c (I c).vt
    ∗ holds oHb.view c (I c).wo
    ∗ room ktM.view c
    ∗ room vtM.view c
    ∗ room woM.view c
    ∗ inp0 I c
    ∗ owing c pays
    ∗ room nM.view c
    ∗ room lM.view c
    ∗ room oM.view c
    ∗ atPos ER (barCell c) 0 ∅ 0
    ∗ cred (tallyAt (barCell c) () 3)
    ∗ dutyTok ER (barCell (flip .m1 c)) 0 .m1
    ∗ barPay .m1 (flip .m1 c)
    ∗ dutyTok ER (barCell (flip .m3 c)) 0 .m3
    ∗ barPay .m3 (flip .m3 c)
    ∗ dutyTok ER (barCell (flip .m4 c)) 0 .m4
    ∗ barPay .m4 (flip .m4 c)
    ∗ leg0 .a .p0 c
    ∗ leg0 .b .p0 c
    ∗ leg0 .d .p0 c
    ∗ leg0 .l .p0 c
    ∗ leg0 .a .p1 c
    ∗ leg0 .b .p1 c
    ∗ leg0 .d .p1 c
    ∗ leg0 .l .p1 c
    ∗ leg0 .a .p2 c
    ∗ leg0 .b .p2 c
    ∗ leg0 .d .p2 c
    ∗ leg0 .l .p2 c)

/-- What it holds when the kernel has run: its result, its inputs, its buffers, every transfer over. -/
def bodyPost (c : Dev nD) : sProp 𝕄 :=
  iprop(atPos ER (locCell .k c) (0 + 1) ∅ 0
    ∗ atPos ER (locCell .v c) (0 + 1) ∅ 0
    ∗ holds kHb.view c (I c).kt
    ∗ holds vHb.view c (I c).vt
    ∗ inp0 I c
    ∗ atPos ER (barCell c) (0 + 1) ∅ 0
    ∗ holds ktM.view c (I c).kt
    ∗ holds vtM.view c (I c).vt
    ∗ over .a .p0 c
    ∗ holds (landM .a .p0).view c (st I .p0 (peer .a .p0 c) .a)
    ∗ over .b .p0 c
    ∗ holds (landM .b .p0).view c (st I .p0 (peer .b .p0 c) .b)
    ∗ over .d .p0 c
    ∗ holds (landM .d .p0).view c (st I .p0 (peer .d .p0 c) .d)
    ∗ over .l .p0 c
    ∗ holds (landM .l .p0).view c (st I .p0 (peer .l .p0 c) .l)
    ∗ over .a .p1 c
    ∗ holds (landM .a .p1).view c (st I .p1 (peer .a .p1 c) .a)
    ∗ over .b .p1 c
    ∗ holds (landM .b .p1).view c (st I .p1 (peer .b .p1 c) .b)
    ∗ over .d .p1 c
    ∗ holds (landM .d .p1).view c (st I .p1 (peer .d .p1 c) .d)
    ∗ over .l .p1 c
    ∗ holds (landM .l .p1).view c (st I .p1 (peer .l .p1 c) .l)
    ∗ over .a .p2 c
    ∗ over .b .p2 c
    ∗ holds (landM .a .p2).view c (st I .p2 (peer .a .p2 c) .a)
    ∗ holds (landM .b .p2).view c (st I .p2 (peer .b .p2 c) .b)
    ∗ over .d .p2 c
    ∗ holds (landM .d .p2).view c (st I .p2 (peer .d .p2 c) .d)
    ∗ over .l .p2 c
    ∗ atPos ER (locCell .o c) (0 + 1) ∅ 0
    ∗ owing c pa15
    ∗ holds (srcM .l).view c (st3 I c .l)
    ∗ holds (landM .l .p2).view c (st I .p2 (peer .l .p2 c) .l)
    ∗ holds nM.view c (glue (st3 I c))
    ∗ holds oHb.view c (I c).wo
    ∗ holds woM.view c (I c).wo
    ∗ holds oM.view c (outV I c))

set_option maxHeartbeats 16000000 in
/-- The kernel, on one device. -/
theorem body_wp (c : Dev nD) (h0 h1 h2 h3 h4 h5 h6 h7 h8 h9 h10 h11 h12) {Q : _ → sProp 𝕄} :
    iprop(recs I κ ∗ levAts L lv ∗ bodyPre I c ∗ (bodyPost I c -∗ Q ⟨⟩))
      ⊢ wpc c (cc0_body (F := F) xM h0 wqM h1 oHb h2 kHb h3 vHb h4 oM h5 nM h6 (Memref.whole cc0_scratch1) h7 lM h8 (Memref.whole cc0_scratch3) h9 ktM h10 vtM h11 woM h12
          cc0_scratch7 cc0_scratch8 cc0_scratch9 cc0_scratch10 cc0_scratch11 cc0_scratch12) Q := by
  rw [cc0_body_eq_skeleton]
  unfold cc0_body_skel bodyPre bodyPost
  iintro ⟨#Hr, #Hl, ⟨Lk, Lv, Lo, Hk, Hv, Ho, Rk, Rv, Rw, Hin, HO, NM, LM, OM, HB, HC, Dm1, Pm1, Dm3, Pm3, Dm4, Pm4, Ta0, Tb0, Td0, Tl0, Ta1, Tb1, Td1, Tl1, Ta2, Tb2, Td2, Tl2⟩, HQ⟩
  ihave NB := (upto_none c (m := nM) (num (I c)) (View.set_whole cc0_scratch0)) $$ NM
  ihave LB := (upto_none c (m := lM) (den (I c)) (View.set_whole cc0_scratch2)) $$ LM
  ihave OB := (upto_none c (m := oM) (outV I c) (View.set_whole cc0_stg2_0)) $$ OM
  iapply (bind_step c)
  iapply (part1_wp I κ c h0 h1 h2 h3 h4 h5 h6 h7 h8 h9 h10 h11 h12) $$ [Lk Lv Lo Hk Hv Ho Rk Rv Rw Hin HO HB HC Dm1 Pm1 Dm3 Pm3 Dm4 Pm4 Ta0 Tb0 Td0 Tl0 Ta1 Tb1 Td1 Tl1 Ta2 Tb2 Td2 Tl2 NB LB OB HQ]
  isplitr; · iexact Hr
  isplitr; · iexact Hl
  isplitl [Lk]; · iexact Lk
  isplitl [Lv]; · iexact Lv
  isplitl [Lo]; · iexact Lo
  isplitl [Hk]; · iexact Hk
  isplitl [Hv]; · iexact Hv
  isplitl [Ho]; · iexact Ho
  isplitl [Rk]; · iexact Rk
  isplitl [Rv]; · iexact Rv
  isplitl [Rw]; · iexact Rw
  isplitl [Hin]; · iexact Hin
  isplitl [HO]; · iexact HO
  iintro %v2 ⟨Lk, Lv, WF, Hk, Hv, KT, VT, Hin, HO⟩
  dsimp only
  iapply (bind_step c)
  iapply (part2_wp I κ c h0 h1 h2 h3 h4 h5 h6 h7 h8 h9 h10 h11 h12 _) $$ [NB LB KT VT HB HC Dm1 Pm1 Dm3 Pm3 Dm4 Pm4 Ta0 Tb0 Td0 Tl0 Ta1 Tb1 Td1 Tl1 Ta2 Tb2 Td2 Tl2 OB Lk Lv WF Hk Hv Hin HO HQ]
  isplitr; · iexact Hr
  isplitr; · iexact Hl
  isplitl [NB]; · iexact NB
  isplitl [LB]; · iexact LB
  isplitl [KT]; · iexact KT
  isplitl [VT]; · iexact VT
  iintro %w20 ⟨NB, LB, KT, VT⟩
  dsimp only
  iapply (bind_step c)
  iapply (part3_wp I κ c h0 h1 h2 h3 h4 h5 h6 h7 h8 h9 h10 h11 h12 _ _ _) $$ [HB HC Dm1 Pm1 Dm3 Pm3 Dm4 Pm4 Ta0 Tb0 Td0 Tl0 Ta1 Tb1 Td1 Tl1 Ta2 Tb2 Td2 Tl2 NB HO KT OB Lk Lv WF Hk Hv Hin LB VT HQ]
  isplitr; · iexact Hr
  isplitr; · iexact Hl
  isplitl [HB]; · iexact HB
  isplitl [HC]; · iexact HC
  isplitl [Dm1]; · iexact Dm1
  isplitl [Pm1]; · iexact Pm1
  isplitl [Dm3]; · iexact Dm3
  isplitl [Pm3]; · iexact Pm3
  isplitl [Dm4]; · iexact Dm4
  isplitl [Pm4]; · iexact Pm4
  isplitl [Ta0]; · iexact Ta0
  isplitl [Tb0]; · iexact Tb0
  isplitl [Td0]; · iexact Td0
  isplitl [Tl0]; · iexact Tl0
  isplitl [Ta1]; · iexact Ta1
  isplitl [Tb1]; · iexact Tb1
  isplitl [Td1]; · iexact Td1
  isplitl [Tl1]; · iexact Tl1
  isplitl [Ta2]; · iexact Ta2
  isplitl [Tb2]; · iexact Tb2
  isplitl [Td2]; · iexact Td2
  isplitl [Tl2]; · iexact Tl2
  isplitl [NB]; · iexact NB
  isplitl [HO]; · iexact HO
  isplitl [KT]; · iexact KT
  iintro %w30 ⟨HB, Ta0, Tb0, Td0, Tl0, Ta1, Tb1, Td1, Tl1, Ta2, Tb2, Td2, Tl2, NB, HO, KT⟩
  dsimp only
  iapply (bind_step c)
  iapply (part4_wp I κ c h0 h1 h2 h3 h4 h5 h6 h7 h8 h9 h10 h11 h12) $$ [NB LB KT VT OB Lk Lv WF Hk Hv Hin HB Ta0 Tb0 Td0 Tl0 Ta1 Tb1 Td1 Tl1 Ta2 Tb2 Td2 Tl2 HO HQ]
  isplitr; · iexact Hr
  isplitr; · iexact Hl
  isplitl [NB]; · iexact NB
  isplitl [LB]; · iexact LB
  isplitl [KT]; · iexact KT
  isplitl [VT]; · iexact VT
  iintro ⟨NB, LB, KT, VT⟩
  dsimp only
  iapply (bind_step c)
  iapply (part5_wp I κ c h0 h1 h2 h3 h4 h5 h6 h7 h8 h9 h10 h11 h12 _) $$ [NB LB Tb0 Td0 HO OB Lk Lv WF Hk Hv Hin HB Ta0 Tl0 Ta1 Tb1 Td1 Tl1 Ta2 Tb2 Td2 Tl2 KT VT HQ]
  isplitr; · iexact Hr
  isplitr; · iexact Hl
  isplitl [NB]; · iexact NB
  isplitl [LB]; · iexact LB
  isplitl [Tb0]; · iexact Tb0
  isplitl [Td0]; · iexact Td0
  isplitl [HO]; · iexact HO
  iintro %w50 %w51 %w52 %w53 ⟨Tb0, Td0, HO, Sl⟩
  dsimp only
  iapply (bind_step c)
  iapply (part6_wp I κ c h0 h1 h2 h3 h4 h5 h6 h7 h8 h9 h10 h11 h12 _ _ _) $$ [Tl0 Sl Ta0 HO OB Lk Lv WF Hk Hv Hin HB Ta1 Tb1 Td1 Tl1 Ta2 Tb2 Td2 Tl2 KT VT Tb0 Td0 HQ]
  isplitr; · iexact Hr
  isplitr; · iexact Hl
  isplitl [Tl0]; · iexact Tl0
  isplitl [Sl]; · iexact Sl
  isplitl [Ta0]; · iexact Ta0
  isplitl [HO]; · iexact HO
  iintro ⟨Tl0, Ta0, HO, Sa, La0⟩
  dsimp only
  iapply (bind_step c)
  iapply (part7_wp I κ c h0 h1 h2 h3 h4 h5 h6 h7 h8 h9 h10 h11 h12 _ _) $$ [Ta1 Sa Tb0 HO OB Lk Lv WF Hk Hv Hin HB Tb1 Td1 Tl1 Ta2 Tb2 Td2 Tl2 KT VT Td0 Tl0 Ta0 La0 HQ]
  isplitr; · iexact Hr
  isplitr; · iexact Hl
  isplitl [Ta1]; · iexact Ta1
  isplitl [Sa]; · iexact Sa
  isplitl [Tb0]; · iexact Tb0
  isplitl [HO]; · iexact HO
  iintro %w70 ⟨Ta1, Tb0, HO, Sb, Lb0⟩
  dsimp only
  iapply (bind_step c)
  iapply (part8_wp I κ c h0 h1 h2 h3 h4 h5 h6 h7 h8 h9 h10 h11 h12 _ _) $$ [Tb1 Sb Lb0 Td0 HO OB Lk Lv WF Hk Hv Hin HB Td1 Tl1 Ta2 Tb2 Td2 Tl2 KT VT Tl0 Ta0 La0 Ta1 Tb0 HQ]
  isplitr; · iexact Hr
  isplitr; · iexact Hl
  isplitl [Tb1]; · iexact Tb1
  isplitl [Sb]; · iexact Sb
  isplitl [Lb0]; · iexact Lb0
  isplitl [Td0]; · iexact Td0
  isplitl [HO]; · iexact HO
  iintro %w80 %w81 ⟨Tb1, Lb0, Td0, HO, Sd⟩
  dsimp only
  iapply (bind_step c)
  iapply (part9_wp I κ c h0 h1 h2 h3 h4 h5 h6 h7 h8 h9 h10 h11 h12 _ _ _) $$ [Td1 Sd Td0 Tl0 HO OB Lk Lv WF Hk Hv Hin HB Tl1 Ta2 Tb2 Td2 Tl2 KT VT Ta0 La0 Ta1 Tb0 Tb1 Lb0 HQ]
  isplitr; · iexact Hr
  isplitr; · iexact Hl
  isplitl [Td1]; · iexact Td1
  isplitl [Sd]; · iexact Sd
  isplitl [Td0]; · iexact Td0
  isplitl [Tl0]; · iexact Tl0
  isplitl [HO]; · iexact HO
  iintro %w90 ⟨Td1, Td0, Tl0, HO, Ld0, Sl⟩
  dsimp only
  iapply (bind_step c)
  iapply (part10_wp I κ c h0 h1 h2 h3 h4 h5 h6 h7 h8 h9 h10 h11 h12 _ _) $$ [Tl1 Sl Tl0 HO OB Lk Lv WF Hk Hv Hin HB Ta2 Tb2 Td2 Tl2 KT VT Ta0 La0 Ta1 Tb0 Tb1 Lb0 Td1 Td0 Ld0 HQ]
  isplitr; · iexact Hr
  isplitr; · iexact Hl
  isplitl [Tl1]; · iexact Tl1
  isplitl [Sl]; · iexact Sl
  isplitl [Tl0]; · iexact Tl0
  isplitl [HO]; · iexact HO
  iintro %w100 ⟨Tl1, Tl0, HO, Ll0⟩
  dsimp only
  iapply (bind_step c)
  iapply (part11_wp I κ c h0 h1 h2 h3 h4 h5 h6 h7 h8 h9 h10 h11 h12 _ _) $$ [Ta2 Ta1 HO OB Lk Lv WF Hk Hv Hin HB Tb2 Td2 Tl2 KT VT Ta0 La0 Tb0 Tb1 Lb0 Td1 Td0 Ld0 Tl1 Tl0 Ll0 HQ]
  isplitr; · iexact Hr
  isplitr; · iexact Hl
  isplitl [Ta2]; · iexact Ta2
  isplitl [Ta1]; · iexact Ta1
  isplitl [HO]; · iexact HO
  iintro %w110 ⟨Ta2, Ta1, HO, La1⟩
  dsimp only
  iapply (bind_step c)
  iapply (part12_wp I κ c h0 h1 h2 h3 h4 h5 h6 h7 h8 h9 h10 h11 h12 _ _) $$ [Tb1 HO OB Lk Lv WF Hk Hv Hin HB Tb2 Td2 Tl2 KT VT Ta0 La0 Tb0 Lb0 Td1 Td0 Ld0 Tl1 Tl0 Ll0 Ta2 Ta1 La1 HQ]
  isplitr; · iexact Hr
  isplitr; · iexact Hl
  isplitl [Tb1]; · iexact Tb1
  isplitl [HO]; · iexact HO
  iintro %w120 %w121 ⟨Tb1, HO, Sb, Lb1⟩
  dsimp only
  iapply (bind_step c)
  iapply (part13_wp I κ c h0 h1 h2 h3 h4 h5 h6 h7 h8 h9 h10 h11 h12 _ _ _) $$ [Tb2 Sb Td1 HO OB Lk Lv WF Hk Hv Hin HB Td2 Tl2 KT VT Ta0 La0 Tb0 Lb0 Td0 Ld0 Tl1 Tl0 Ll0 Ta2 Ta1 La1 Tb1 Lb1 HQ]
  isplitr; · iexact Hr
  isplitr; · iexact Hl
  isplitl [Tb2]; · iexact Tb2
  isplitl [Sb]; · iexact Sb
  isplitl [Td1]; · iexact Td1
  isplitl [HO]; · iexact HO
  iintro ⟨Tb2, Td1, HO, Sd, Ld1⟩
  dsimp only
  iapply (bind_step c)
  iapply (part14_wp I κ c h0 h1 h2 h3 h4 h5 h6 h7 h8 h9 h10 h11 h12 _ _ _) $$ [Td2 Sd Tl1 HO OB Lk Lv WF Hk Hv Hin HB Tl2 KT VT Ta0 La0 Tb0 Lb0 Td0 Ld0 Tl0 Ll0 Ta2 Ta1 La1 Tb1 Lb1 Tb2 Td1 Ld1 HQ]
  isplitr; · iexact Hr
  isplitr; · iexact Hl
  isplitl [Td2]; · iexact Td2
  isplitl [Sd]; · iexact Sd
  isplitl [Tl1]; · iexact Tl1
  isplitl [HO]; · iexact HO
  iintro %w140 ⟨Td2, Tl1, HO, Sl, Ll1⟩
  dsimp only
  iapply (bind_step c)
  iapply (part15_wp I κ c h0 h1 h2 h3 h4 h5 h6 h7 h8 h9 h10 h11 h12 _ _) $$ [Tl2 Sl Ta2 HO OB Lk Lv WF Hk Hv Hin HB KT VT Ta0 La0 Tb0 Lb0 Td0 Ld0 Tl0 Ll0 Ta1 La1 Tb1 Lb1 Tb2 Td1 Ld1 Td2 Tl1 Ll1 HQ]
  isplitr; · iexact Hr
  isplitr; · iexact Hl
  isplitl [Tl2]; · iexact Tl2
  isplitl [Sl]; · iexact Sl
  isplitl [Ta2]; · iexact Ta2
  isplitl [HO]; · iexact HO
  iintro %w150 ⟨Tl2, Ta2, HO, Sa⟩
  dsimp only
  iapply (bind_step c)
  iapply (part16_wp I κ c h0 h1 h2 h3 h4 h5 h6 h7 h8 h9 h10 h11 h12 _) $$ [Sa Ta2 Tb2 HO OB Lk Lv WF Hk Hv Hin HB KT VT Ta0 La0 Tb0 Lb0 Td0 Ld0 Tl0 Ll0 Ta1 La1 Tb1 Lb1 Td1 Ld1 Td2 Tl1 Ll1 Tl2 HQ]
  isplitr; · iexact Hr
  isplitr; · iexact Hl
  isplitl [Sa]; · iexact Sa
  isplitl [Ta2]; · iexact Ta2
  isplitl [Tb2]; · iexact Tb2
  isplitl [HO]; · iexact HO
  iintro ⟨Sa, Ta2, Tb2, HO, La2, Sb, Lb2⟩
  dsimp only
  iapply (bind_step c)
  iapply (part17_wp I κ c h0 h1 h2 h3 h4 h5 h6 h7 h8 h9 h10 h11 h12 _) $$ [Sb Lb2 Td2 HO OB Lk Lv WF Hk Hv Hin HB KT VT Ta0 La0 Tb0 Lb0 Td0 Ld0 Tl0 Ll0 Ta1 La1 Tb1 Lb1 Td1 Ld1 Tl1 Ll1 Tl2 Sa Ta2 Tb2 La2 HQ]
  isplitr; · iexact Hr
  isplitr; · iexact Hl
  isplitl [Sb]; · iexact Sb
  isplitl [Lb2]; · iexact Lb2
  isplitl [Td2]; · iexact Td2
  isplitl [HO]; · iexact HO
  iintro ⟨Sb, Lb2, Td2, HO, Sd, Ld2⟩
  dsimp only
  iapply (bind_step c)
  iapply (part18_wp I κ c h0 h1 h2 h3 h4 h5 h6 h7 h8 h9 h10 h11 h12 _) $$ [Sa Sb Sd Tl2 WF HO OB Lk Lv Hk Hv Hin HB KT VT Ta0 La0 Tb0 Lb0 Td0 Ld0 Tl0 Ll0 Ta1 La1 Tb1 Lb1 Td1 Ld1 Tl1 Ll1 Ta2 Tb2 La2 Lb2 Td2 Ld2 HQ]
  isplitr; · iexact Hr
  isplitr; · iexact Hl
  isplitl [Sa]; · iexact Sa
  isplitl [Sb]; · iexact Sb
  isplitl [Sd]; · iexact Sd
  isplitl [Tl2]; · iexact Tl2
  isplitl [WF]; · iexact WF
  isplitl [HO]; · iexact HO
  iintro ⟨Tl2, WF, HO, Sl, Ll2, SN, Wo, Wh⟩
  dsimp only
  iapply (bind_step c)
  iapply (part19_wp I κ c h0 h1 h2 h3 h4 h5 h6 h7 h8 h9 h10 h11 h12) $$ [Wo OB Lk Lv Hk Hv Hin HB KT VT Ta0 La0 Tb0 Lb0 Td0 Ld0 Tl0 Ll0 Ta1 La1 Tb1 Lb1 Td1 Ld1 Tl1 Ll1 Ta2 Tb2 La2 Lb2 Td2 Ld2 Tl2 WF HO Sl Ll2 SN Wh HQ]
  isplitr; · iexact Hr
  isplitr; · iexact Hl
  isplitl [Wo]; · iexact Wo
  isplitl [OB]; · iexact OB
  iintro ⟨Wo, OB⟩
  dsimp only
  simp only [Prog.lift, Prog.bind_op, Prog.bind_ret, Prog.pure_eq_ret]
  iapply (load_whole c (m := woM) (I c).wo (w' := (I c).wo) (fun x => congrArg _ (emb0 (s := S512x768) (by decide) _ x))) $$ Wo
  iintro Wo
  iapply (load_upto c (m := oM) (r := o1) (S := Finset.univ) (T := O1) (G := (outV I c)) (Finset.subset_univ _)) $$ OB
  iintro %w' OB
  iapply (store_upto c (m := oM) (r := o1) (S := Finset.univ) (T := O1) (G := (outV I c)) (Finset.subset_univ _) (read_o1 I c)) $$ OB
  iintro OB
  ihave OB := (upto_all c (m := oM) (View.set_whole cc0_stg2_0) O2_all) $$ OB
  iapply (ret_step c rfl)
  iapply HQ $$ [Lk Lv Hk Hv Hin HB KT VT Ta0 La0 Tb0 Lb0 Td0 Ld0 Tl0 Ll0 Ta1 La1 Tb1 Lb1 Td1 Ld1 Tl1 Ll1 Ta2 Tb2 La2 Lb2 Td2 Ld2 Tl2 WF HO Sl Ll2 SN Wh Wo OB]
  isplitl [Lk]; · iexact Lk
  isplitl [Lv]; · iexact Lv
  isplitl [Hk]; · iexact Hk
  isplitl [Hv]; · iexact Hv
  isplitl [Hin]; · iexact Hin
  isplitl [HB]; · iexact HB
  isplitl [KT]; · iexact KT
  isplitl [VT]; · iexact VT
  isplitl [Ta0]; · iexact Ta0
  isplitl [La0]; · iexact La0
  isplitl [Tb0]; · iexact Tb0
  isplitl [Lb0]; · iexact Lb0
  isplitl [Td0]; · iexact Td0
  isplitl [Ld0]; · iexact Ld0
  isplitl [Tl0]; · iexact Tl0
  isplitl [Ll0]; · iexact Ll0
  isplitl [Ta1]; · iexact Ta1
  isplitl [La1]; · iexact La1
  isplitl [Tb1]; · iexact Tb1
  isplitl [Lb1]; · iexact Lb1
  isplitl [Td1]; · iexact Td1
  isplitl [Ld1]; · iexact Ld1
  isplitl [Tl1]; · iexact Tl1
  isplitl [Ll1]; · iexact Ll1
  isplitl [Ta2]; · iexact Ta2
  isplitl [Tb2]; · iexact Tb2
  isplitl [La2]; · iexact La2
  isplitl [Lb2]; · iexact Lb2
  isplitl [Td2]; · iexact Td2
  isplitl [Ld2]; · iexact Ld2
  isplitl [Tl2]; · iexact Tl2
  isplitl [WF]; · iexact WF
  isplitl [HO]; · iexact HO
  isplitl [Sl]; · iexact Sl
  isplitl [Ll2]; · iexact Ll2
  isplitl [SN]; · iexact SN
  isplitl [Wh]; · iexact Wh
  isplitl [Wo]; · iexact Wo
  iexact OB

end Cert.Exchange

end
-- ==== Proof.Rooms.lean ====
/-
# What a device brings to its kernel, gathered

The two landing buffers are cut into the landing places, one per chain and phase, and put back together afterwards;
the places are the payments to the three partners' barriers. What the launch and the opened cells give a device is
regrouped into the states of its transfers.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ)

/-! ## Boxes of a landing buffer -/

/-- Elements of an array, at contents not named. -/
def anyOn (ℓ : Loc nD τ sig) (S : Finset ℓ.ty.Idx) : sProp 𝕄 := iprop(∃ f : Buf (Elt F) ℓ, ℓ ↦[S]{fullShare} f)

theorem anyOn_join {ℓ : Loc nD τ sig} {S T : Finset ℓ.ty.Idx} (h : Disjoint S T) :
    iprop(anyOn (F := F) ℓ S ∗ anyOn ℓ T) ⊢ (anyOn ℓ (S ∪ T) : sProp 𝕄) := by
  unfold anyOn
  iintro ⟨⟨%f, Hf⟩, ⟨%g, Hg⟩⟩
  iexists _
  iapply (pointsTo_join (ℓ := ℓ) h)
  isplitl [Hf]; · iexact Hf
  iexact Hg

theorem anyOn_cut {ℓ : Loc nD τ sig} {A : Type} (S : Finset A) (K : A → Finset ℓ.ty.Idx)
    (h : ∀ t ∈ S, ∀ t' ∈ S, t ≠ t' → Disjoint (K t) (K t')) :
    (anyOn (F := F) ℓ (S.biUnion K) : sProp 𝕄) ⊢ bigSep S fun t => anyOn ℓ (K t) := by
  have hm (f : Buf (Elt F) ℓ) (t : A) : (ℓ ↦[K t]{fullShare} f : sProp 𝕄) ⊢ iprop(∃ f : Buf (Elt F) ℓ, ℓ ↦[K t]{fullShare} f) := by
    iintro H
    iexists f
    iexact H
  unfold anyOn
  iintro ⟨%f, H⟩
  ihave H := (Entails.of_eq (pointsTo_biUnion (ℓ := ℓ) (q := fullShare) (f := f) S K h)) $$ H
  iapply (show bigSep S (fun t => (ℓ ↦[K t]{fullShare} f : sProp 𝕄)) ⊢ bigSep S (fun t => iprop(∃ f : Buf (Elt F) ℓ, ℓ ↦[K t]{fullShare} f)) from
    bigSep_mono fun t _ => hm f t) $$ H

theorem anyOn_glue {ℓ : Loc nD τ sig} {A : Type} [DecidableEq A] (f₀ : Buf (Elt F) ℓ) (S : Finset A) (K : A → Finset ℓ.ty.Idx)
    (h : ∀ t ∈ S, ∀ t' ∈ S, t ≠ t' → Disjoint (K t) (K t')) :
    bigSep S (fun t => anyOn (F := F) ℓ (K t)) ⊢ (anyOn ℓ (S.biUnion K) : sProp 𝕄) := by
  induction S using Finset.induction_on with
  | empty =>
    rw [Finset.biUnion_empty]
    unfold anyOn
    iintro -
    iexists f₀
    rw [pointsTo_empty]
    iempintro
  | insert t S ht ih =>
    rw [Finset.biUnion_insert, bigSep_insert ht]
    refine (BIClass.sep_mono (Entails.refl _) (ih fun a ha b hb => h a (Finset.mem_insert_of_mem ha) b (Finset.mem_insert_of_mem hb))).trans (anyOn_join ?_)
    exact (Finset.disjoint_biUnion_right _ _ _).mpr fun t' ht' =>
      h t (Finset.mem_insert_self t S) t' (Finset.mem_insert_of_mem ht') fun e => ht (e ▸ ht')

abbrev phn : Ph → ℕ | .p0 => 0 | .p1 => 1 | .p2 => 2
abbrev lo : Ch → ℕ | .a => 0 | .b => 688 | .d => 1376 | .l => 0
abbrev hi : Ch → ℕ | .a => 688 | .b => 1376 | .d => 2048 | .l => 2048

/-- A chain's rows of a phase's page of the first landing buffer. -/
def box1 (x : Ch × Ph) : Finset S3x2048x128.Idx :=
  Finset.univ.filter fun i => (i 0).val = phn x.2 ∧ lo x.1 ≤ (i 1).val ∧ (i 1).val < hi x.1
/-- A phase's page of the second. -/
def box3 (p : Ph) : Finset S3x4x1024.Idx := Finset.univ.filter fun i => (i 0).val = phn p

theorem mem_box1 (x : Ch × Ph) (i : S3x2048x128.Idx) : i ∈ box1 x ↔ (i 0).val = phn x.2 ∧ lo x.1 ≤ (i 1).val ∧ (i 1).val < hi x.1 := by
  unfold box1; rw [Finset.mem_filter]; exact ⟨fun h => h.2, fun h => ⟨Finset.mem_univ _, h⟩⟩
theorem mem_box3 (p : Ph) (i : S3x4x1024.Idx) : i ∈ box3 p ↔ (i 0).val = phn p := by
  unfold box3; rw [Finset.mem_filter]; exact ⟨fun h => h.2, fun h => ⟨Finset.mem_univ _, h⟩⟩

/-- The chains that land in the first buffer, in each phase. -/
abbrev places1 : Finset (Ch × Ph) := ({.a, .b, .d} : Finset Ch) ×ˢ Finset.univ

theorem phn_inj {p q : Ph} (h : phn p = phn q) : p = q := by revert p q; decide

theorem box1_disj : ∀ t ∈ places1, ∀ t' ∈ places1, t ≠ t' → Disjoint (box1 t) (box1 t') := by
  rintro ⟨k, p⟩ hk ⟨k', p'⟩ hk' hne
  rw [Finset.disjoint_left]
  intro i h1 h2
  rw [mem_box1] at h1 h2
  have hp : p = p' := phn_inj (h1.1.symm.trans h2.1)
  subst hp
  have h1 := h1.2
  have h2 := h2.2
  have hk : k ∈ ({.a, .b, .d} : Finset Ch) := (Finset.mem_product.mp hk).1
  have hk' : k' ∈ ({.a, .b, .d} : Finset Ch) := (Finset.mem_product.mp hk').1
  cases k <;> cases k' <;> first
    | exact hne rfl
    | exact absurd hk (by decide)
    | exact absurd hk' (by decide)
    | (dsimp only [lo, hi] at h1 h2; omega)
theorem box1_univ : places1.biUnion box1 = Finset.univ := by
  ext i
  rw [Finset.mem_biUnion]
  refine ⟨fun _ => Finset.mem_univ _, fun _ => ?_⟩
  have h0 : (i 0).val < 3 := (i 0).isLt
  have h1 : (i 1).val < 2048 := (i 1).isLt
  obtain ⟨p, hp⟩ : ∃ p : Ph, (i 0).val = phn p := by
    have : (i 0).val = 0 ∨ (i 0).val = 1 ∨ (i 0).val = 2 := by omega
    rcases this with h | h | h
    · exact ⟨.p0, h⟩
    · exact ⟨.p1, h⟩
    · exact ⟨.p2, h⟩
  by_cases ha : (i 1).val < 688
  · exact ⟨(.a, p), Finset.mem_product.mpr ⟨(by decide : Ch.a ∈ ({.a, .b, .d} : Finset Ch)), Finset.mem_univ _⟩, (mem_box1 _ _).mpr ⟨hp, Nat.zero_le _, ha⟩⟩
  by_cases hb : (i 1).val < 1376
  · exact ⟨(.b, p), Finset.mem_product.mpr ⟨(by decide : Ch.b ∈ ({.a, .b, .d} : Finset Ch)), Finset.mem_univ _⟩, (mem_box1 _ _).mpr ⟨hp, Nat.le_of_not_lt ha, hb⟩⟩
  · exact ⟨(.d, p), Finset.mem_product.mpr ⟨(by decide : Ch.d ∈ ({.a, .b, .d} : Finset Ch)), Finset.mem_univ _⟩, (mem_box1 _ _).mpr ⟨hp, Nat.le_of_not_lt hb, h1⟩⟩
theorem box3_disj : ∀ t ∈ (Finset.univ : Finset Ph), ∀ t' ∈ (Finset.univ : Finset Ph), t ≠ t' → Disjoint (box3 t) (box3 t') := by
  intro p _ p' _ hne
  rw [Finset.disjoint_left]
  intro i h1 h2
  rw [mem_box3] at h1 h2
  exact hne (phn_inj (h1.symm.trans h2))
theorem box3_univ : (Finset.univ : Finset Ph).biUnion box3 = Finset.univ := by
  ext i
  rw [Finset.mem_biUnion]
  refine ⟨fun _ => Finset.mem_univ _, fun _ => ?_⟩
  have h0 : (i 0).val < 3 := (i 0).isLt
  have : (i 0).val = 0 ∨ (i 0).val = 1 ∨ (i 0).val = 2 := by omega
  rcases this with h | h | h
  · exact ⟨.p0, Finset.mem_univ _, (mem_box3 _ _).mpr h⟩
  · exact ⟨.p1, Finset.mem_univ _, (mem_box3 _ _).mpr h⟩
  · exact ⟨.p2, Finset.mem_univ _, (mem_box3 _ _).mpr h⟩

theorem set_land1 (r : Rect S3x2048x128) (hs : ∀ a, r.stride a = 1) {t : Shape} (hq) (k : Ch) (p : Ph)
    (h : ∀ i : S3x2048x128.Idx, i ∈ r.set ↔ (i 0).val = phn p ∧ lo k ≤ (i 1).val ∧ (i 1).val < hi k) :
    ((((Memref.whole cc0_scratch1).slice r hs).squeeze t hq).view.set : Finset S3x2048x128.Idx) = box1 (k, p) := by
  rw [show ((((Memref.whole cc0_scratch1).slice r hs).squeeze t hq).view.set) = r.set from (View.set_reshape _ _).trans (View.set_slice_whole _ _)]
  ext i
  rw [mem_box1]
  exact h i
theorem set_land3 (r : Rect S3x4x1024) (hs : ∀ a, r.stride a = 1) {t : Shape} (hq) (p : Ph)
    (h : ∀ i : S3x4x1024.Idx, i ∈ r.set ↔ (i 0).val = phn p) :
    ((((Memref.whole cc0_scratch3).slice r hs).squeeze t hq).view.set : Finset S3x4x1024.Idx) = box3 p := by
  rw [show ((((Memref.whole cc0_scratch3).slice r hs).squeeze t hq).view.set) = r.set from (View.set_reshape _ _).trans (View.set_slice_whole _ _)]
  ext i
  rw [mem_box3]
  exact h i

theorem unit1 (o0 o1 n : ℕ) (inb) (i : S3x2048x128.Idx) :
    i ∈ (Rect.unit (s := S3x2048x128) ![o0, o1, 0] ![1, n, 128] inb).set ↔ (i 0).val = o0 ∧ o1 ≤ (i 1).val ∧ (i 1).val < o1 + n := by
  rw [Rect.mem_set_unit]
  have h2 : (i 2).val < 128 := (i 2).isLt
  constructor
  · intro h
    have e0 := h 0
    have e1 := h 1
    simp only [Matrix.cons_val_zero, Matrix.cons_val_one] at e0 e1
    omega
  · intro h a
    match a with
    | ⟨0, _⟩ => show o0 ≤ (i 0).val ∧ (i 0).val < o0 + 1; omega
    | ⟨1, _⟩ => show o1 ≤ (i 1).val ∧ (i 1).val < o1 + n; omega
    | ⟨2, _⟩ => show 0 ≤ (i 2).val ∧ (i 2).val < 0 + 128; omega
theorem unit3 (o0 : ℕ) (inb) (i : S3x4x1024.Idx) :
    i ∈ (Rect.unit (s := S3x4x1024) ![o0, 0, 0] ![1, 4, 1024] inb).set ↔ (i 0).val = o0 := by
  rw [Rect.mem_set_unit]
  have h1 : (i 1).val < 4 := (i 1).isLt
  have h2 : (i 2).val < 1024 := (i 2).isLt
  constructor
  · intro h
    have e0 := h 0
    simp only [Matrix.cons_val_zero] at e0
    omega
  · intro h a
    match a with
    | ⟨0, _⟩ => show o0 ≤ (i 0).val ∧ (i 0).val < o0 + 1; omega
    | ⟨1, _⟩ => show 0 ≤ (i 1).val ∧ (i 1).val < 0 + 4; omega
    | ⟨2, _⟩ => show 0 ≤ (i 2).val ∧ (i 2).val < 0 + 1024; omega

abbrev loc1 (c : Dev nD) : Loc nD τ sig := (View.whole (sig := sig) (κ := .tc) cc0_scratch1).loc (c : Thread nD τ)
abbrev loc3 (c : Dev nD) : Loc nD τ sig := (View.whole (sig := sig) (κ := .tc) cc0_scratch3).loc (c : Thread nD τ)

theorem room_a0 (c : Dev nD) : (room (landM .a .p0).view c : sProp 𝕄) = anyOn (loc1 c) (box1 (.a, .p0)) :=
  congrArg (anyOn (F := F) (loc1 c)) (set_land1 (Rect.unit (s := S3x2048x128) ![0, 0, 0] S1x688x128.size inb_S3x2048x128_S1x688x128_0_0_0) (fun _ => rfl) squeezes_S1x688x128_S688x128 .a .p0 (unit1 0 0 688 inb_S3x2048x128_S1x688x128_0_0_0))
theorem room_a1 (c : Dev nD) : (room (landM .a .p1).view c : sProp 𝕄) = anyOn (loc1 c) (box1 (.a, .p1)) :=
  congrArg (anyOn (F := F) (loc1 c)) (set_land1 (Rect.unit (s := S3x2048x128) ![1, 0, 0] S1x688x128.size inb_S3x2048x128_S1x688x128_1_0_0) (fun _ => rfl) squeezes_S1x688x128_S688x128 .a .p1 (unit1 1 0 688 inb_S3x2048x128_S1x688x128_1_0_0))
theorem room_a2 (c : Dev nD) : (room (landM .a .p2).view c : sProp 𝕄) = anyOn (loc1 c) (box1 (.a, .p2)) :=
  congrArg (anyOn (F := F) (loc1 c)) (set_land1 (Rect.unit (s := S3x2048x128) ![2, 0, 0] S1x688x128.size inb_S3x2048x128_S1x688x128_2_0_0) (fun _ => rfl) squeezes_S1x688x128_S688x128 .a .p2 (unit1 2 0 688 inb_S3x2048x128_S1x688x128_2_0_0))
theorem room_b0 (c : Dev nD) : (room (landM .b .p0).view c : sProp 𝕄) = anyOn (loc1 c) (box1 (.b, .p0)) :=
  congrArg (anyOn (F := F) (loc1 c)) (set_land1 (Rect.unit (s := S3x2048x128) ![0, 688, 0] S1x688x128.size inb_S3x2048x128_S1x688x128_0_688_0) (fun _ => rfl) squeezes_S1x688x128_S688x128 .b .p0 (unit1 0 688 688 inb_S3x2048x128_S1x688x128_0_688_0))
theorem room_b1 (c : Dev nD) : (room (landM .b .p1).view c : sProp 𝕄) = anyOn (loc1 c) (box1 (.b, .p1)) :=
  congrArg (anyOn (F := F) (loc1 c)) (set_land1 (Rect.unit (s := S3x2048x128) ![1, 688, 0] S1x688x128.size inb_S3x2048x128_S1x688x128_1_688_0) (fun _ => rfl) squeezes_S1x688x128_S688x128 .b .p1 (unit1 1 688 688 inb_S3x2048x128_S1x688x128_1_688_0))
theorem room_b2 (c : Dev nD) : (room (landM .b .p2).view c : sProp 𝕄) = anyOn (loc1 c) (box1 (.b, .p2)) :=
  congrArg (anyOn (F := F) (loc1 c)) (set_land1 (Rect.unit (s := S3x2048x128) ![2, 688, 0] S1x688x128.size inb_S3x2048x128_S1x688x128_2_688_0) (fun _ => rfl) squeezes_S1x688x128_S688x128 .b .p2 (unit1 2 688 688 inb_S3x2048x128_S1x688x128_2_688_0))
theorem room_d0 (c : Dev nD) : (room (landM .d .p0).view c : sProp 𝕄) = anyOn (loc1 c) (box1 (.d, .p0)) :=
  congrArg (anyOn (F := F) (loc1 c)) (set_land1 (Rect.unit (s := S3x2048x128) ![0, 1376, 0] S1x672x128.size inb_S3x2048x128_S1x672x128_0_1376_0) (fun _ => rfl) squeezes_S1x672x128_S672x128 .d .p0 (unit1 0 1376 672 inb_S3x2048x128_S1x672x128_0_1376_0))
theorem room_d1 (c : Dev nD) : (room (landM .d .p1).view c : sProp 𝕄) = anyOn (loc1 c) (box1 (.d, .p1)) :=
  congrArg (anyOn (F := F) (loc1 c)) (set_land1 (Rect.unit (s := S3x2048x128) ![1, 1376, 0] S1x672x128.size inb_S3x2048x128_S1x672x128_1_1376_0) (fun _ => rfl) squeezes_S1x672x128_S672x128 .d .p1 (unit1 1 1376 672 inb_S3x2048x128_S1x672x128_1_1376_0))
theorem room_d2 (c : Dev nD) : (room (landM .d .p2).view c : sProp 𝕄) = anyOn (loc1 c) (box1 (.d, .p2)) :=
  congrArg (anyOn (F := F) (loc1 c)) (set_land1 (Rect.unit (s := S3x2048x128) ![2, 1376, 0] S1x672x128.size inb_S3x2048x128_S1x672x128_2_1376_0) (fun _ => rfl) squeezes_S1x672x128_S672x128 .d .p2 (unit1 2 1376 672 inb_S3x2048x128_S1x672x128_2_1376_0))
theorem room_l0 (c : Dev nD) : (room (landM .l .p0).view c : sProp 𝕄) = anyOn (loc3 c) (box3 .p0) :=
  congrArg (anyOn (F := F) (loc3 c)) (set_land3 (Rect.unit (s := S3x4x1024) ![0, 0, 0] S1x4x1024.size inb_S3x4x1024_S1x4x1024_0_0_0) (fun _ => rfl) squeezes_S1x4x1024_S4x1024 .p0 (unit3 0 inb_S3x4x1024_S1x4x1024_0_0_0))
theorem room_l1 (c : Dev nD) : (room (landM .l .p1).view c : sProp 𝕄) = anyOn (loc3 c) (box3 .p1) :=
  congrArg (anyOn (F := F) (loc3 c)) (set_land3 (Rect.unit (s := S3x4x1024) ![1, 0, 0] S1x4x1024.size inb_S3x4x1024_S1x4x1024_1_0_0) (fun _ => rfl) squeezes_S1x4x1024_S4x1024 .p1 (unit3 1 inb_S3x4x1024_S1x4x1024_1_0_0))
theorem room_l2 (c : Dev nD) : (room (landM .l .p2).view c : sProp 𝕄) = anyOn (loc3 c) (box3 .p2) :=
  congrArg (anyOn (F := F) (loc3 c)) (set_land3 (Rect.unit (s := S3x4x1024) ![2, 0, 0] S1x4x1024.size inb_S3x4x1024_S1x4x1024_2_0_0) (fun _ => rfl) squeezes_S1x4x1024_S4x1024 .p2 (unit3 2 inb_S3x4x1024_S1x4x1024_2_0_0))

/-- The nine places of the first landing buffer. -/
def rooms1 (c : Dev nD) : sProp 𝕄 :=
  iprop(room (landM .a .p0).view c ∗ room (landM .a .p1).view c ∗ room (landM .a .p2).view c
    ∗ room (landM .b .p0).view c ∗ room (landM .b .p1).view c ∗ room (landM .b .p2).view c
    ∗ room (landM .d .p0).view c ∗ room (landM .d .p1).view c ∗ room (landM .d .p2).view c)
/-- The three of the second. -/
def rooms3 (c : Dev nD) : sProp 𝕄 :=
  iprop(room (landM .l .p0).view c ∗ room (landM .l .p1).view c ∗ room (landM .l .p2).view c)

theorem rooms1_eq (c : Dev nD) : (rooms1 c : sProp 𝕄) = bigSep places1 fun t => anyOn (F := F) (loc1 c) (box1 t) := by
  unfold rooms1
  rw [room_a0, room_a1, room_a2, room_b0, room_b1, room_b2, room_d0, room_d1, room_d2,
    bigSep_eq_bigSepL_of_eq [(.a, .p0), (.a, .p1), (.a, .p2), (.b, .p0), (.b, .p1), (.b, .p2), (.d, .p0), (.d, .p1), (.d, .p2)] (by decide) (by decide)]
  rfl
theorem rooms3_eq (c : Dev nD) : (rooms3 c : sProp 𝕄) = bigSep Finset.univ fun t => anyOn (F := F) (loc3 c) (box3 t) := by
  unfold rooms3
  rw [room_l0, room_l1, room_l2, bigSep_univ_eq_bigSepL [Ph.p0, Ph.p1, Ph.p2] (by decide) (by decide)]
  rfl

theorem rooms1_cut (c : Dev nD) : (iprop(∃ f : Buf (Elt F) (loc1 c), loc1 c ↦{fullShare} f) : sProp 𝕄) ⊢ rooms1 c := by
  rw [rooms1_eq]
  have h := anyOn_cut (F := F) (ℓ := loc1 c) places1 box1 box1_disj
  rw [box1_univ] at h
  exact h
theorem rooms3_cut (c : Dev nD) : (iprop(∃ f : Buf (Elt F) (loc3 c), loc3 c ↦{fullShare} f) : sProp 𝕄) ⊢ rooms3 c := by
  rw [rooms3_eq]
  have h := anyOn_cut (F := F) (ℓ := loc3 c) Finset.univ box3 box3_disj
  rw [box3_univ] at h
  exact h

theorem rooms1_glue (c : Dev nD) : (rooms1 c : sProp 𝕄) ⊢ iprop(∃ f : Buf (Elt F) (loc1 c), loc1 c ↦{fullShare} f) := by
  have h (f₀ : Buf (Elt F) (loc1 c)) : (rooms1 c : sProp 𝕄) ⊢ iprop(∃ f : Buf (Elt F) (loc1 c), loc1 c ↦{fullShare} f) := by
    have h' := anyOn_glue (F := F) (ℓ := loc1 c) f₀ places1 box1 box1_disj
    rw [← rooms1_eq, box1_univ] at h'
    exact h'
  have hne : (rooms1 c : sProp 𝕄) ⊢ iprop(∃ f₀ : Buf (Elt F) (loc1 c), rooms1 c) := by
    unfold rooms1 room
    iintro ⟨⟨%f, H⟩, Hs⟩
    iexists f
    isplitl [H]; · iexists f; iexact H
    iexact Hs
  iintro H
  ihave H := hne $$ H
  icases H with ⟨%f₀, H⟩
  iapply (h f₀) $$ H
theorem rooms3_glue (c : Dev nD) : (rooms3 c : sProp 𝕄) ⊢ iprop(∃ f : Buf (Elt F) (loc3 c), loc3 c ↦{fullShare} f) := by
  have h (f₀ : Buf (Elt F) (loc3 c)) : (rooms3 c : sProp 𝕄) ⊢ iprop(∃ f : Buf (Elt F) (loc3 c), loc3 c ↦{fullShare} f) := by
    have h' := anyOn_glue (F := F) (ℓ := loc3 c) f₀ Finset.univ box3 box3_disj
    rw [← rooms3_eq, box3_univ] at h'
    exact h'
  have hne : (rooms3 c : sProp 𝕄) ⊢ iprop(∃ f₀ : Buf (Elt F) (loc3 c), rooms3 c) := by
    unfold rooms3 room
    iintro ⟨⟨%f, H⟩, Hs⟩
    iexists f
    isplitl [H]; · iexists f; iexact H
    iexact Hs
  iintro H
  ihave H := hne $$ H
  icases H with ⟨%f₀, H⟩
  iapply (h f₀) $$ H

/-! ## The payments to the barriers -/

/-- Every scoped cell of a device is at its first round. -/
def fresh (c : Dev nD) : sProp 𝕄 := bigSep Finset.univ fun x : Cx => reached ER (cell x c) 0
instance fresh_persistent (c : Dev nD) : BI.Persistent (fresh (F := F) c) := by unfold fresh; infer_instance
theorem fresh_at (c : Dev nD) (x : Cx) : (fresh (F := F) c : sProp 𝕄) ⊢ reached ER (cell x c) 0 := by
  unfold fresh
  exact bigSep_elim (s := Finset.univ) (i := x) (Finset.mem_univ x) (Φ := fun x => (reached ER (cell x c) 0 : sProp 𝕄))

theorem barPay1_intro (j : Leg) (c : Dev nD) (k : Ch) (p : Ph) (hp : phOf j k = p) :
    iprop(fresh (F := F) c ∗ room (landM k p).view c) ⊢ (barPay1 j (flip j c) k : sProp 𝕄) := by
  subst hp
  unfold barPay1
  rw [flip_flip]
  iintro ⟨Hf, Hr⟩
  isplitl [Hr]; · iexact Hr
  iapply (fresh_at c (.inr (.inl (k, phOf j k)))) $$ Hf

theorem pays_intro (c : Dev nD) :
    iprop(fresh (F := F) c ∗ rooms1 c ∗ rooms3 c)
      ⊢ (iprop(barPay .m1 (flip .m1 c) ∗ barPay .m3 (flip .m3 c) ∗ barPay .m4 (flip .m4 c)) : sProp 𝕄) := by
  unfold rooms1 rooms3 barPay
  iintro ⟨#Hf, ⟨a0, a1, a2, b0, b1, b2, d0, d1, d2⟩, l0, l1, l2⟩
  isplitl [a0 b2 d1 l1]
  · isplitl [a0]; · iapply (barPay1_intro .m1 c .a .p0 rfl); isplitr; · iexact Hf
                    iexact a0
    isplitl [b2]; · iapply (barPay1_intro .m1 c .b .p2 rfl); isplitr; · iexact Hf
                    iexact b2
    isplitl [d1]; · iapply (barPay1_intro .m1 c .d .p1 rfl); isplitr; · iexact Hf
                    iexact d1
    iapply (barPay1_intro .m1 c .l .p1 rfl); isplitr; · iexact Hf
    iexact l1
  isplitl [a1 b0 d2 l2]
  · isplitl [a1]; · iapply (barPay1_intro .m3 c .a .p1 rfl); isplitr; · iexact Hf
                    iexact a1
    isplitl [b0]; · iapply (barPay1_intro .m3 c .b .p0 rfl); isplitr; · iexact Hf
                    iexact b0
    isplitl [d2]; · iapply (barPay1_intro .m3 c .d .p2 rfl); isplitr; · iexact Hf
                    iexact d2
    iapply (barPay1_intro .m3 c .l .p2 rfl); isplitr; · iexact Hf
    iexact l2
  isplitl [a2]; · iapply (barPay1_intro .m4 c .a .p2 rfl); isplitr; · iexact Hf
                  iexact a2
  isplitl [b1]; · iapply (barPay1_intro .m4 c .b .p1 rfl); isplitr; · iexact Hf
                  iexact b1
  isplitl [d0]; · iapply (barPay1_intro .m4 c .d .p0 rfl); isplitr; · iexact Hf
                  iexact d0
  iapply (barPay1_intro .m4 c .l .p0 rfl); isplitr; · iexact Hf
  iexact l0

/-! ## The states of the transfers -/

/-- The tokens of the duties a device pays. -/
def toks (c : Dev nD) : sProp 𝕄 :=
  iprop((bigSep Finset.univ fun j : Leg => dutyTok ER (barCell (flip j c)) 0 j)
    ∗ (bigSep Finset.univ fun x : Ch × Ph => dutyTok ER (sndCell x.1 x.2 c) 0 .m1)
    ∗ (bigSep Finset.univ fun x : Ch × Ph => dutyTok ER (rcvCell x.1 x.2 (peer x.1 x.2 c)) 0 .m1)
    ∗ bigSep Finset.univ fun j : Lo => dutyTok ER (locCell j c) 0 .m1)
/-- The credits for what a device is sent. -/
def creds (c : Dev nD) : sProp 𝕄 :=
  iprop(cred (tallyAt (barCell c) () 3) ∗ bigSep Finset.univ fun x : Ch × Ph => cred (tallyAt (rcvCell x.1 x.2 c) () (amt x.1)))
/-- The device's positions at its scoped cells. -/
def places (r : ℕ) (c : Dev nD) : sProp 𝕄 := bigSep Finset.univ fun x : Cx => atPos ER (cell x c) r ∅ 0

theorem places_eq (r : ℕ) (c : Dev nD) : (places (F := F) r c : sProp 𝕄)
    = iprop((bigSep Finset.univ fun x : Ch × Ph => atPos ER (sndCell x.1 x.2 c) r ∅ 0)
      ∗ (bigSep Finset.univ fun x : Ch × Ph => atPos ER (rcvCell x.1 x.2 c) r ∅ 0)
      ∗ bigSep Finset.univ fun j : Lo => atPos ER (locCell j c) r ∅ 0) := by
  unfold places
  rw [bigSep_univ_sum, bigSep_univ_sum]
  rfl

theorem pair_intro {A : Type} [Fintype A] {Φ Ψ : A → sProp 𝕄} :
    iprop(bigSep Finset.univ Φ ∗ bigSep Finset.univ Ψ) ⊢ bigSep Finset.univ (fun x => iprop(Φ x ∗ Ψ x)) :=
  Entails.of_eq (bigSep_sep _ _ _).symm

theorem legs_intro (c : Dev nD) :
    iprop(fresh (F := F) c ∗ (bigSep Finset.univ fun x : Ch × Ph => atPos ER (sndCell x.1 x.2 c) 0 ∅ 0)
        ∗ (bigSep Finset.univ fun x : Ch × Ph => dutyTok ER (sndCell x.1 x.2 c) 0 .m1)
        ∗ (bigSep Finset.univ fun x : Ch × Ph => dutyTok ER (rcvCell x.1 x.2 (peer x.1 x.2 c)) 0 .m1)
        ∗ (bigSep Finset.univ fun x : Ch × Ph => atPos ER (rcvCell x.1 x.2 c) 0 ∅ 0)
        ∗ (bigSep Finset.univ fun x : Ch × Ph => cred (tallyAt (rcvCell x.1 x.2 c) () (amt x.1))))
      ⊢ (bigSep Finset.univ fun x : Ch × Ph => leg0 x.1 x.2 c : sProp 𝕄) := by
  iintro ⟨#Hf, Ha, Hs, Hr, Hb, Hc⟩
  iapply (bigSep_with_persistent (R := fresh (F := F) c)
    (Φ := fun x : Ch × Ph => iprop(atPos ER (sndCell x.1 x.2 c) 0 ∅ 0 ∗ dutyTok ER (sndCell x.1 x.2 c) 0 .m1
      ∗ dutyTok ER (rcvCell x.1 x.2 (peer x.1 x.2 c)) 0 .m1 ∗ atPos ER (rcvCell x.1 x.2 c) 0 ∅ 0 ∗ cred (tallyAt (rcvCell x.1 x.2 c) () (amt x.1)))) (fun x _ => by
        unfold leg0
        iintro ⟨Hf, H1, H2, H3, H4, H5⟩
        isplitl [H1]; · iexact H1
        isplitl [Hf]; · iapply (fresh_at c (.inl (x.1, x.2))) $$ Hf
        isplitl [H2]; · iexact H2
        isplitl [H3]; · iexact H3
        isplitl [H4]; · iexact H4
        iexact H5))
  isplitr; · iexact Hf
  iapply pair_intro; isplitl [Ha]; · iexact Ha
  iapply pair_intro; isplitl [Hs]; · iexact Hs
  iapply pair_intro; isplitl [Hr]; · iexact Hr
  iapply pair_intro; isplitl [Hb]; · iexact Hb
  iexact Hc

theorem locs_intro (c : Dev nD) :
    iprop(fresh (F := F) c ∗ (bigSep Finset.univ fun j : Lo => atPos ER (locCell j c) 0 ∅ 0) ∗ (bigSep Finset.univ fun j : Lo => dutyTok ER (locCell j c) 0 .m1))
      ⊢ (bigSep Finset.univ fun j : Lo => loc0 j c : sProp 𝕄) := by
  iintro ⟨#Hf, Ha, Hs⟩
  iapply (bigSep_with_persistent (R := fresh (F := F) c)
    (Φ := fun j : Lo => iprop(atPos ER (locCell j c) 0 ∅ 0 ∗ dutyTok ER (locCell j c) 0 .m1)) (fun j _ => by
        unfold loc0
        iintro ⟨Hf, H1, H2⟩
        isplitl [H1]; · iexact H1
        isplitl [Hf]; · iapply (fresh_at c (.inr (.inr j))) $$ Hf
        iexact H2))
  isplitr; · iexact Hf
  iapply pair_intro; isplitl [Ha]; · iexact Ha
  iexact Hs

abbrev chph : List (Ch × Ph) :=
  [(.a, .p0), (.b, .p0), (.d, .p0), (.l, .p0), (.a, .p1), (.b, .p1), (.d, .p1), (.l, .p1), (.a, .p2), (.b, .p2), (.d, .p2), (.l, .p2)]

theorem bigSep_chph (Φ : Ch × Ph → sProp 𝕄) : bigSep Finset.univ Φ
    = iprop(Φ (.a, .p0) ∗ Φ (.b, .p0) ∗ Φ (.d, .p0) ∗ Φ (.l, .p0) ∗ Φ (.a, .p1) ∗ Φ (.b, .p1) ∗ Φ (.d, .p1) ∗ Φ (.l, .p1)
      ∗ Φ (.a, .p2) ∗ Φ (.b, .p2) ∗ Φ (.d, .p2) ∗ Φ (.l, .p2)) :=
  bigSep_univ_eq_bigSepL chph (by decide) (by decide) Φ
theorem bigSep_lo (Φ : Lo → sProp 𝕄) : bigSep Finset.univ Φ = iprop(Φ .k ∗ Φ .v ∗ Φ .o) :=
  bigSep_univ_eq_bigSepL [Lo.k, Lo.v, Lo.o] (by decide) (by decide) Φ
theorem bigSep_leg (Φ : Leg → sProp 𝕄) : bigSep Finset.univ Φ = iprop(Φ .m1 ∗ Φ .m3 ∗ Φ .m4) :=
  bigSep_univ_eq_bigSepL [Leg.m1, Leg.m3, Leg.m4] (by decide) (by decide) Φ

/-- What a device holds when its kernel starts, from the buffers and the ghost state. -/
theorem bodyPre_intro (c : Dev nD) :
    iprop(fresh (F := F) c ∗ places 0 c ∗ toks c ∗ creds c ∗ atPos ER (barCell c) 0 ∅ 0 ∗ rooms1 c ∗ rooms3 c
        ∗ holds kHb.view c (I c).kt ∗ holds vHb.view c (I c).vt ∗ holds oHb.view c (I c).wo
        ∗ room ktM.view c ∗ room vtM.view c ∗ room woM.view c ∗ inp0 I c ∗ owing c pays ∗ room nM.view c ∗ room lM.view c ∗ room oM.view c)
      ⊢ (bodyPre I c : sProp 𝕄) := by
  rw [places_eq]
  unfold toks creds
  iintro ⟨#Hf, ⟨Ps, Pr, Pl⟩, ⟨Tb, Ts, Tr, Tl⟩, ⟨Cb, Cr⟩, HB, R1, R3, Hk, Hv, Ho, Rk, Rv, Rw, Hin, HO, NM, LM, OM⟩
  ihave HP := (pays_intro (F := F) c) $$ [R1 R3]
  · isplitr; · iexact Hf
    isplitl [R1]; · iexact R1
    iexact R3
  ihave HT := (legs_intro (F := F) c) $$ [Ps Ts Tr Pr Cr]
  · isplitr; · iexact Hf
    isplitl [Ps]; · iexact Ps
    isplitl [Ts]; · iexact Ts
    isplitl [Tr]; · iexact Tr
    isplitl [Pr]; · iexact Pr
    iexact Cr
  ihave HL := (locs_intro (F := F) c) $$ [Pl Tl]
  · isplitr; · iexact Hf
    isplitl [Pl]; · iexact Pl
    iexact Tl
  ihave HT := (Entails.of_eq (bigSep_chph _)) $$ HT
  ihave HL := (Entails.of_eq (bigSep_lo _)) $$ HL
  ihave Tb := (Entails.of_eq (bigSep_leg _)) $$ Tb
  unfold bodyPre
  icases HP with ⟨P1, P3, P4⟩
  icases HL with ⟨Lk, Lv, Lo⟩
  icases Tb with ⟨D1, D3, D4⟩
  isplitl [Lk]; · iexact Lk
  isplitl [Lv]; · iexact Lv
  isplitl [Lo]; · iexact Lo
  isplitl [Hk]; · iexact Hk
  isplitl [Hv]; · iexact Hv
  isplitl [Ho]; · iexact Ho
  isplitl [Rk]; · iexact Rk
  isplitl [Rv]; · iexact Rv
  isplitl [Rw]; · iexact Rw
  isplitl [Hin]; · iexact Hin
  isplitl [HO]; · iexact HO
  isplitl [NM]; · iexact NM
  isplitl [LM]; · iexact LM
  isplitl [OM]; · iexact OM
  isplitl [HB]; · iexact HB
  isplitl [Cb]; · iexact Cb
  isplitl [D1]; · iexact D1
  isplitl [P1]; · iexact P1
  isplitl [D3]; · iexact D3
  isplitl [P3]; · iexact P3
  isplitl [D4]; · iexact D4
  isplitl [P4]; · iexact P4
  iexact HT

/-- What it holds afterwards, gathered again. -/
theorem bodyPost_elim (c : Dev nD) :
    (bodyPost I c : sProp 𝕄)
      ⊢ iprop(places (F := F) (0 + 1) c ∗ atPos ER (barCell c) (0 + 1) ∅ 0 ∗ rooms1 c ∗ rooms3 c
        ∗ holds kHb.view c (I c).kt ∗ holds vHb.view c (I c).vt ∗ holds oHb.view c (I c).wo
        ∗ room ktM.view c ∗ room vtM.view c ∗ room woM.view c ∗ inp0 I c ∗ owing c [] ∗ room nM.view c ∗ room lM.view c ∗ holds oM.view c (outV I c)) := by
  rw [places_eq, bigSep_chph, bigSep_chph, bigSep_lo]
  unfold bodyPost over rooms1 rooms3
  iintro ⟨Lk, Lv, Hk, Hv, Hin, HB, KT, VT, ⟨Sa0, Ra0⟩, a0, ⟨Sb0, Rb0⟩, b0, ⟨Sd0, Rd0⟩, d0, ⟨Sl0, Rl0⟩, l0,
    ⟨Sa1, Ra1⟩, a1, ⟨Sb1, Rb1⟩, b1, ⟨Sd1, Rd1⟩, d1, ⟨Sl1, Rl1⟩, l1,
    ⟨Sa2, Ra2⟩, ⟨Sb2, Rb2⟩, a2, b2, ⟨Sd2, Rd2⟩, d2, ⟨Sl2, Rl2⟩, Lo, HO, LM, l2, NM, Ho, WO, OM⟩
  isplitl [Lk Lv Lo Sa0 Sb0 Sd0 Sl0 Sa1 Sb1 Sd1 Sl1 Sa2 Sb2 Sd2 Sl2 Ra0 Rb0 Rd0 Rl0 Ra1 Rb1 Rd1 Rl1 Ra2 Rb2 Rd2 Rl2]
  · isplitl [Sa0 Sb0 Sd0 Sl0 Sa1 Sb1 Sd1 Sl1 Sa2 Sb2 Sd2 Sl2]
    · isplitl [Sa0]; · iexact Sa0
      isplitl [Sb0]; · iexact Sb0
      isplitl [Sd0]; · iexact Sd0
      isplitl [Sl0]; · iexact Sl0
      isplitl [Sa1]; · iexact Sa1
      isplitl [Sb1]; · iexact Sb1
      isplitl [Sd1]; · iexact Sd1
      isplitl [Sl1]; · iexact Sl1
      isplitl [Sa2]; · iexact Sa2
      isplitl [Sb2]; · iexact Sb2
      isplitl [Sd2]; · iexact Sd2
      iexact Sl2
    isplitl [Ra0 Rb0 Rd0 Rl0 Ra1 Rb1 Rd1 Rl1 Ra2 Rb2 Rd2 Rl2]
    · isplitl [Ra0]; · iexact Ra0
      isplitl [Rb0]; · iexact Rb0
      isplitl [Rd0]; · iexact Rd0
      isplitl [Rl0]; · iexact Rl0
      isplitl [Ra1]; · iexact Ra1
      isplitl [Rb1]; · iexact Rb1
      isplitl [Rd1]; · iexact Rd1
      isplitl [Rl1]; · iexact Rl1
      isplitl [Ra2]; · iexact Ra2
      isplitl [Rb2]; · iexact Rb2
      isplitl [Rd2]; · iexact Rd2
      iexact Rl2
    isplitl [Lk]; · iexact Lk
    isplitl [Lv]; · iexact Lv
    iexact Lo
  isplitl [HB]; · iexact HB
  isplitl [a0 a1 a2 b0 b1 b2 d0 d1 d2]
  · isplitl [a0]; · iapply (holds_room (landM .a .p0).view c _) $$ a0
    isplitl [a1]; · iapply (holds_room (landM .a .p1).view c _) $$ a1
    isplitl [a2]; · iapply (holds_room (landM .a .p2).view c _) $$ a2
    isplitl [b0]; · iapply (holds_room (landM .b .p0).view c _) $$ b0
    isplitl [b1]; · iapply (holds_room (landM .b .p1).view c _) $$ b1
    isplitl [b2]; · iapply (holds_room (landM .b .p2).view c _) $$ b2
    isplitl [d0]; · iapply (holds_room (landM .d .p0).view c _) $$ d0
    isplitl [d1]; · iapply (holds_room (landM .d .p1).view c _) $$ d1
    iapply (holds_room (landM .d .p2).view c _) $$ d2
  isplitl [l0 l1 l2]
  · isplitl [l0]; · iapply (holds_room (landM .l .p0).view c _) $$ l0
    isplitl [l1]; · iapply (holds_room (landM .l .p1).view c _) $$ l1
    iapply (holds_room (landM .l .p2).view c _) $$ l2
  isplitl [Hk]; · iexact Hk
  isplitl [Hv]; · iexact Hv
  isplitl [Ho]; · iexact Ho
  isplitl [KT]; · iapply (holds_room ktM.view c _) $$ KT
  isplitl [VT]; · iapply (holds_room vtM.view c _) $$ VT
  isplitl [WO]; · iapply (holds_room woM.view c _) $$ WO
  isplitl [Hin]; · iexact Hin
  isplitl [HO]; · iexact HO
  isplitl [NM]; · iapply (holds_room nM.view c _) $$ NM
  isplitl [LM]; · iapply (holds_room (srcM .l).view c _) $$ LM
  iexact OM

end Cert.Exchange

end
-- ==== Proof.Launch.lean ====
/-
# The pipelined region

One region runs the kernel on every device. It is entered with the device's arrays as the host operations left
them and with the ghost state of the launch; it is left with the result array at the exchange's contents, the
barrier's counter at zero and nothing owed.
-/
module

public import proofs.«01_k».proof.Proof.Rooms
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Pipeline.FrameBody
public import Idealize.ShloMosaic.Lib.Pipeline.RegionTalk

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Valuations -/

/-- What a device's arrays hold at launch, when the region is entered, and when it is left. -/
abbrev V₀ (c : Dev nD) : Valuation τ sig (Elt F) := fun b => m (c, b)
abbrev V₁ (c : Dev nD) : Valuation τ sig (Elt F) := StableHlo.after hostOps0 (V₀ m c)

/-- The five arrays a device's kernel reads. -/
def inp (c : Dev nD) : Inp F where
  x := V m c main_v1
  wq := V m c main_arg1
  wo := V m c main_arg4
  kt := V m c main_v2
  vt := V m c main_v3

abbrev outD : DevRef τ sig := Proc.devRef .tc main_v4
def V₂ (c : Dev nD) : Valuation τ sig (Elt F) := Function.update (V₁ m c) outD (outV (inp m) c)

theorem V₂_out (c : Dev nD) : V₂ m c outD = outV (inp m) c := Function.update_self _ _ _
theorem V₂_ne (c : Dev nD) {b : DevRef τ sig} (h : b ≠ outD) : V₂ m c b = V₁ m c b := Function.update_of_ne h _ _

abbrev arrD : Finset (DevRef τ sig) := Pipeline.arrRefs spec0
abbrev restD : Finset (DevRef τ sig) := Pipeline.ucRefs τ sig \ arrD

theorem arr_sub : arrD ⊆ Pipeline.ucRefs τ sig := by decide
theorem rest_ne : ∀ b ∈ restD, b ≠ outD := by decide

abbrev pt (c : Dev nD) (b : Ref sig .tc) (f : Buf (Elt F) ((c : Thread nD τ).loc b)) : sProp 𝕄 := ((c : Thread nD τ).loc b) ↦{fullShare} f

theorem rest_eq (c : Dev nD) (W : Valuation τ sig (Elt F)) : (StableHlo.held (c : Thread nD τ) restD W : sProp 𝕄)
    = iprop(pt c main_arg0 (W main_arg0) ∗ pt c main_arg2 (W main_arg2) ∗ pt c main_arg3 (W main_arg3) ∗ pt c main_arg4 (W main_arg4)
      ∗ pt c main_v2 (W main_v2) ∗ pt c main_v3 (W main_v3)) := by
  unfold StableHlo.held
  rw [bigSep_eq_bigSepL_of_eq [Proc.devRef .tc main_arg0, Proc.devRef .tc main_arg2, Proc.devRef .tc main_arg3, Proc.devRef .tc main_arg4, Proc.devRef .tc main_v2, Proc.devRef .tc main_v3] (by decide) (by decide)]
  rfl

theorem rest_V₂ (c : Dev nD) : (StableHlo.held (c : Thread nD τ) restD (V₂ m c) : sProp 𝕄) = StableHlo.held (c : Thread nD τ) restD (V₁ m c) :=
  StableHlo.held_congr (c : Thread nD τ) fun b hb => V₂_ne m c (rest_ne b hb)

/-! ## The region's data -/

/-- The ghost state the region is given: records, and what is the device's own with its rights to open its cells. -/
def Tk (c : Dev nD) : sProp 𝕄 :=
  iprop((∃ κ, recs (inp m) κ) ∗ (bigSep Finset.univ fun x : Cx => openTok ER (cell x c)) ∗ toks c ∗ creds c ∗ atPos ER (barCell c) 0 ∅ 0)
/-- The same once the cells are open. -/
def Xk (c : Dev nD) : sProp 𝕄 :=
  iprop((∃ κ, recs (inp m) κ) ∗ levAts L lv ∗ fresh c ∗ places 0 c ∗ toks c ∗ creds c ∗ atPos ER (barCell c) 0 ∅ 0)
def Yk (c : Dev nD) : sProp 𝕄 := semVal (barCell c) 0

def inv0 (c : Dev nD) : sProp 𝕄 :=
  iprop(Pipeline.scopedRest spec0 c ∗ (∃ r, prngReg c r) ∗ StableHlo.held (c : Thread nD τ) restD (V₁ m c) ∗ Xk m c)
def inv1 (c : Dev nD) : sProp 𝕄 :=
  iprop(Pipeline.scopedRest spec0 c ∗ (∃ r, prngReg c r) ∗ StableHlo.held (c : Thread nD τ) restD (V₁ m c) ∗ Pipeline.ownSems0 csem c ∗ Yk c)

def dat (c : Dev nD) : Dat τ (Elt F) Unit ℕ UU ℕ cfg0 c where
  A w := V m c (Pipeline.arrRef spec0 w)
  after
    | 0 => fun t => iblk m c 0 t
    | 1 => fun t => iblk m c 1 t
    | 2 => fun _ => outV (inp m) c
    | ⟨_ + 3, h⟩ => absurd h (Nat.not_lt.2 (Nat.le_add_left _ _))
  Φ t := if t.val = 0 then inv0 m c else inv1 m c
  q _ := fullShare
  owed t := if t.val = 0 then owe c pays else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before0 (c : Dev nD) (t : Fin cfg0.N) (d) : (dat m c).before 0 t d = iblk m c 0 t :=
  ((dat m c).before_in_eq_fetched 0 rfl (fun _ => rfl) (fun _ _ _ => rfl) (fun t => rfl) t d).trans rfl
theorem before1 (c : Dev nD) (t : Fin cfg0.N) (d) : (dat m c).before 1 t d = iblk m c 1 t :=
  ((dat m c).before_in_eq_fetched 1 rfl (fun _ => rfl) (fun _ _ _ => rfl) (fun t => rfl) t d).trans rfl

theorem blk0_emb (t : Fin cfg0.N) (j : S512x768.Idx) : ((cfg0.win 0).blk t).view.emb j = j :=
  funext fun a => Fin.ext (by show 0 * S512x768.size a + 1 * (j a).val = _; rw [Nat.zero_mul, Nat.zero_add, Nat.one_mul])
theorem blk1_emb (t : Fin cfg0.N) (j : S768x512.Idx) : ((cfg0.win 1).blk t).view.emb j = j :=
  funext fun a => Fin.ext (by show 0 * S768x512.size a + 1 * (j a).val = _; rw [Nat.zero_mul, Nat.zero_add, Nat.one_mul])
theorem blk2_emb (t : Fin cfg0.N) (j : S2x256x768.Idx) : ((cfg0.win 2).blk t).view.emb j = j :=
  funext fun a => Fin.ext (by show 0 * S2x256x768.size a + 1 * (j a).val = _; rw [Nat.zero_mul, Nat.zero_add, Nat.one_mul])

theorem iblk0 (c : Dev nD) (t : Fin cfg0.N) : iblk m c 0 t = (inp m c).x :=
  funext fun j => congrArg (V m c main_v1) (blk0_emb t j)
theorem iblk1 (c : Dev nD) (t : Fin cfg0.N) : iblk m c 1 t = (inp m c).wq :=
  funext fun j => congrArg (V m c main_arg1) (blk1_emb t j)

theorem arr_out (c : Dev nD) : (dat m c).arrAt 2 cfg0.N = outV (inp m) c :=
  (dat m c).arrAt_eq_of_cover 2 (outV (inp m) c)
    (fun t _ => funext fun j => (congrArg (outV (inp m) c) (blk2_emb t j)).symm)
    (fun i => ⟨t0_0, flush0_2 t0_0, by
      have h := ((cfg0.win 2).blk t0_0).view.emb_mem_set i
      rw [blk2_emb t0_0 i] at h
      exact h⟩)

theorem owed_first (c : Dev nD) : (dat m c).owed t0_0.castSucc = owe c pays := rfl
theorem owed_zero (c : Dev nD) : (pdats m 0 c).owed 0 = owe c pays := rfl
theorem owed_last (c : Dev nD) : (pdats m 0 c).owed (Fin.last _) = 0 := by
  show (if (Fin.last cfg0.N).val = 0 then owe c pays else 0) = 0
  rw [Fin.val_last, if_neg (by rw [show cfg0.N = 1 from N_0]; decide)]

theorem owesAt_of {c : Dev nD} (d : Dat τ (Elt F) Unit ℕ UU ℕ cfg0 c) (t : Fin (cfg0.N + 1)) {O : CellTallies nD τ sig Unit} (h0 : d.owed t = O)
    (hr : d.recorded t = Set.univ) : (iprop(∃ W, owes (c : Thread nD τ) O W) : sProp 𝕄) ⊢ d.owesAt () t := by
  subst h0
  unfold Dat.owesAt Pipeline.owesWithin Dat.bound
  rw [hr]
  iintro ⟨%W, HO⟩
  iexists W
  isplitr; · ipureintro; exact fun _ _ => Or.inl trivial
  iexact HO
theorem of_owesAt {c : Dev nD} (d : Dat τ (Elt F) Unit ℕ UU ℕ cfg0 c) (t : Fin (cfg0.N + 1)) {O : CellTallies nD τ sig Unit} (h0 : d.owed t = O) :
    (d.owesAt () t : sProp 𝕄) ⊢ iprop(∃ W, owes (c : Thread nD τ) O W) := by
  subst h0
  unfold Dat.owesAt Pipeline.owesWithin
  iintro ⟨%W, -, HO⟩
  iexists W
  iexact HO

/-! ## Opening and closing the cells -/

theorem unpair_elim {A : Type} [Fintype A] {Φ Ψ : A → sProp 𝕄} :
    bigSep Finset.univ (fun x => iprop(Φ x ∗ Ψ x)) ⊢ iprop(bigSep Finset.univ Φ ∗ bigSep Finset.univ Ψ) :=
  Entails.of_eq (bigSep_sep _ _ _)

theorem open_cells (c : Dev nD) (κ : GSem nD τ sig → ℕ) :
    iprop(recs (inp m) κ ∗ (bigSep Finset.univ fun x : Cx => openTok ER (cell x c)) ∗ Pipeline.ownSems0 csem c)
      ⊢ (|={Set.univ}=> iprop(fresh c ∗ places 0 c) : sProp 𝕄) := by
  have h1 : iprop(recs (inp m) κ ∗ (bigSep Finset.univ fun x : Cx => openTok ER (cell x c)))
      ⊢ (bigSep Finset.univ fun x : Cx => iprop(cellInv ER (Rd (inp m)) (κ (cell x c)) (cell x c) ∗ openTok ER (cell x c)) : sProp 𝕄) :=
    bigSep_with_persistent (R := recs (inp m) κ) (Φ := fun x : Cx => (openTok ER (cell x c) : sProp 𝕄)) fun x _ =>
      BIClass.sep_mono (recs_cell (inp m) κ x c) BIBase.Entails.refl
  iintro ⟨Hr, Ho, Hs⟩
  ihave H := h1 $$ [Hr Ho]
  · isplitl [Hr]; · iexact Hr
    iexact Ho
  imod (cells_open ER (Rd (inp m)) Finset.univ (fun x : Cx => cell x c) (fun x => κ (cell x c)) (fun _ _ => Set.mem_univ _)) $$ [H Hs] with H
  · isplitl [H]; · iexact H
    unfold Pipeline.ownSems0
    iexact Hs
  imodintro
  ihave H := unpair_elim $$ H
  icases H with ⟨Hp, Hf⟩
  unfold fresh places
  isplitl [Hf]; · iexact Hf
  iexact Hp

theorem close_cells (c : Dev nD) (κ : GSem nD τ sig → ℕ) :
    iprop(recs (inp m) κ ∗ places (0 + 1) c) ⊢ (|={Set.univ}=> Pipeline.ownSems0 csem c : sProp 𝕄) := by
  have h1 : iprop(recs (inp m) κ ∗ places (0 + 1) c)
      ⊢ (bigSep Finset.univ fun x : Cx => iprop(cellInv ER (Rd (inp m)) (κ (cell x c)) (cell x c) ∗ atPos ER (cell x c) (0 + 1) ∅ 0) : sProp 𝕄) :=
    bigSep_with_persistent (R := recs (inp m) κ) (Φ := fun x : Cx => (atPos ER (cell x c) (0 + 1) ∅ 0 : sProp 𝕄)) fun x _ =>
      BIClass.sep_mono (recs_cell (inp m) κ x c) BIBase.Entails.refl
  exact h1.trans (cells_close ER (Rd (inp m)) Finset.univ (fun x : Cx => cell x c) (fun x => κ (cell x c)) (fun _ _ => Set.mem_univ _)
    (fun _ _ => id) (fun _ => 0 + 1) (fun x _ => duties_later (inp m) (cell x c)))

/-! ## The body -/

theorem pt_holds (c : Dev nD) (b : Ref sig .tc) (f : Buf (Elt F) ((c : Thread nD τ).loc b)) :
    (pt c b f : sProp 𝕄) ⊢ holds (Memref.whole b).view c f := by
  unfold holds
  iintro H
  iexists f
  isplitr; · (ipureintro; rfl)
  rw [show (Memref.whole b).view.set = Finset.univ from View.set_whole b]
  iexact H
theorem holds_pt (c : Dev nD) (b : Ref sig .tc) (f : Buf (Elt F) ((c : Thread nD τ).loc b)) :
    (holds (Memref.whole b).view c f : sProp 𝕄) ⊢ pt c b f := by
  unfold holds
  rw [show (Memref.whole b).view.set = Finset.univ from View.set_whole b]
  iintro ⟨%g, %hg, H⟩
  obtain rfl : g = f := hg
  iexact H
theorem any_room (c : Dev nD) (b : Ref sig .tc) :
    (iprop(∃ f : Buf (Elt F) ((c : Thread nD τ).loc b), pt c b f) : sProp 𝕄) ⊢ room (Memref.whole b).view c := by
  unfold room
  rw [show (Memref.whole b).view.set = Finset.univ from View.set_whole b]
theorem room_any (c : Dev nD) (b : Ref sig .tc) :
    (room (Memref.whole b).view c : sProp 𝕄) ⊢ iprop(∃ f : Buf (Elt F) ((c : Thread nD τ).loc b), pt c b f) := by
  unfold room
  rw [show (Memref.whole b).view.set = Finset.univ from View.set_whole b]

theorem inv0_first (c : Dev nD) : (dat m c).Φ t0_0.castSucc = inv0 m c := rfl
theorem inv1_last (c : Dev nD) : (dat m c).Φ t0_0.succ = inv1 m c := rfl

theorem stage_x (c : Dev nD) (w) : (owns (c : Thread nD τ) ((cfg0.win 0).stage (cfg0.slots t0_0 0)) fullShare w : sProp 𝕄) = holds xM.view c w := rfl
theorem stage_wq (c : Dev nD) (w) : (owns (c : Thread nD τ) ((cfg0.win 1).stage (cfg0.slots t0_0 1)) fullShare w : sProp 𝕄) = holds wqM.view c w := rfl
theorem stage_o (c : Dev nD) (w) : (owns (c : Thread nD τ) ((cfg0.win 2).stage (cfg0.slots t0_0 2)) fullShare w : sProp 𝕄) = holds oM.view c w := rfl

/-- The kernel meets the region's obligation. -/
theorem body (c : Dev nD) : BodyObligation (dat m c) defs₀ 𝒱₀ () Set.univ := fun t => by
  obtain rfl := fin_N0 t
  rw [bigSep_W0, bigSep_W0, inv0_first, inv1_last]
  unfold inv0 inv1 Xk
  rw [scopedRest0_eq, rest_eq]
  iintro ⟨⟨⟨S0, S1, S2, S3, S4, S5, S6⟩, Hreg, ⟨A0, A2, A3, A4, K2, K3⟩, ⟨%κ, #Hr⟩, #Hl, #Hf, Hp, Ht, Hc, HB⟩, HO, ⟨%d0, H0⟩, ⟨%d1, H1⟩, ⟨%d2, H2⟩⟩
  ihave HO := (of_owesAt (dat m c) _ (owed_first m c)) $$ HO
  rw [before0, before1, iblk0, iblk1]
  ihave R1 := (rooms1_cut (F := F) c) $$ S1
  ihave R3 := (rooms3_cut (F := F) c) $$ S3
  ihave HP := (bodyPre_intro (inp m) c) $$ [Hp Ht Hc HB S0 S2 S4 S5 S6 R1 R3 A4 K2 K3 HO H0 H1 H2]
  · isplitr; · iexact Hf
    isplitl [Hp]; · iexact Hp
    isplitl [Ht]; · iexact Ht
    isplitl [Hc]; · iexact Hc
    isplitl [HB]; · iexact HB
    isplitl [R1]; · iexact R1
    isplitl [R3]; · iexact R3
    isplitl [K2]; · iapply (pt_holds c main_v2 _) $$ K2
    isplitl [K3]; · iapply (pt_holds c main_v3 _) $$ K3
    isplitl [A4]; · iapply (pt_holds c main_arg4 _) $$ A4
    isplitl [S4]; · iapply (any_room c cc0_scratch4) $$ S4
    isplitl [S5]; · iapply (any_room c cc0_scratch5) $$ S5
    isplitl [S6]; · iapply (any_room c cc0_scratch6) $$ S6
    isplitl [H0 H1]
    · unfold inp0
      isplitl [H0]; · iapply (Entails.of_eq (stage_x c _)) $$ H0
      iapply (Entails.of_eq (stage_wq c _)) $$ H1
    isplitl [HO]; · unfold owing; iexact HO
    isplitl [S0]; · iapply (any_room c cc0_scratch0) $$ S0
    isplitl [S2]; · iapply (any_room c cc0_scratch2) $$ S2
    ihave H2 := (Entails.of_eq (stage_o c _)) $$ H2
    iapply (holds_room oM.view c _) $$ H2
  iapply (wp_fupd frame (wpE (defs₀ (F := F)) 𝒱₀ (c : Thread nD τ) none) Set.univ _ _)
  iapply (body_wp (inp m) κ c _ _ _ _ _ _ _ _ _ _ _ _ _) $$ [HP Hreg A0 A2 A3]
  isplitr; · iexact Hr
  isplitr; · iexact Hl
  isplitl [HP]; · iexact HP
  iintro HP
  ihave HP := (bodyPost_elim (inp m) c) $$ HP
  icases HP with ⟨Hp, HB, R1, R3, Hk, Hv, Ho, Rk, Rv, Rw, Hin, HO, NM, LM, OM⟩
  imod (close_cells m c κ) $$ [Hp] with Hown
  · isplitr; · iexact Hr
    iexact Hp
  ihave Hbi := (recs_bar (inp m) κ c) $$ Hr
  imod (Rounds.cell_close ER (Rd (inp m)) (g := barCell c) (Set.mem_univ (κ (barCell c))) id (duties_later (inp m) (barCell c))) $$ [Hbi HB] with HB
  · isplitl [Hbi]; · iexact Hbi
    iexact HB
  imodintro
  ihave S1 := (rooms1_glue (F := F) c) $$ R1
  ihave S3 := (rooms3_glue (F := F) c) $$ R3
  unfold inp0
  icases Hin with ⟨H0, H1⟩
  isplitl [NM S1 LM S3 Rk Rv Rw Hreg A0 A2 A3 Ho Hk Hv Hown HB]
  · isplitl [NM S1 LM S3 Rk Rv Rw]
    · isplitl [NM]; · iapply (room_any c cc0_scratch0) $$ NM
      isplitl [S1]; · iexact S1
      isplitl [LM]; · iapply (room_any c cc0_scratch2) $$ LM
      isplitl [S3]; · iexact S3
      isplitl [Rk]; · iapply (room_any c cc0_scratch4) $$ Rk
      isplitl [Rv]; · iapply (room_any c cc0_scratch5) $$ Rv
      iapply (room_any c cc0_scratch6) $$ Rw
    isplitl [Hreg]; · iexact Hreg
    isplitl [A0 A2 A3 Ho Hk Hv]
    · isplitl [A0]; · iexact A0
      isplitl [A2]; · iexact A2
      isplitl [A3]; · iexact A3
      isplitl [Ho]; · iapply (holds_pt c main_arg4 _) $$ Ho
      isplitl [Hk]; · iapply (holds_pt c main_v2 _) $$ Hk
      iapply (holds_pt c main_v3 _) $$ Hv
    isplitl [Hown]; · iexact Hown
    unfold Yk
    iexact HB
  isplitl [HO]
  · iapply (owesAt_of (dat m c) t0_0.succ (O := 0) (owed_last m c) rfl)
    unfold owing owe
    iexact HO
  isplitl [H0]
  · iapply (show holds xM.view c (inp m c).x ⊢ (owns (c : Thread nD τ) xM fullShare (iblk m c 0 t0_0) : sProp 𝕄) from by rw [iblk0]; exact BIBase.Entails.refl) $$ H0
  isplitl [H1]
  · iapply (show holds wqM.view c (inp m c).wq ⊢ (owns (c : Thread nD τ) wqM fullShare (iblk m c 1 t0_0) : sProp 𝕄) from by rw [iblk1]; exact BIBase.Entails.refl) $$ H1
  iapply (show holds oM.view c (outV (inp m) c) ⊢ (owns (c : Thread nD τ) ((cfg0.win 2).stage (cfg0.slots t0_0 2)) fullShare ((dat m c).after 2 t0_0) : sProp 𝕄) from BIBase.Entails.refl) $$ OM

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the arrays up to the region. -/
def R (c : Dev nD) : sProp 𝕄 := iprop(Tk m c ∗ (∃ r, prngReg c r) ∗ ∃ W, owes (c : Thread nD τ) (owe c pays) W)

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h =>
  List.forall_iff_forall_mem.mp hostOps0_fresh op h

/-- The host operations. -/
def seg0 : ℍ := Pipeline.HostSeg.ofOps _ _ _ _ _ (Pipeline.ucRefs τ sig) hostOps0 ops_sub ops_fresh (V₀ m) (R m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hopen (c : Dev nD) : iprop(Tk m c ∗ Pipeline.ownSems0 csem c ∗ levAts L lv) ⊢ (|={Set.univ}=> Xk m c : sProp 𝕄) := by
  unfold Tk Xk
  iintro ⟨⟨⟨%κ, #Hr⟩, Ho, Ht, Hc, HB⟩, Hs, #Hl⟩
  imod (open_cells m c κ) $$ [Ho Hs] with ⟨Hf, Hp⟩
  · isplitr; · iexact Hr
    isplitl [Ho]; · iexact Ho
    iexact Hs
  imodintro
  isplitr; · iexists κ; iexact Hr
  isplitr; · iexact Hl
  isplitl [Hf]; · iexact Hf
  isplitl [Hp]; · iexact Hp
  isplitl [Ht]; · iexact Ht
  isplitl [Hc]; · iexact Hc
  iexact HB

theorem hin (c : Dev nD) : iprop(Pipeline.scopedRest (Pipeline.pin (pcfgs (F := F)) adm 0).spec c ∗ (∃ r, prngReg c r) ∗ StableHlo.held (c.tc : Thread nD τ) restD (V₁ m c) ∗ Xk m c)
    ⊢ (pdats m 0 c).Φ 0 := BIBase.Entails.refl

theorem inv_last (c : Dev nD) : (pdats m 0 c).Φ (Fin.last (Pipeline.pin (pcfgs (F := F)) adm 0).N) = inv1 m c := by
  show (if (Fin.last cfg0.N).val = 0 then inv0 m c else inv1 m c) = inv1 m c
  rw [Fin.val_last, if_neg (by rw [show cfg0.N = 1 from N_0]; decide)]

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) restD (V₂ m c) ∗ Pipeline.ownSems0 csem c ∗ Yk c) := by
  rw [inv_last, rest_V₂]
  exact BIBase.Entails.refl

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owe c pays else 0 := rfl
  rw [e] at h
  split at h
  · obtain ⟨x, -, rfl⟩ := owe_pos h
    exact ⟨by rw [L_pcell]; exact Finset.mem_singleton_self _, by rw [lv_pcell]; exact pylev_pos x⟩
  · exact absurd h (Nat.lt_irrefl 0)

theorem stage_lev (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 :=
  (by decide : ∀ (w : Fin 3) (s : Fin (spec0 w).nbuf), rlev (role (.dma ((spec0 w).sem s))) ≤ 0) w s

theorem enter_arr (c : Dev nD) (w : Fin 3) : (dat m c).arrAt w 0 = V₁ m c (Proc.devRef .tc (Pipeline.arrRef spec0 w)) := rfl
theorem leave_arr (c : Dev nD) (w : Fin 3) : (dat m c).arrAt w cfg0.N = V₂ m c (Proc.devRef .tc (Pipeline.arrRef spec0 w)) := by
  match w with
  | 0 => exact ((dat m c).arrAt_in 0 rfl _).trans (V₂_ne m c (b := Proc.devRef .tc (Pipeline.arrRef spec0 0)) (by decide)).symm
  | 1 => exact ((dat m c).arrAt_in 1 rfl _).trans (V₂_ne m c (b := Proc.devRef .tc (Pipeline.arrRef spec0 1)) (by decide)).symm
  | 2 => exact (arr_out m c).trans (V₂_out m c).symm

set_option backward.isDefEq.respectTransparency.types false in
/-- The region. -/
def reg : ℝ𝕊 0 :=
  Pipeline.RegionSeg.ofTalk (pcfgs (F := F)) adm (pdats m) () defs₀ 𝒱₀ L lv 0 csem (by decide : Pipeline.OwnSemFacts spec0 csem)
    restD restD (Finset.Subset.refl _) kit rfl (fun c => (body m c).loose)
    (fun _ => 0) (fun c => owe c pays) (fun c => (owed_zero m c).trans (zero_add _).symm) (owed_last m) (fun _ => rfl) (fun c w => (dat m c).share_full (fun _ => rfl) w)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => stage_lev c w s, fun c t g i h => cutD m c t g i h⟩
    (fun _ => iprop(emp))
    (fun c w => enter_arr m c w) (fun c w => leave_arr m c w)

end Cert.Exchange

end
-- ==== Proof.Run.lean ====
/-
# The run

The ghost state of the launch is dealt to the devices, the host operations and the region are run, and the final
memory is read: every argument is as it was and the result array holds the exchange's contents on every device.
-/
module

public import proofs.«01_k».proof.Proof.Launch
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Dealing the duty tokens -/

abbrev Tx : Type := Leg ⊕ Cx
def tcell : Tx → Dev nD → GSem nD τ sig | .inl _, c => barCell c | .inr x, c => cell x c
def tduty : Tx → Leg | .inl j => j | .inr _ => .m1

theorem tcell_inj {x y : Tx} {c d : Dev nD} (h : tcell x c = tcell y d) (h' : tduty x = tduty y) : c = d ∧ x = y := by
  rcases x with j | x <;> rcases y with j' | y
  · exact ⟨congrArg (fun g : GSem nD τ sig => g.1.1) h, congrArg Sum.inl h'⟩
  · have e : role (.reg barS) = role (csem y) := congrArg (fun g : GSem nD τ sig => role g.2) h
    rw [role_csem] at e; rcases y with ⟨k, p⟩ | ⟨k, p⟩ | j <;> exact absurd e (by simp [role, crole])
  · have e : role (csem x) = role (.reg barS) := congrArg (fun g : GSem nD τ sig => role g.2) h
    rw [role_csem] at e; rcases x with ⟨k, p⟩ | ⟨k, p⟩ | j <;> exact absurd e (by simp [role, crole])
  · exact ⟨congrArg (fun g : GSem nD τ sig => g.1.1) h, congrArg Sum.inr (csem_inj (congrArg (fun g : GSem nD τ sig => g.2) h))⟩

/-- Every duty of every cell. -/
def allToks : Finset (GSem nD τ sig × ℕ × Leg) :=
  (Finset.univ : Finset (Dev nD × Tx)).map ⟨fun q => (tcell q.2 q.1, 0, tduty q.2), fun q r h => by
    obtain ⟨h1, h2⟩ := tcell_inj (congrArg (fun t : GSem nD τ sig × ℕ × Leg => t.1) h) (congrArg (fun t : GSem nD τ sig × ℕ × Leg => t.2.2) h)
    exact Prod.ext h1 h2⟩

theorem cells_disjoint : Disjoint barCells scCells := by
  rw [Finset.disjoint_left]
  rintro g h₁ h₂
  obtain ⟨c, -, rfl⟩ := Finset.mem_map.mp h₁
  obtain ⟨⟨d, x⟩, -, h⟩ := Finset.mem_map.mp h₂
  have e : role (csem x) = role (.reg barS) := congrArg (fun g : GSem nD τ sig => role g.2) h
  rw [role_csem] at e; rcases x with ⟨k, p⟩ | ⟨k, p⟩ | j <;> exact absurd e (by simp [role, crole])

def flipE (j : Leg) : Dev nD ≃ Dev nD := ⟨flip j, flip j, flip_flip j, flip_flip j⟩

/-- The tokens of a device's own cells. -/
def ownToks (c : Dev nD) : sProp 𝕄 :=
  iprop((bigSep Finset.univ fun j : Leg => dutyTok ER (barCell c) 0 j)
    ∗ (bigSep Finset.univ fun x : Ch × Ph => dutyTok ER (sndCell x.1 x.2 c) 0 .m1)
    ∗ (bigSep Finset.univ fun x : Ch × Ph => dutyTok ER (rcvCell x.1 x.2 c) 0 .m1)
    ∗ bigSep Finset.univ fun j : Lo => dutyTok ER (locCell j c) 0 .m1)

theorem toks_own : (bigSep allToks (fun x => (dutyTok ER x.1 x.2.1 x.2.2 : sProp 𝕄))) = bigSep Finset.univ fun c : Dev nD => ownToks (F := F) c := by
  unfold allToks; rw [bigSep_map, bigSep_univ_prod]
  exact bigSep_congr fun c _ => by unfold ownToks; rw [bigSep_univ_sum, bigSep_univ_sum, bigSep_univ_sum]; rfl

/-- Each token handed to the device that pays the duty. -/
theorem toks_dealt : (bigSep Finset.univ fun c : Dev nD => (ownToks (F := F) c : sProp 𝕄)) = bigSep Finset.univ fun c : Dev nD => toks c := by
  unfold ownToks toks
  rw [bigSep_sep', bigSep_sep', bigSep_sep', bigSep_sep', bigSep_sep', bigSep_sep',
    Pipeline.bigSep_univ_comm (fun (c : Dev nD) (j : Leg) => (dutyTok ER (barCell c) 0 j : sProp 𝕄)),
    Pipeline.bigSep_univ_comm (fun (c : Dev nD) (j : Leg) => (dutyTok ER (barCell (flip j c)) 0 j : sProp 𝕄)),
    Pipeline.bigSep_univ_comm (fun (c : Dev nD) (x : Ch × Ph) => (dutyTok ER (rcvCell x.1 x.2 c) 0 .m1 : sProp 𝕄)),
    Pipeline.bigSep_univ_comm (fun (c : Dev nD) (x : Ch × Ph) => (dutyTok ER (rcvCell x.1 x.2 (peer x.1 x.2 c)) 0 .m1 : sProp 𝕄)),
    bigSep_congr (s := Finset.univ) (fun (j : Leg) _ => bigSep_univ_equiv (flipE j) (fun c : Dev nD => (dutyTok ER (barCell c) 0 j : sProp 𝕄))),
    bigSep_congr (s := Finset.univ) (fun (x : Ch × Ph) _ => bigSep_univ_equiv (flipE (legOf x.1 x.2)) (fun c : Dev nD => (dutyTok ER (rcvCell x.1 x.2 c) 0 .m1 : sProp 𝕄)))]
  rfl

/-! ## The launch credit -/

theorem sig_bar (j : Leg) (d c : Dev nD) : (tallyAt (pcell (.sig j) d) () 1 : CellTallies nD τ sig Unit) (barCell c) () = if d = flip j c then 1 else 0 := by
  rw [tallyAt_apply]
  by_cases h : d = flip j c
  · subst h; rw [if_pos rfl, if_pos ⟨by show barCell c = barCell _; rw [flip_flip], rfl⟩]
  · rw [if_neg h, if_neg fun ⟨h1, _⟩ => h (by
      have e : c = flip j d := congrArg (fun g : GSem nD τ sig => g.1.1) h1
      rw [e, flip_flip])]
theorem tr_bar (k : Ch) (p : Ph) (n : ℕ) (d c : Dev nD) : (tallyAt (pcell (.tr k p) d) () n : CellTallies nD τ sig Unit) (barCell c) () = 0 := by
  rw [tallyAt_apply, if_neg]
  rintro ⟨h, -⟩
  have e : role (.reg barS) = role (.dma (recvS k p)) := congrArg (fun g : GSem nD τ sig => role g.2) h
  rw [role_rcv] at e; exact absurd e (by simp [role])
theorem sig_rcv (j : Leg) (n : ℕ) (k : Ch) (p : Ph) (d c : Dev nD) : (tallyAt (pcell (.sig j) d) () n : CellTallies nD τ sig Unit) (rcvCell k p c) () = 0 := by
  rw [tallyAt_apply, if_neg]
  rintro ⟨h, -⟩
  have e : role (.dma (recvS k p)) = role (.reg barS) := congrArg (fun g : GSem nD τ sig => role g.2) h
  rw [role_rcv] at e; exact absurd e (by simp [role])
theorem tr_rcv (k' : Ch) (p' : Ph) (n : ℕ) (k : Ch) (p : Ph) (d c : Dev nD) :
    (tallyAt (pcell (.tr k' p') d) () n : CellTallies nD τ sig Unit) (rcvCell k p c) () = if (k', p') = (k, p) then (if d = peer k p c then n else 0) else 0 := by
  rw [tallyAt_apply]
  by_cases hk : (k', p') = (k, p)
  · obtain ⟨rfl, rfl⟩ := Prod.mk.inj hk
    rw [if_pos rfl]
    by_cases h : d = peer k' p' c
    · subst h; rw [if_pos rfl, if_pos ⟨by show rcvCell _ _ c = rcvCell _ _ _; rw [peer_peer], rfl⟩]
    · rw [if_neg h, if_neg fun ⟨h1, _⟩ => h (by
        have e : c = peer k' p' d := congrArg (fun g : GSem nD τ sig => g.1.1) h1
        rw [e, peer_peer])]
  · rw [if_neg hk, if_neg]
    rintro ⟨h, -⟩
    have e : role (.dma (recvS k p)) = role (.dma (recvS k' p')) := congrArg (fun g : GSem nD τ sig => role g.2) h
    rw [role_rcv, role_rcv] at e
    injection e with e1 e2
    exact hk (by rw [e1, e2])

theorem owe_bar (d c : Dev nD) : owe d pays (barCell c) ()
    = ((if d = flip .m4 c then 1 else 0) + (if d = flip .m3 c then 1 else 0)) + (if d = flip .m1 c then 1 else 0) := by
  simp only [owe, Pi.add_apply, Finsupp.add_apply, pamt, tr_bar, sig_bar, Pi.zero_apply, Finsupp.coe_zero, Nat.zero_add]
theorem owe_rcv (k : Ch) (p : Ph) (d c : Dev nD) : owe d pays (rcvCell k p c) () = if d = peer k p c then amt k else 0 := by
  simp only [owe, Pi.add_apply, Finsupp.add_apply, pamt, sig_rcv, tr_rcv, Pi.zero_apply, Finsupp.coe_zero, Nat.zero_add, Nat.add_zero]
  cases k <;> cases p <;> simp only [Prod.mk.injEq, reduceCtorEq, and_false, false_and, and_self, ↓reduceIte, Nat.zero_add, Nat.add_zero]

theorem launch_bar (c : Dev nD) : tallyOn (barCell c) (launchCredit (Pipeline.owing fun c => owe c pays) 0 (barCell c))
    = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owe_bar d c, Finset.sum_add_distrib, Finset.sum_add_distrib,
    Finset.sum_ite_eq', Finset.sum_ite_eq', Finset.sum_ite_eq']
  simp
theorem launch_rcv (k : Ch) (p : Ph) (c : Dev nD) : tallyOn (rcvCell k p c) (launchCredit (Pipeline.owing fun c => owe c pays) 0 (rcvCell k p c))
    = (tallyAt (rcvCell k p c) () (amt k) : CellTallies nD τ sig Unit) := by
  unfold tallyAt; refine congrArg _ (Finsupp.ext fun u => ?_); cases u
  rw [Pipeline.launchCredit_owing, Finsupp.single_eq_same, Finset.sum_congr rfl fun d _ => owe_rcv k p d c, Finset.sum_ite_eq', if_pos (Finset.mem_univ _)]

def rcvEmb : Ch × Ph ↪ SemLoc sig := ⟨fun x => .dma (recvS x.1 x.2), fun x y h => by
  have e := congrArg role h
  simp only [role_rcv] at e
  injection e with e1 e2
  exact Prod.ext e1 e2⟩

theorem rcv_sub : (Finset.univ : Finset (Ch × Ph)).map rcvEmb ⊆ Finset.univ.erase (SemLoc.reg barS) := by
  intro s hs
  obtain ⟨x, -, rfl⟩ := Finset.mem_map.mp hs
  refine Finset.mem_erase.mpr ⟨fun h => ?_, Finset.mem_univ _⟩
  have e : role (.dma (recvS x.1 x.2)) = role (.reg barS) := congrArg role h
  rw [role_rcv] at e; exact absurd e (by simp [role])

theorem creds_intro (c : Dev nD) : (Pipeline.launchCred (fun c => owe c pays) c : sProp 𝕄) ⊢ creds c := by
  unfold Pipeline.launchCred creds
  rw [bigSep_univ_at _ (SemLoc.reg barS), launch_bar]
  refine sep_mono_right ?_
  rw [show (bigSep Finset.univ fun x : Ch × Ph => cred (tallyAt (rcvCell x.1 x.2 c) () (amt x.1)) : sProp 𝕄)
      = bigSep (Finset.univ.map rcvEmb) (fun sm => cred (tallyOn ((c : Thread nD τ), sm) (launchCredit (Pipeline.owing fun c => owe c pays) 0 ((c : Thread nD τ), sm)))) from by
    rw [bigSep_map]
    exact bigSep_congr fun x _ => (congrArg cred (launch_rcv x.1 x.2 c)).symm]
  exact BI.bigSep_subset rcv_sub

/-! ## The launch -/

def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's launch element, kept by device 0 until it is dealt. -/
def held0 (c : Dev nD) : sProp 𝕄 := if c = 0 then BI.own (ER (launchOf barCells scCells allToks)) else iprop(emp)

theorem held0_all : bigSep Finset.univ (held0 (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold held0; rw [if_neg (Finset.ne_of_mem_erase hc)]; rfl, BI.bigSep_emp_const]
  unfold held0; rw [if_pos rfl]
  exact BI.equiv_iff.mp sep_emp

theorem unscoped_bar : ∀ sm : SemLoc sig, sm.isScoped .tc = false → sm = .reg barS := by decide
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

/-- What a device is dealt of the protocol's state. -/
def dealt (c : Dev nD) : sProp 𝕄 :=
  iprop(atPos ER (barCell c) 0 ∅ 0 ∗ (bigSep Finset.univ fun x : Cx => openTok ER (cell x c)) ∗ toks c)
/-- What it has without. -/
def plain (c : Dev nD) : sProp 𝕄 :=
  iprop(StableHlo.held (c : Thread nD τ) (Pipeline.ucRefs τ sig) (V₀ m c) ∗ creds c ∗ owes (c : Thread nD τ) (owe c pays) ∅ ∗ ∃ r, prngReg c r)

theorem T₀_intro (κ : GSem nD τ sig → ℕ) (c : Dev nD) : iprop(recs (inp m) κ ∗ (dealt c ∗ plain m c)) ⊢ (T₀ m c : sProp 𝕄) := by
  unfold dealt plain T₀ R Tk
  iintro ⟨HR, ⟨HB, Ho, Ht⟩, Hh, Hc, HO, Hp⟩
  isplitl [Hh]; · iexact Hh
  isplitl [HR HB Ho Ht Hc]
  · isplitl [HR]; · iexists κ; iexact HR
    isplitl [Ho]; · iexact Ho
    isplitl [Ht]; · iexact Ht
    isplitl [Hc]; · iexact Hc
    iexact HB
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (owe c pays) ∅ ∗ Pipeline.launchCred (fun c => owe c pays) c ∗ prngReg c (ρ c) ∗ held0 c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c pays) ∅ ∗ Pipeline.launchCred (fun c => owe c pays) c ∗ prngReg c (ρ c) ∗ held0 c)
      ⊢ (iprop(plain m c ∗ (semVal (barCell c) 0 ∗ held0 c)) : sProp 𝕄) := by
    rw [show unscopedBufs c (fun b => m ((c : Thread nD τ).loc b)) = StableHlo.held (c : Thread nD τ) (Pipeline.ucRefs τ sig) (V₀ m c) from
      Pipeline.unscopedBufs_held c (V₀ m c), unscoped_sems]
    unfold plain
    iintro ⟨Hh, Hus, HO, Hcr, Hp, HG⟩
    isplitl [Hh HO Hcr Hp]
    · isplitl [Hh]; · iexact Hh
      isplitl [Hcr]; · iapply (creds_intro (F := F) c) $$ Hcr
      isplitl [HO]; · iexact HO
      iexists (ρ c); iexact Hp
    isplitl [Hus]; · iexact Hus
    iexact HG
  have hv : bigSep Finset.univ (fun c : Dev nD => (semVal (barCell c) 0 : sProp 𝕄)) = bigSep barCells (fun g => (semVal g 0 : sProp 𝕄)) := by
    unfold barCells; rw [bigSep_map]; rfl
  have hat : bigSep barCells (fun g => (atPos ER g 0 ∅ 0 : sProp 𝕄)) = bigSep Finset.univ (fun c : Dev nD => (atPos ER (barCell c) 0 ∅ 0 : sProp 𝕄)) := by
    unfold barCells; rw [bigSep_map]; rfl
  have hop : bigSep scCells (fun g => (openTok ER g : sProp 𝕄))
      = bigSep Finset.univ (fun c : Dev nD => bigSep Finset.univ fun x : Cx => (openTok ER (cell x c) : sProp 𝕄)) := by
    unfold scCells; rw [bigSep_map, bigSep_univ_prod]; rfl
  iintro ⟨H, -⟩
  ihave H' := (show (bigSep Finset.univ fun c : Dev nD => iprop(unscopedBufs c (fun b => m ((c : Thread nD τ).loc b)) ∗ unscopedSems0 c
          ∗ owes (c : Thread nD τ) (owe c pays) ∅ ∗ Pipeline.launchCred (fun c => owe c pays) c ∗ prngReg c (ρ c) ∗ held0 c))
      ⊢ (bigSep Finset.univ fun c : Dev nD => iprop(plain m c ∗ (semVal (barCell c) 0 ∗ held0 c)) : sProp 𝕄) from bigSep_mono fun c _ => hcore c) $$ H
  ihave H2 := unpair_elim $$ H'; icases H2 with ⟨HB, H3⟩
  ihave H4 := unpair_elim $$ H3; icases H4 with ⟨Hv, HG⟩
  ihave Hu := (Entails.of_eq (held0_all (F := F))) $$ HG
  imod (Rounds.fund_launch ER (Rd (inp m)) cells_disjoint (fun g _ h => h) allToks) $$ [Hv Hu] with ⟨%κ, -, #Hinv, #Hr, Hat, Hopen, Htok⟩
  · isplitl [Hv]
    · iapply (Entails.of_eq hv) $$ Hv
    · iexact Hu
  imodintro
  iapply (bigSep_with_persistent (R := recs (inp m) κ) (Φ := fun c => iprop(dealt c ∗ plain m c)) fun c _ => T₀_intro m κ c)
  isplitr
  · unfold recs
    isplitr; · iexact Hinv
    iexact Hr
  iapply pair_intro
  isplitr [HB]
  · unfold dealt
    iapply pair_intro; isplitl [Hat]; · iapply (Entails.of_eq hat) $$ Hat
    iapply pair_intro; isplitl [Hopen]; · iapply (Entails.of_eq hop) $$ Hopen
    iapply (Entails.of_eq (toks_dealt (F := F)))
    iapply (Entails.of_eq (toks_own (F := F))) $$ Htok
  · iexact HB

/-! ## The run -/

def segs : List (Pipeline.Seg (pcfgs (F := F)) adm (pdats m) () defs₀ 𝒱₀ L lv) := [.host (seg0 m), .region (reg m)]

theorem main_eq (c : Dev nD) : main (F := F) c = Pipeline.Seg.run (segs m) :=
  Gen.main_segs adm (pdats m) () 𝒱₀ L lv (seg0 m) (reg m) rfl c

theorem held_eq (c : Dev nD) (W : Valuation τ sig (Elt F)) : (StableHlo.held (c : Thread nD τ) (Pipeline.ucRefs τ sig) W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3, Proc.devRef .tc main_v4] (by decide) (by decide)]
  rfl

set_option backward.isDefEq.respectTransparency.types false in
theorem reg_pre (c : Dev nD) : iprop(StableHlo.held (c : Thread nD τ) (Pipeline.ucRefs τ sig) (V₁ m c) ∗ R m c) ⊢ ((reg m).pre c : sProp 𝕄) := by
  show iprop(StableHlo.held (c : Thread nD τ) (Pipeline.ucRefs τ sig) (V₁ m c) ∗ R m c)
    ⊢ iprop(StableHlo.held (c : Thread nD τ) arrD (V₁ m c) ∗ (∃ r, prngReg c r) ∗ (StableHlo.held (c : Thread nD τ) restD (V₁ m c) ∗ emp)
      ∗ Tk m c ∗ ∃ W, owes (c : Thread nD τ) (0 + owe c pays : CellTallies nD τ sig Unit) W)
  rw [StableHlo.held_sub_split (c : Thread nD τ) arr_sub, zero_add]
  unfold R
  iintro ⟨⟨HA, HR⟩, HT, Hp, HO⟩
  isplitl [HA]; · iexact HA
  isplitl [Hp]; · iexact Hp
  isplitl [HR]
  · isplitl [HR]; · iexact HR
    iempintro
  isplitl [HT]; · iexact HT
  iexact HO

set_option backward.isDefEq.respectTransparency.types false in
theorem reg_post (c : Dev nD) : ((reg m).post c : sProp 𝕄) ⊢ iprop(Tₙ m c ∗ ∃ W, owes (c : Thread nD τ) (0 : CellTallies nD τ sig Unit) W) := by
  show iprop(StableHlo.held (c : Thread nD τ) arrD (V₂ m c) ∗ (∃ r, prngReg c r) ∗ (StableHlo.held (c : Thread nD τ) restD (V₂ m c) ∗ emp)
      ∗ Yk c ∗ ∃ W, owes (c : Thread nD τ) (0 : CellTallies nD τ sig Unit) W) ⊢ _
  unfold Tₙ Yk
  rw [StableHlo.held_sub_split (c : Thread nD τ) arr_sub]
  iintro ⟨HA, -, ⟨HR, -⟩, HB, HO⟩
  isplitr [HO]
  · isplitl [HA HR]
    · isplitl [HA]; · iexact HA
      iexact HR
    iexact HB
  iexact HO

theorem V₂_arg0 (c : Dev nD) : V₂ m c main_arg0 = m ((c : Thread nD τ).loc main_arg0) := (V₂_ne m c (by decide)).trans (V_main_arg0 m c)
theorem V₂_arg1 (c : Dev nD) : V₂ m c main_arg1 = m ((c : Thread nD τ).loc main_arg1) := (V₂_ne m c (by decide)).trans (V_main_arg1 m c)
theorem V₂_arg2 (c : Dev nD) : V₂ m c main_arg2 = m ((c : Thread nD τ).loc main_arg2) := (V₂_ne m c (by decide)).trans (V_main_arg2 m c)
theorem V₂_arg3 (c : Dev nD) : V₂ m c main_arg3 = m ((c : Thread nD τ).loc main_arg3) := (V₂_ne m c (by decide)).trans (V_main_arg3 m c)
theorem V₂_arg4 (c : Dev nD) : V₂ m c main_arg4 = m ((c : Thread nD τ).loc main_arg4) := (V₂_ne m c (by decide)).trans (V_main_arg4 m c)

set_option backward.isDefEq.respectTransparency.types false in
/-- The run from any memory with zero counters, over any float values: it ends on every fair schedule, and then every
    device's arguments are unchanged, its result array holds the exchange's contents, and every counter is zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v4) = outV (inp m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owe c pays) (hL := L_of_ne) (G := held0) (u₀ := u₀ (F := F))
    (hu₀ := by
      unfold u₀
      iintro Hu
      ihave H := (ownU_pair _ _) $$ Hu
      icases H with ⟨HP, HX⟩
      imodintro
      isplitl [HP]; · iexact HP
      rw [held0_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0
        ∧ s.mem ((c : Thread nD τ).loc main_arg1) = V₂ m c main_arg1
        ∧ s.mem ((c : Thread nD τ).loc main_arg2) = V₂ m c main_arg2
        ∧ s.mem ((c : Thread nD τ).loc main_arg3) = V₂ m c main_arg3
        ∧ s.mem ((c : Thread nD τ).loc main_arg4) = V₂ m c main_arg4
        ∧ s.mem ((c : Thread nD τ).loc main_v4) = V₂ m c main_v4) ∧ s.sem (barCell c) = 0)
    (hfin := fun c s' => by
      dsimp only [Tₙ]; rw [held_eq]
      iintro ⟨⟨⟨H0, H1, H2, H3, H4, -, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans (V₂_arg0 m c), h1.trans (V₂_arg1 m c), h2.trans (V₂_arg2 m c), h3.trans (V₂_arg3 m c), h4.trans (V₂_arg4 m c)⟩, h5.trans (V₂_out m c)⟩,
      sem_eq_zero hs fun c sm hsm => by
        obtain rfl := unscoped_bar sm hsm
        exact (h c).2⟩)

/-- What the run leaves of the arguments and the counters alone. -/
theorem run_frame : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c => (h.1 c).1, h.2⟩) (run_main m ρ)

end Cert.Exchange

end
-- ==== Proof.Stages.lean ====
/-
# The reference, stage by stage

The reference reads the keys in four chunks, keeping for every row the largest score so far, the sum of the
exponentials below it and the weighted sum of the values. Here its result is named stage by stage, and each stage is
read at one entry.
-/
module

public import proofs.«01_k».proof.Proof.Gen.ReferenceIdeal.Run
public import Idealize.ShloMosaic.Lib.Pointwise

@[expose] public section

noncomputable section

namespace Cert.Stages

open Cert.ReferenceIdeal Cert.ReferenceIdeal.Gen
open Idealize.ShloMosaic Idealize.ShloMosaic.TcCoe Idealize.SL.Sem

/-- The query heads. -/
def qh (x : FVec Ideal S2x256x768 .f32) (wq : FVec Ideal S768x512 .f32) : FVec Ideal S2x256x8x64 .f32 :=
  shapeCast S2x256x8x64 (Host.dotGeneral dot_S2x256x768_S768x512_S2x256x512_2_0_01_1_n_n none x wq) shapeCasts_S2x256x512_S2x256x8x64

/-- The keys, or the values, each repeated for the four heads of its group. -/
def rep (a : FVec Ideal S2x4096x2x64 .f32) : FVec Ideal S2x4096x8x64 .f32 :=
  shapeCast S2x4096x8x64 (broadcastInDim S2x4096x2x4x64 ![0, 1, 2, 4] bcast_S2x4096x2x64_S2x4096x2x4x64_0_1_2_4 a) shapeCasts_S2x4096x2x4x64_S2x4096x8x64

/-- The four chunks of the keys or values. -/
def cut0 (a : FVec Ideal S2x4096x8x64 .f32) : FVec Ideal S2x1024x8x64 .f32 :=
  extractStridedSlice S2x1024x8x64 ![0, 0, 0, 0] a slices_S2x4096x8x64_S2x1024x8x64_0_0_0_0
def cut1 (a : FVec Ideal S2x4096x8x64 .f32) : FVec Ideal S2x1024x8x64 .f32 :=
  extractStridedSlice S2x1024x8x64 ![0, 1024, 0, 0] a slices_S2x4096x8x64_S2x1024x8x64_0_1024_0_0
def cut2 (a : FVec Ideal S2x4096x8x64 .f32) : FVec Ideal S2x1024x8x64 .f32 :=
  extractStridedSlice S2x1024x8x64 ![0, 2048, 0, 0] a slices_S2x4096x8x64_S2x1024x8x64_0_2048_0_0
def cut3 (a : FVec Ideal S2x4096x8x64 .f32) : FVec Ideal S2x1024x8x64 .f32 :=
  extractStridedSlice S2x1024x8x64 ![0, 3072, 0, 0] a slices_S2x4096x8x64_S2x1024x8x64_0_3072_0_0

/-- The scores of a chunk. -/
def scr (q : FVec Ideal S2x256x8x64 .f32) (k : FVec Ideal S2x1024x8x64 .f32) : FVec Ideal S2x8x256x1024 .f32 :=
  mulf (Host.dotGeneral dot_S2x256x8x64_S2x1024x8x64_S2x8x256x1024_3_3_1_1_02_02 none q k)
    (broadcastInDim S2x8x256x1024 ![] bcast_S_S2x8x256x1024 (constant S_ .f32 0x3E000000#32))

/-- The largest score so far. -/
def top (m : FVec Ideal S2x8x256x1 .f32) (s : FVec Ideal S2x8x256x1024 .f32) : FVec Ideal S2x8x256x1 .f32 :=
  maximumf m (broadcastInDim S2x8x256x1 ![0, 1, 2] bcast_S2x8x256_S2x8x256x1_0_1_2
    (Host.reduce FloatOps.maximumf s (constant S_ .f32 0xFF800000#32) reducesTo_S2x8x256x1024_S2x8x256_d3 h_S_))

/-- The exponentials of a chunk's scores below the largest. -/
def wts (m : FVec Ideal S2x8x256x1 .f32) (s : FVec Ideal S2x8x256x1024 .f32) : FVec Ideal S2x8x256x1024 .f32 :=
  Host.exp (subf s (broadcastInDim S2x8x256x1024 ![0, 1, 2, 3] bcast_S2x8x256x1_S2x8x256x1024_0_1_2_3 m))

/-- The sum of the exponentials after a chunk. -/
def den (l m n : FVec Ideal S2x8x256x1 .f32) (p : FVec Ideal S2x8x256x1024 .f32) : FVec Ideal S2x8x256x1 .f32 :=
  addf (mulf l (Host.exp (subf m n))) (broadcastInDim S2x8x256x1 ![0, 1, 2] bcast_S2x8x256_S2x8x256x1_0_1_2
    (Host.reduceAdd p (constant S_ .f32 0x00000000#32) reducesTo_S2x8x256x1024_S2x8x256_d3 h_S_))

/-- The weighted sum of the values after a chunk. -/
def acc (o : FVec Ideal S2x256x8x64 .f32) (m n : FVec Ideal S2x8x256x1 .f32) (p : FVec Ideal S2x8x256x1024 .f32)
    (v : FVec Ideal S2x1024x8x64 .f32) : FVec Ideal S2x256x8x64 .f32 :=
  addf (mulf o (broadcastInDim S2x256x8x64 ![0, 1, 2, 3] bcast_S2x256x8x1_S2x256x8x64_0_1_2_3
      (transpose S2x256x8x1 [0, 2, 1, 3] (Host.exp (subf m n)) transposes_S2x8x256x1_S2x256x8x1_0_2_1_3)))
    (transpose S2x256x8x64 [0, 3, 1, 2] (Host.dotGeneral dot_S2x1024x8x64_S2x8x256x1024_S2x8x64x256_1_3_3_2_02_01 none v p)
      transposes_S2x8x64x256_S2x256x8x64_0_3_1_2)

/-- What is kept between two chunks. -/
structure Kept where
  m : FVec Ideal S2x8x256x1 .f32
  l : FVec Ideal S2x8x256x1 .f32
  o : FVec Ideal S2x256x8x64 .f32

/-- What is kept before the first chunk. -/
def kept0 : Kept :=
  ⟨broadcastInDim S2x8x256x1 ![] bcast_S_S2x8x256x1 (constant S_ .f32 0xFF800000#32),
   broadcastInDim S2x8x256x1 ![] bcast_S_S2x8x256x1 (constant S_ .f32 0x00000000#32),
   broadcastInDim S2x256x8x64 ![] bcast_S_S2x256x8x64 (constant S_ .f32 0x00000000#32)⟩

/-- One chunk. -/
def step (K : Kept) (s : FVec Ideal S2x8x256x1024 .f32) (v : FVec Ideal S2x1024x8x64 .f32) : Kept :=
  ⟨top K.m s, den K.l K.m (top K.m s) (wts (top K.m s) s), acc K.o K.m (top K.m s) (wts (top K.m s) s) v⟩

/-- The four chunks. -/
def kept4 (x : FVec Ideal S2x256x768 .f32) (wq : FVec Ideal S768x512 .f32) (k v : FVec Ideal S2x4096x2x64 .f32) : Kept :=
  step (step (step (step kept0 (scr (qh x wq) (cut0 (rep k))) (cut0 (rep v))) (scr (qh x wq) (cut1 (rep k))) (cut1 (rep v)))
    (scr (qh x wq) (cut2 (rep k))) (cut2 (rep v))) (scr (qh x wq) (cut3 (rep k))) (cut3 (rep v))

/-- The quotient of what is kept, with the heads side by side, times the output weights. -/
def fin (K : Kept) (wo : FVec Ideal S512x768 .f32) : FVec Ideal S2x256x768 .f32 :=
  Host.dotGeneral dot_S2x256x512_S512x768_S2x256x768_2_0_01_1_n_n none
    (shapeCast S2x256x512 (Host.divf K.o (broadcastInDim S2x256x8x64 ![0, 1, 2, 3] bcast_S2x256x8x1_S2x256x8x64_0_1_2_3
      (transpose S2x256x8x1 [0, 2, 1, 3] K.l transposes_S2x8x256x1_S2x256x8x1_0_2_1_3))) shapeCasts_S2x256x8x64_S2x256x512) wo

set_option maxRecDepth 8192 in
/-- The reference's result is the last stage. -/
theorem result_eq (m : (ℓ : Loc nD τ sig) → Buf (Elt Ideal) ℓ) (c : Dev nD) :
    Value.res_main_v105 m c = fin (kept4 (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := by
  unfold Value.res_main_v105
  rfl

/-- The query heads at an entry. -/
theorem qh_at (x : FVec Ideal S2x256x768 .f32) (wq : FVec Ideal S768x512 .f32) (b : Fin 2) (i : Fin 256) (h : Fin 8) (e : Fin 64) :
    qh x wq (ix4 b i h e) = ∑ d : Fin 768, x (ix3 b i d) * wq (ix2 d (⟨h.val * 64 + e.val, by omega⟩ : Fin 512)) := by
  pointwise [qh]

/-- The repeated keys or values at an entry. -/
theorem rep_at (a : FVec Ideal S2x4096x2x64 .f32) (b : Fin 2) (n : Fin 4096) (h : Fin 8) (e : Fin 64) :
    rep a (ix4 b n h e) = a (ix4 b n (⟨h.val / 4, by omega⟩ : Fin 2) e) := by
  pointwise [rep]

/-- Chunk 0 at an entry. -/
theorem cut0_at (a : FVec Ideal S2x4096x8x64 .f32) (b : Fin 2) (j : Fin 1024) (h : Fin 8) (e : Fin 64) :
    cut0 a (ix4 b j h e) = a (ix4 b (⟨j.val, by omega⟩ : Fin 4096) h e) := by
  pointwise [cut0]

/-- Chunk 1 at an entry. -/
theorem cut1_at (a : FVec Ideal S2x4096x8x64 .f32) (b : Fin 2) (j : Fin 1024) (h : Fin 8) (e : Fin 64) :
    cut1 a (ix4 b j h e) = a (ix4 b (⟨1024 + j.val, by omega⟩ : Fin 4096) h e) := by
  pointwise [cut1]

/-- Chunk 2 at an entry. -/
theorem cut2_at (a : FVec Ideal S2x4096x8x64 .f32) (b : Fin 2) (j : Fin 1024) (h : Fin 8) (e : Fin 64) :
    cut2 a (ix4 b j h e) = a (ix4 b (⟨2048 + j.val, by omega⟩ : Fin 4096) h e) := by
  pointwise [cut2]

/-- Chunk 3 at an entry. -/
theorem cut3_at (a : FVec Ideal S2x4096x8x64 .f32) (b : Fin 2) (j : Fin 1024) (h : Fin 8) (e : Fin 64) :
    cut3 a (ix4 b j h e) = a (ix4 b (⟨3072 + j.val, by omega⟩ : Fin 4096) h e) := by
  pointwise [cut3]

/-- A chunk's scores at an entry. -/
theorem scr_at (q : FVec Ideal S2x256x8x64 .f32) (k : FVec Ideal S2x1024x8x64 .f32) (b : Fin 2) (i : Fin 256) (h : Fin 8) (j : Fin 1024) :
    scr q k (ix4 b h i j) = (∑ e : Fin 64, q (ix4 b i h e) * k (ix4 b j h e)) * Ideal.ofBits .f32 0x3E000000#32 := by
  pointwise [scr]

theorem keys_last : S2x8x256x1024.Reduces [3] S2x8x256 := by decide

/-- The largest along the keys, as a fold over the keys. -/
theorem fold_at (x : FVec Ideal S2x8x256x1024 .f32) (z : FVec Ideal S_ .f32) (b : Fin 2) (i : Fin 256) (h : Fin 8) :
    Host.reduce (FloatOps.maximumf (F := Ideal)) x z reducesTo_S2x8x256x1024_S2x8x256_d3 h_S_ (ix3 b h i)
      = (Finset.univ : Finset (Fin 1024)).fold max (z (Shape.Idx.first h_S_)) (fun j => x (ix4 b h i j)) := by
  refine (Host.reduce_eq_fold_single (max : EReal → EReal → EReal) x z reducesTo_S2x8x256x1024_S2x8x256_d3 keys_last h_S_ _).trans ?_
  refine congrArg (fun f => Finset.fold max _ f _) (funext fun j => congrArg x ?_)
  funext a
  fin_cases a <;> rfl

/-- A number per row, kept as a column. -/
theorem col_at (r : FVec Ideal S2x8x256 .f32) (b : Fin 2) (i : Fin 256) (h : Fin 8) :
    broadcastInDim S2x8x256x1 ![0, 1, 2] bcast_S2x8x256_S2x8x256x1_0_1_2 r (ix4 b h i 0) = r (ix3 b h i) := by
  pointwise

/-- The pattern of minus infinity. -/
theorem neg_inf : Ideal.ofBits .f32 0xFF800000#32 = ⊥ := by
  simp [Ideal.ofBits, Ideal.ieee]

theorem first_at : (constant S_ .f32 0xFF800000#32 : FVec Ideal S_ .f32) (Shape.Idx.first h_S_) = ⊥ := neg_inf

theorem max_at (m n : FVec Ideal S2x8x256x1 .f32) (j : S2x8x256x1.Idx) : maximumf m n j = max (m j) (n j) := rfl

/-- The largest score so far at a row. -/
theorem top_at (m : FVec Ideal S2x8x256x1 .f32) (s : FVec Ideal S2x8x256x1024 .f32) (b : Fin 2) (i : Fin 256) (h : Fin 8) :
    top m s (ix4 b h i 0)
      = max (m (ix4 b h i 0)) ((Finset.univ : Finset (Fin 1024)).fold max ⊥ (fun j => s (ix4 b h i j))) := by
  unfold top
  rw [max_at, col_at, fold_at, first_at]

/-- The exponentials of a chunk at an entry. -/
theorem wts_at (m : FVec Ideal S2x8x256x1 .f32) (s : FVec Ideal S2x8x256x1024 .f32) (b : Fin 2) (i : Fin 256) (h : Fin 8) (j : Fin 1024) :
    wts m s (ix4 b h i j) = Ideal.exp (s (ix4 b h i j) - m (ix4 b h i 0)) := by
  pointwise [wts]

/-- The sum of the exponentials at a row. -/
theorem den_at (l m n : FVec Ideal S2x8x256x1 .f32) (p : FVec Ideal S2x8x256x1024 .f32) (b : Fin 2) (i : Fin 256) (h : Fin 8) :
    den l m n p (ix4 b h i 0)
      = l (ix4 b h i 0) * Ideal.exp (m (ix4 b h i 0) - n (ix4 b h i 0)) + ∑ j : Fin 1024, p (ix4 b h i j) := by
  pointwise [den]

/-- The weighted sum of the values at an entry. -/
theorem acc_at (o : FVec Ideal S2x256x8x64 .f32) (m n : FVec Ideal S2x8x256x1 .f32) (p : FVec Ideal S2x8x256x1024 .f32)
    (v : FVec Ideal S2x1024x8x64 .f32) (b : Fin 2) (i : Fin 256) (h : Fin 8) (e : Fin 64) :
    acc o m n p v (ix4 b i h e)
      = o (ix4 b i h e) * Ideal.exp (m (ix4 b h i 0) - n (ix4 b h i 0)) + ∑ j : Fin 1024, v (ix4 b j h e) * p (ix4 b h i j) := by
  pointwise [acc]

/-- The last stage at an entry. -/
theorem fin_at (K : Kept) (wo : FVec Ideal S512x768 .f32) (b : Fin 2) (i : Fin 256) (n : Fin 768) :
    fin K wo (ix3 b i n) = ∑ c : Fin 512, Ideal.div (K.o (ix4 b i (⟨c.val / 64, by omega⟩ : Fin 8) (⟨c.val % 64, by omega⟩ : Fin 64)))
      (K.l (ix4 b (⟨c.val / 64, by omega⟩ : Fin 8) i 0)) * wo (ix2 c n) := by
  pointwise [fin]

/-- Before the first chunk: the largest score is minus infinity, the sums are zero. -/
theorem kept0_m (b : Fin 2) (i : Fin 256) (h : Fin 8) : kept0.m (ix4 b h i 0) = ⊥ := by
  refine Eq.trans ?_ neg_inf
  pointwise [kept0]
theorem kept0_l (b : Fin 2) (i : Fin 256) (h : Fin 8) : kept0.l (ix4 b h i 0) = 0 := by
  refine Eq.trans ?_ Ideal.ofBits_zero_f32
  pointwise [kept0]
theorem kept0_o (b : Fin 2) (i : Fin 256) (h : Fin 8) (e : Fin 64) : kept0.o (ix4 b i h e) = 0 := by
  refine Eq.trans ?_ Ideal.ofBits_zero_f32
  pointwise [kept0]

end Cert.Stages

end
-- ==== Proof.Cuts.lean ====
/-
# Sums cut into equal parts
-/
module

public import proofs.«01_k».proof.Proof.Gen.KernelIdeal
public import Idealize.ShloMosaic.Lib.Pointwise

@[expose] public section

noncomputable section

namespace Cert.Attn

/-- A position of part `i`, of `m` parts of `n` each. -/
theorem part_lt {m n N : ℕ} (h : m * n = N) (i : Fin m) (j : Fin n) : n * i.val + j.val < N := by
  have h1 : n * i.val + j.val < n * i.val + n := by omega
  have h2 : n * (i.val + 1) ≤ n * m := Nat.mul_le_mul_left n i.isLt
  have h3 : n * (i.val + 1) = n * i.val + n := Nat.mul_succ n i.val
  have h4 : n * m = N := by rw [Nat.mul_comm]; exact h
  omega

/-- A sum over `N = m n` positions is the sum over the parts of the sums in each part. -/
theorem sum_parts {m n N : ℕ} (h : m * n = N) (f : Fin N → EReal) :
    ∑ c, f c = ∑ i : Fin m, ∑ j : Fin n, f ⟨n * i.val + j.val, part_lt h i j⟩ := by
  subst h
  rw [← Equiv.sum_comp finProdFinEquiv, Fintype.sum_prod_type]
  refine Finset.sum_congr rfl fun i _ => Finset.sum_congr rfl fun j _ => congrArg f (Fin.ext ?_)
  simp [finProdFinEquiv]
  omega

end Cert.Attn

end
-- ==== Proof.Online.lean ====
/-
# A running softmax

Keeping the largest score so far, the sum of the exponentials below it and the weighted sum of the values, chunk by
chunk, and dividing at the end, gives the quotient of the plain sums: every real score, whatever the values.
-/
module

public import Idealize.ShloMosaic.PureOps.Ideal
public import Idealize.ShloMosaic.Lib.IdealHost
public import proofs.«01_k».proof.Proof.Cuts

@[expose] public section

noncomputable section

namespace Cert.Attn

open Idealize.ShloMosaic

/-- A real number, among the extended ones. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨p, hp⟩ := h a
    obtain ⟨q, hq⟩ := ih
    exact ⟨p + q, by rw [hp, hq, EReal.coe_add]⟩

/-- A nonnegative real factor goes into a sum of extended reals. -/
theorem real_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The largest of real numbers, and of what came before if it is no infinity from above, is real. -/
theorem max_real {n : ℕ} (hn : 0 < n) (m : EReal) (hm : m ≠ ⊤) (s : Fin n → EReal) (hs : ∀ j, IsReal (s j)) :
    IsReal (max m (Finset.univ.fold max ⊥ s)) := by
  have hlt : max m (Finset.univ.fold max ⊥ s) < ⊤ := by
    refine max_lt (lt_top_iff_ne_top.2 hm) ?_
    rw [Finset.fold_max_lt]
    refine ⟨bot_lt_top, fun j _ => ?_⟩
    obtain ⟨r, hr⟩ := hs j
    rw [hr]
    exact EReal.coe_lt_top r
  have hgt : ⊥ < max m (Finset.univ.fold max ⊥ s) := by
    refine lt_max_of_lt_right ?_
    rw [Finset.lt_fold_max]
    obtain ⟨r, hr⟩ := hs ⟨0, hn⟩
    exact Or.inr ⟨⟨0, hn⟩, Finset.mem_univ _, by rw [hr]; exact EReal.bot_lt_coe r⟩
  exact ⟨_, (EReal.coe_toReal hlt.ne hgt.ne').symm⟩

/-- What is kept of sums of exponentials `A` and of weighted values `B`: both times the exponential of the negated
    largest score; or nothing yet. -/
def Keeps (m l o A B : EReal) : Prop :=
  (m = ⊥ ∧ l = 0 ∧ o = 0 ∧ A = 0 ∧ B = 0)
  ∨ ∃ M : ℝ, m = M ∧ l = (Real.exp (-M) : EReal) * A ∧ o = (Real.exp (-M) : EReal) * B

theorem exp_sub (s M : ℝ) : Ideal.exp ((s : EReal) - (M : EReal)) = (Real.exp (-M) : EReal) * Ideal.exp (s : EReal) := by
  rw [← EReal.coe_sub, Ideal.exp_coe, Ideal.exp_coe, ← EReal.coe_mul, ← Real.exp_add]
  congr 2
  ring

/-- What was kept, brought below a new largest score. -/
theorem Keeps.lower {m l o A B : EReal} (h : Keeps m l o A B) (M' : ℝ) :
    l * Ideal.exp (m - (M' : EReal)) = (Real.exp (-M') : EReal) * A
    ∧ o * Ideal.exp (m - (M' : EReal)) = (Real.exp (-M') : EReal) * B := by
  rcases h with ⟨rfl, rfl, rfl, rfl, rfl⟩ | ⟨M, rfl, rfl, rfl⟩
  · simp
  · have key : ∀ X : EReal, (Real.exp (-M) : EReal) * X * Ideal.exp ((M : EReal) - (M' : EReal)) = (Real.exp (-M') : EReal) * X := by
      intro X
      rw [mul_right_comm, ← EReal.coe_sub, Ideal.exp_coe, ← EReal.coe_mul, ← Real.exp_add]
      congr 3
      ring
    exact ⟨key A, key B⟩

/-- One chunk of real scores. -/
theorem Keeps.step {n : ℕ} (hn : 0 < n) {m l o A B : EReal} (h : Keeps m l o A B) (s v : Fin n → EReal)
    (hs : ∀ j, IsReal (s j)) (m' : EReal) (hm' : m' = max m (Finset.univ.fold max ⊥ s)) :
    Keeps m' (l * Ideal.exp (m - m') + ∑ j, Ideal.exp (s j - m'))
      (o * Ideal.exp (m - m') + ∑ j, v j * Ideal.exp (s j - m'))
      (A + ∑ j, Ideal.exp (s j)) (B + ∑ j, Ideal.exp (s j) * v j) := by
  have hm : m ≠ ⊤ := by
    rcases h with ⟨rfl, _⟩ | ⟨M, rfl, _⟩
    · exact bot_ne_top
    · exact EReal.coe_ne_top M
  obtain ⟨M', hM'⟩ := max_real hn m hm s hs
  rw [← hm'] at hM'
  clear hm'
  subst hM'
  obtain ⟨hl, ho⟩ := h.lower M'
  have hc : (0 : ℝ) ≤ Real.exp (-M') := (Real.exp_pos _).le
  have hd : ∀ X Y : EReal, (Real.exp (-M') : EReal) * (X + Y) = (Real.exp (-M') : EReal) * X + (Real.exp (-M') : EReal) * Y :=
    fun X Y => by
      exact EReal.left_distrib_of_nonneg_of_ne_top (EReal.coe_nonneg.2 hc) (EReal.coe_ne_top _) X Y
  have he : ∀ j, Ideal.exp (s j - (M' : EReal)) = (Real.exp (-M') : EReal) * Ideal.exp (s j) := by
    intro j
    obtain ⟨r, hr⟩ := hs j
    rw [hr]
    exact exp_sub r M'
  refine Or.inr ⟨M', rfl, ?_, ?_⟩
  · rw [hl, hd, real_mul_sum _ _ hc]
    exact congrArg _ (Finset.sum_congr rfl fun j _ => he j)
  · rw [ho, hd, real_mul_sum _ _ hc]
    refine congrArg _ (Finset.sum_congr rfl fun j _ => ?_)
    rw [he j, mul_left_comm, mul_comm (v j)]

/-- The quotient of what is kept is the quotient of the sums, if the sum of exponentials is a positive real. -/
theorem Keeps.div {m l o A B : EReal} (h : Keeps m l o A B) (hA : ∃ a : ℝ, 0 < a ∧ A = a) :
    Ideal.div o l = Ideal.div B A := by
  obtain ⟨a, ha, rfl⟩ := hA
  rcases h with ⟨_, _, _, h0, _⟩ | ⟨M, _, rfl, rfl⟩
  · exact absurd (EReal.coe_eq_zero.1 h0) ha.ne'
  · have hc := Real.exp_pos (-M)
    have h1 : ((a : ℝ) : EReal) ≠ 0 := fun e => ha.ne' (EReal.coe_eq_zero.1 e)
    have h2 : (Real.exp (-M) : EReal) * (a : EReal) ≠ 0 := by
      rw [← EReal.coe_mul]
      exact fun e => (mul_pos hc ha).ne' (EReal.coe_eq_zero.1 e)
    rw [Ideal.div, Ideal.div, if_neg h1, if_neg h2, ← EReal.coe_mul, ← EReal.coe_inv, ← EReal.coe_inv,
      mul_comm _ B, mul_assoc, ← EReal.coe_mul]
    congr 2
    rw [mul_inv, ← mul_assoc, mul_inv_cancel₀ hc.ne', one_mul]

/-- A nonempty sum of exponentials of real numbers is a positive real. -/
theorem sum_exp_pos {n : ℕ} (hn : 0 < n) (s : Fin n → EReal) (hs : ∀ j, IsReal (s j)) :
    ∃ a : ℝ, 0 < a ∧ ∑ j, Ideal.exp (s j) = a := by
  choose r hr using hs
  refine ⟨∑ j, Real.exp (r j), Finset.sum_pos (fun j _ => Real.exp_pos _) ⟨⟨0, hn⟩, Finset.mem_univ _⟩, ?_⟩
  rw [show ∑ j, Ideal.exp (s j) = ∑ j, ((Real.exp (r j) : ℝ) : EReal) from
    Finset.sum_congr rfl fun j _ => by rw [hr j, Ideal.exp_coe]]
  exact (map_sum (⟨⟨fun x : ℝ => (x : EReal), EReal.coe_zero⟩, EReal.coe_add⟩ : ℝ →+ EReal) _ _).symm

end Cert.Attn

end
-- ==== Proof.Block.lean ====
/-
# One device's numerators and denominators, entry by entry

Read at exact values, the numerator buffer of a device holds, for a batch entry, a head and a row, the sum over the
device's keys of the exponential of the score times the value; the denominator buffer holds the sum of the
exponentials. The rows of a group of heads lie head by head.
-/
module

public import proofs.«01_k».proof.Proof.Contents
public import Idealize.ShloMosaic.Lib.Pointwise

@[expose] public section

noncomputable section

namespace Cert.Exchange

open Cert.KernelIdeal Cert.KernelIdeal.Gen
open Idealize.ShloMosaic

/-- The row of the queries of a batch entry and a position. -/
abbrev rowB (b : Fin 2) (i : Fin 256) : Fin 512 := ⟨256 * b.val + i.val, by omega⟩
/-- The column of a coordinate of a head of a group. -/
abbrev colH (g : Fin 2) (k : Fin 4) (e : Fin 64) : Fin 512 := ⟨256 * g.val + 64 * k.val + e.val, by omega⟩
/-- The row of a group's block of a head and a position. -/
abbrev rowK (k : Fin 4) (i : Fin 256) : Fin 1024 := ⟨256 * k.val + i.val, by omega⟩

/-- The exponential of the score of a query row and a key of the device. -/
def wt (I : Inp Ideal) (b g : Fin 2) (k : Fin 4) (i : Fin 256) (j : Fin 512) : EReal :=
  Ideal.exp ((∑ e : Fin 64, (∑ d : Fin 768, I.x (ix2 (rowB b i) d) * I.wq (ix2 d (colH g k e))) * I.kt (ix4 b g e j))
    * Ideal.ofBits .f32 0x3E000000#32)

/-- The query matrix read at an entry whose coordinates are known. -/
theorem qry_at (x : Vec Ideal S512x768 .f32) (wq : Vec Ideal S768x512 .f32) (p c p' c' : Fin 512)
    (hp : p.val = p'.val) (hc : c.val = c'.val) :
    k0_pay2 (F := Ideal) x wq (ix2 p c) = ∑ d : Fin 768, x (ix2 p' d) * wq (ix2 d c') := by
  obtain rfl := Fin.ext hp
  obtain rfl := Fin.ext hc
  pointwise [k0_pay2]

/-- The block of a batch entry and a group read at an entry. -/
theorem blk00_at (f : Vec Ideal S2x2x64x512 .f32) (e : Fin 64) (j : Fin 512) : blk00 f (ix4 0 0 e j) = f (ix4 0 0 e j) :=
  congrArg f (funext fun a => by fin_cases a <;> exact Fin.ext (by simp [Rect.emb_apply, ix4]))
theorem blk01_at (f : Vec Ideal S2x2x64x512 .f32) (e : Fin 64) (j : Fin 512) : blk01 f (ix4 0 0 e j) = f (ix4 0 1 e j) :=
  congrArg f (funext fun a => by fin_cases a <;> exact Fin.ext (by simp [Rect.emb_apply, ix4]))
theorem blk10_at (f : Vec Ideal S2x2x64x512 .f32) (e : Fin 64) (j : Fin 512) : blk10 f (ix4 0 0 e j) = f (ix4 1 0 e j) :=
  congrArg f (funext fun a => by fin_cases a <;> exact Fin.ext (by simp [Rect.emb_apply, ix4]))
theorem blk11_at (f : Vec Ideal S2x2x64x512 .f32) (e : Fin 64) (j : Fin 512) : blk11 f (ix4 0 0 e j) = f (ix4 1 1 e j) :=
  congrArg f (funext fun a => by fin_cases a <;> exact Fin.ext (by simp [Rect.emb_apply, ix4]))

/-- The exponentials of a batch entry and a group, read at a head, a position and a key. -/
theorem wt00_at (I : Inp Ideal) (k : Fin 4) (i : Fin 256) (j : Fin 512) :
    k0_pay4 I.x I.wq (blk00 I.kt) (ix2 (rowK k i) j) = wt I 0 0 k i j := by
  have hk := k.isLt
  have hi := i.isLt
  unfold wt
  pointwise [k0_pay4]
  simp only [blk00_at]
  refine congrArg Ideal.exp (congrArg (· * _) (Finset.sum_congr rfl fun e _ => congrArg (· * _) ?_))
  have he := e.isLt
  split_ifs <;> exact qry_at _ _ _ _ _ _ (by dsimp only; simp; omega) (by dsimp only; simp; omega)
theorem wt01_at (I : Inp Ideal) (k : Fin 4) (i : Fin 256) (j : Fin 512) :
    k0_pay8 (qry I) (blk01 I.kt) (ix2 (rowK k i) j) = wt I 0 1 k i j := by
  have hk := k.isLt
  have hi := i.isLt
  unfold wt
  pointwise [k0_pay8, qry]
  simp only [blk01_at]
  refine congrArg Ideal.exp (congrArg (· * _) (Finset.sum_congr rfl fun e _ => congrArg (· * _) ?_))
  have he := e.isLt
  split_ifs <;> exact qry_at _ _ _ _ _ _ (by dsimp only; simp; omega) (by dsimp only; simp; omega)
theorem wt10_at (I : Inp Ideal) (k : Fin 4) (i : Fin 256) (j : Fin 512) :
    k0_pay12 (k0_pay11 (qry I) (blk10 I.kt)) (Ideal.ofBits .f32 0x3E000000#32) (ix2 (rowK k i) j) = wt I 1 0 k i j := by
  have hk := k.isLt
  have hi := i.isLt
  unfold wt
  pointwise [k0_pay12, k0_pay11, qry]
  simp only [blk10_at]
  refine congrArg Ideal.exp (congrArg (· * _) (Finset.sum_congr rfl fun e _ => congrArg (· * _) ?_))
  have he := e.isLt
  split_ifs <;> exact qry_at _ _ _ _ _ _ (by dsimp only; simp; omega) (by dsimp only; simp; omega)
theorem wt11_at (I : Inp Ideal) (k : Fin 4) (i : Fin 256) (j : Fin 512) :
    k0_pay15 (qry I) (blk11 I.kt) (ix2 (rowK k i) j) = wt I 1 1 k i j := by
  have hk := k.isLt
  have hi := i.isLt
  unfold wt
  pointwise [k0_pay15, qry]
  simp only [blk11_at]
  refine congrArg Ideal.exp (congrArg (· * _) (Finset.sum_congr rfl fun e _ => congrArg (· * _) ?_))
  have he := e.isLt
  split_ifs <;> exact qry_at _ _ _ _ _ _ (by dsimp only; simp; omega) (by dsimp only; simp; omega)

/-- The numerators of a batch entry and a group, read at a head, a position and a coordinate. -/
theorem num00_at (I : Inp Ideal) (k : Fin 4) (i : Fin 256) (e : Fin 64) :
    num00 I (ix2 (rowK k i) e) = ∑ j : Fin 512, wt I 0 0 k i j * I.vt (ix4 0 0 e j) := by
  pointwise [num00, k0_pay6, k0_pay5]
  simp only [wt00_at, blk00_at]
theorem num01_at (I : Inp Ideal) (k : Fin 4) (i : Fin 256) (e : Fin 64) :
    num01 I (ix2 (rowK k i) e) = ∑ j : Fin 512, wt I 0 1 k i j * I.vt (ix4 0 1 e j) := by
  pointwise [num01, k0_pay9]
  simp only [wt01_at, blk01_at]
theorem num10_at (I : Inp Ideal) (k : Fin 4) (i : Fin 256) (e : Fin 64) :
    num10 I (ix2 (rowK k i) e) = ∑ j : Fin 512, wt I 1 0 k i j * I.vt (ix4 1 0 e j) := by
  pointwise [num10, k0_pay13]
  simp only [wt10_at, blk10_at]
theorem num11_at (I : Inp Ideal) (k : Fin 4) (i : Fin 256) (e : Fin 64) :
    num11 I (ix2 (rowK k i) e) = ∑ j : Fin 512, wt I 1 1 k i j * I.vt (ix4 1 1 e j) := by
  pointwise [num11, k0_pay16]
  simp only [wt11_at, blk11_at]

/-- The denominators of a batch entry and a group, read at a head and a position. -/
theorem den00_at (I : Inp Ideal) (k : Fin 4) (i : Fin 256) :
    den00 I (ix2 (0 : Fin 1) (rowK k i)) = ∑ j : Fin 512, wt I 0 0 k i j := by
  pointwise [den00, k0_pay7, k0_pay3]
  simp only [wt00_at]
theorem den01_at (I : Inp Ideal) (k : Fin 4) (i : Fin 256) :
    den01 I (ix2 (0 : Fin 1) (rowK k i)) = ∑ j : Fin 512, wt I 0 1 k i j := by
  pointwise [den01, k0_pay10, k0_pay3]
  simp only [wt01_at]
theorem den10_at (I : Inp Ideal) (k : Fin 4) (i : Fin 256) :
    den10 I (ix2 (0 : Fin 1) (rowK k i)) = ∑ j : Fin 512, wt I 1 0 k i j := by
  pointwise [den10, k0_pay14, k0_pay3]
  simp only [wt10_at]
theorem den11_at (I : Inp Ideal) (k : Fin 4) (i : Fin 256) :
    den11 I (ix2 (0 : Fin 1) (rowK k i)) = ∑ j : Fin 512, wt I 1 1 k i j := by
  pointwise [den11, k0_pay18, k0_pay17, k0_pay3]
  simp only [wt11_at]

/-- The row of the numerator buffer of a batch entry, a head and a position. -/
abbrev rowN (b : Fin 2) (k : Fin 4) (i : Fin 256) : Fin 2048 := ⟨1024 * b.val + 256 * k.val + i.val, by omega⟩
/-- Its column of a group and a coordinate. -/
abbrev colN (g : Fin 2) (e : Fin 64) : Fin 128 := ⟨64 * g.val + e.val, by omega⟩
/-- The row of the denominator buffer of a batch entry and a group. -/
abbrev rowD (b g : Fin 2) : Fin 4 := ⟨2 * b.val + g.val, by omega⟩

/-- The numerator buffer read at an entry: the sum over the device's keys of weight times value. -/
theorem num_at (I : Inp Ideal) (b g : Fin 2) (k : Fin 4) (i : Fin 256) (e : Fin 64) :
    num I (ix2 (rowN b k i) (colN g e)) = ∑ j : Fin 512, wt I b g k i j * I.vt (ix4 b g e j) := by
  have hk := k.isLt
  have hi := i.isLt
  have he := e.isLt
  have hr : ((ix2 (rowN b k i) (colN g e) : S2048x128.Idx) 0).val = 1024 * b.val + 256 * k.val + i.val := rfl
  have hc : ((ix2 (rowN b k i) (colN g e) : S2048x128.Idx) 1).val = 64 * g.val + e.val := rfl
  unfold num
  obtain rfl | rfl : b = 0 ∨ b = 1 := by omega
  all_goals obtain rfl | rfl : g = 0 ∨ g = 1 := by omega
  · rw [dif_pos (by rw [hr]; simp; omega), dif_pos (by rw [hc]; simp)]
    rw [← num00_at]
    exact congrArg _ (funext fun a => by fin_cases a <;> exact Fin.ext (by simp [ix2]))
  · rw [dif_pos (by rw [hr]; simp; omega), dif_neg (by rw [hc]; simp)]
    rw [← num01_at]
    exact congrArg _ (funext fun a => by fin_cases a <;> exact Fin.ext (by simp [ix2]))
  · rw [dif_neg (by rw [hr]; simp; omega), dif_pos (by rw [hc]; simp)]
    rw [← num10_at]
    exact congrArg _ (funext fun a => by fin_cases a <;> exact Fin.ext (by simp [ix2] <;> omega))
  · rw [dif_neg (by rw [hr]; simp; omega), dif_neg (by rw [hc]; simp)]
    rw [← num11_at]
    exact congrArg _ (funext fun a => by fin_cases a <;> exact Fin.ext (by simp [ix2] <;> omega))

/-- The denominator buffer read at an entry: the sum of the weights over the device's keys. -/
theorem dens_at (I : Inp Ideal) (b g : Fin 2) (k : Fin 4) (i : Fin 256) :
    den I (ix2 (rowD b g) (rowK k i)) = ∑ j : Fin 512, wt I b g k i j := by
  have hr : ((ix2 (rowD b g) (rowK k i) : S4x1024.Idx) 0).val = 2 * b.val + g.val := rfl
  unfold den
  obtain rfl | rfl : b = 0 ∨ b = 1 := by omega
  all_goals obtain rfl | rfl : g = 0 ∨ g = 1 := by omega
  · rw [if_pos (by rw [hr]; simp)]
    rw [← den00_at]
    exact congrArg _ (funext fun a => by fin_cases a <;> exact Fin.ext (by simp [ix2]))
  · rw [if_neg (by rw [hr]; simp), if_pos (by rw [hr]; simp)]
    rw [← den01_at]
    exact congrArg _ (funext fun a => by fin_cases a <;> exact Fin.ext (by simp [ix2]))
  · rw [if_neg (by rw [hr]; simp), if_neg (by rw [hr]; simp), if_pos (by rw [hr]; simp)]
    rw [← den10_at]
    exact congrArg _ (funext fun a => by fin_cases a <;> exact Fin.ext (by simp [ix2]))
  · rw [if_neg (by rw [hr]; simp), if_neg (by rw [hr]; simp), if_neg (by rw [hr]; simp)]
    rw [← den11_at]
    exact congrArg _ (funext fun a => by fin_cases a <;> exact Fin.ext (by simp [ix2]))

end Cert.Exchange

end
-- ==== Proof.Summed.lean ====
/-
# After the exchange

Whatever the order in which a chain visits its three partners, a device ends with the sum over all eight devices of
what they started with: the three steps reach every device exactly once.
-/
module

public import proofs.«01_k».proof.Proof.Contents
public import Idealize.ShloMosaic.Lib.Pointwise

@[expose] public section

noncomputable section

namespace Cert.Exchange

open Cert.KernelIdeal Cert.KernelIdeal.Gen
open Idealize.ShloMosaic

/-- The devices that a chain's three steps reach, in the order in which their contents are added. -/
def reach (k : Ch) (c : Dev nD) : List (Dev nD) :=
  let p := peer k .p0; let q := peer k .p1; let r := peer k .p2
  [c, p c, q c, p (q c), r c, p (r c), q (r c), p (q (r c))]

/-- They are all eight, each once. -/
theorem reach_all (k : Ch) (c : Dev nD) : (reach k c : Multiset (Dev nD)) = (Finset.univ : Finset (Dev nD)).val := by
  revert c; cases k <;> decide

/-- Three steps of pairwise sums add up every device's value. -/
theorem steps_sum (k : Ch) (c : Dev nD) (f : Dev nD → EReal) :
    ((f c + f (peer k .p0 c)) + (f (peer k .p1 c) + f (peer k .p0 (peer k .p1 c))))
      + ((f (peer k .p2 c) + f (peer k .p0 (peer k .p2 c)))
        + (f (peer k .p1 (peer k .p2 c)) + f (peer k .p0 (peer k .p1 (peer k .p2 c))))) = ∑ d, f d := by
  have h : ∑ d, f d = ((reach k c).map f).sum := by
    rw [Finset.sum, ← reach_all k c, Multiset.map_coe, Multiset.sum_coe]
  rw [h]
  simp only [reach, List.map_cons, List.map_nil, List.sum_cons, List.sum_nil, add_zero, add_assoc]

variable (I : Dev nD → Inp Ideal)

/-- The first row part after the exchange. -/
theorem st3_a (c : Dev nD) (i : (csh .a).Idx) :
    (st3 I c .a : S688x128.Idx → EReal) i = ∑ d, (st0 I d .a : S688x128.Idx → EReal) i :=
  steps_sum .a c (fun d => (st0 I d .a : S688x128.Idx → EReal) i)
/-- The second. -/
theorem st3_b (c : Dev nD) (i : (csh .b).Idx) :
    (st3 I c .b : S688x128.Idx → EReal) i = ∑ d, (st0 I d .b : S688x128.Idx → EReal) i :=
  steps_sum .b c (fun d => (st0 I d .b : S688x128.Idx → EReal) i)
/-- The third. -/
theorem st3_d (c : Dev nD) (i : (csh .d).Idx) :
    (st3 I c .d : S672x128.Idx → EReal) i = ∑ d, (st0 I d .d : S672x128.Idx → EReal) i :=
  steps_sum .d c (fun d => (st0 I d .d : S672x128.Idx → EReal) i)

/-- The denominators after the exchange: the sum over the devices. -/
theorem den_summed (c : Dev nD) (i : S4x1024.Idx) :
    (st3 I c .l : S4x1024.Idx → EReal) i = ∑ d, (den (I d) : S4x1024.Idx → EReal) i :=
  steps_sum .l c (fun d => (den (I d) : S4x1024.Idx → EReal) i)

set_option maxRecDepth 8000 in
/-- The numerators after the exchange: the sum over the devices. -/
theorem num_summed (c : Dev nD) (i : S2048x128.Idx) :
    (glue (st3 I c) : S2048x128.Idx → EReal) i = ∑ d, (num (I d) : S2048x128.Idx → EReal) i := by
  unfold glue
  split_ifs with h0 h1
  · rw [st3_a]
    refine Finset.sum_congr rfl fun d _ => congrArg (num (I d)) (funext fun a => ?_)
    exact match a with
      | ⟨0, _⟩ => Fin.ext (by show 0 + 1 * (i 0).val = (i 0).val; omega)
      | ⟨1, _⟩ => Fin.ext (by show 0 + 1 * (i 1).val = (i 1).val; omega)
  · rw [st3_b]
    refine Finset.sum_congr rfl fun d _ => congrArg (num (I d)) (funext fun a => ?_)
    exact match a with
      | ⟨0, _⟩ => Fin.ext (by show 688 + 1 * ((i 0).val - 688) = (i 0).val; omega)
      | ⟨1, _⟩ => Fin.ext (by show 0 + 1 * (i 1).val = (i 1).val; omega)
  · rw [st3_d]
    refine Finset.sum_congr rfl fun d _ => congrArg (num (I d)) (funext fun a => ?_)
    exact match a with
      | ⟨0, _⟩ => Fin.ext (by show 1376 + 1 * ((i 0).val - 1376) = (i 0).val; omega)
      | ⟨1, _⟩ => Fin.ext (by show 0 + 1 * (i 1).val = (i 1).val; omega)

end Cert.Exchange

end
-- ==== Proof.Result.lean ====
/-
# The result of a device, entry by entry

A device divides the summed numerators by the summed denominators, head by head, lays the heads side by side and
multiplies by the output weights.
-/
module

public import proofs.«01_k».proof.Proof.Block
public import proofs.«01_k».proof.Proof.Summed
public import proofs.«01_k».proof.Proof.Cuts

@[expose] public section

noncomputable section

namespace Cert.Exchange

open Cert.KernelIdeal Cert.KernelIdeal.Gen
open Idealize.ShloMosaic

/-- A choice by the equality of two small words is the choice by the equality of the numbers. -/
theorem select_eq (r x : Fin 1024) (a b : EReal) :
    Scalar.select (IntOp.cmpi .eq (BitVec.ofNat 32 r.val) (BitVec.ofNat 32 x.val)) a b = if x = r then a else b := by
  have hr := r.isLt
  have hx := x.isLt
  by_cases h : x = r
  · subst h; simp [Scalar.select, IntOp.cmpi]
  · have hne : BitVec.ofNat 32 r.val ≠ BitVec.ofNat 32 x.val := fun e => h (Fin.ext (by
      have := congrArg BitVec.toNat e
      simp only [BitVec.toNat_ofNat] at this
      omega))
    have hb : (BitVec.ofNat 32 r.val == BitVec.ofNat 32 x.val) = false := beq_false_of_ne hne
    simp [Scalar.select, IntOp.cmpi, h, hb]

/-- The denominators turned into columns: the product with the identity matrix transposes them. -/
theorem rden_at (l : S4x1024.Idx → EReal) (r : Fin 1024) (g : Fin 4) :
    k0_pay36 (F := Ideal) k0_pay29 l (ix2 r g) = l (ix2 g r) := by
  pointwise [k0_pay36, k0_pay29]
  simp only [select_eq, Finset.sum_ite_eq', Finset.mem_univ, if_true]

/-- A quotient of entries whose coordinates are known. -/
theorem quot_at (N : S2048x128.Idx → EReal) (D : S4x1024.Idx → EReal) (p p' : Fin 2048) (c c' : Fin 128)
    (g g' : Fin 4) (r r' : Fin 1024) (hp : p.val = p'.val) (hc : c.val = c'.val) (hg : g.val = g'.val)
    (hr : r.val = r'.val) :
    Ideal.div (N (ix2 p c)) (D (ix2 g r)) = Ideal.div (N (ix2 p' c')) (D (ix2 g' r')) := by
  obtain rfl := Fin.ext hp
  obtain rfl := Fin.ext hc
  obtain rfl := Fin.ext hg
  obtain rfl := Fin.ext hr
  rfl

/-- A sum over the columns of all heads: over the groups, the heads of each and the coordinates of each. -/
theorem sum_cols (f : Fin 512 → EReal) :
    ∑ c, f c = ∑ g : Fin 2, ∑ k : Fin 4, ∑ e : Fin 64, f (colH g k e) := by
  rw [Cert.Attn.sum_parts (m := 2) (n := 256) rfl]
  refine Finset.sum_congr rfl fun g _ => ?_
  rw [Cert.Attn.sum_parts (m := 4) (n := 64) rfl]
  refine Finset.sum_congr rfl fun k _ => Finset.sum_congr rfl fun e _ => congrArg f (Fin.ext ?_)
  dsimp only
  omega

variable (I : Dev nD → Inp Ideal)

/-- The quotient of a head's summed numerators and denominators. -/
def quot (c : Dev nD) (b g : Fin 2) (k : Fin 4) (i : Fin 256) (e : Fin 64) : EReal :=
  Ideal.div ((glue (st3 I c) : S2048x128.Idx → EReal) (ix2 (rowN b k i) (colN g e)))
    ((st3 I c .l : S4x1024.Idx → EReal) (ix2 (rowD b g) (rowK k i)))

/-- The block of the first batch entry, at an entry. -/
theorem out0_at (c : Dev nD) (i : Fin 256) (n : Fin 768) :
    out0 I c (ix3 (0 : Fin 1) i n)
      = ∑ g : Fin 2, ∑ k : Fin 4, ∑ e : Fin 64, quot I c 0 g k i e * (I c).wo (ix2 (colH g k e) n) := by
  pointwise [out0, k0_pay39, k0_pay37, k0_pay38, rnum, k0_pay35, rden]
  rw [sum_cols]
  simp only [rden_at]
  refine Finset.sum_congr rfl fun g _ => Finset.sum_congr rfl fun k _ => Finset.sum_congr rfl fun e _ =>
    congrArg (· * _) ?_
  have hg := g.isLt
  have hk := k.isLt
  have hi := i.isLt
  have he := e.isLt
  unfold quot
  split_ifs <;> exact quot_at _ _ _ _ _ _ _ _ _ _ (by dsimp only <;> (try simp) <;> omega) (by dsimp only <;> (try simp) <;> omega)
    (by dsimp only <;> (try simp) <;> omega) (by dsimp only <;> (try simp) <;> omega)

/-- The block of the second. -/
theorem out1_at (c : Dev nD) (i : Fin 256) (n : Fin 768) :
    out1 I c (ix3 (0 : Fin 1) i n)
      = ∑ g : Fin 2, ∑ k : Fin 4, ∑ e : Fin 64, quot I c 1 g k i e * (I c).wo (ix2 (colH g k e) n) := by
  pointwise [out1, k0_pay1, k0_pay40, k0_pay41, k0_pay42, k0_pay43, k0_pay44, k0_pay45, k0_pay46, rnum, k0_pay35, rden]
  rw [sum_cols]
  simp only [rden_at]
  refine Finset.sum_congr rfl fun g _ => Finset.sum_congr rfl fun k _ => Finset.sum_congr rfl fun e _ =>
    congrArg (· * _) ?_
  have hg := g.isLt
  have hk := k.isLt
  have hi := i.isLt
  have he := e.isLt
  unfold quot
  split_ifs <;> exact quot_at _ _ _ _ _ _ _ _ _ _ (by dsimp only <;> (try simp) <;> omega) (by dsimp only <;> (try simp) <;> omega)
    (by dsimp only <;> (try simp) <;> omega) (by dsimp only <;> (try simp) <;> omega)

/-- The result of a device, at an entry. -/
theorem outV_at (c : Dev nD) (b : Fin 2) (i : Fin 256) (n : Fin 768) :
    outV I c (ix3 b i n)
      = ∑ g : Fin 2, ∑ k : Fin 4, ∑ e : Fin 64, quot I c b g k i e * (I c).wo (ix2 (colH g k e) n) := by
  unfold outV
  obtain rfl | rfl : b = 0 ∨ b = 1 := by omega
  · rw [if_pos (by rfl)]; exact out0_at I c i n
  · rw [if_neg (by simp [ix3])]; exact out1_at I c i n

/-- The quotient in the devices' inputs. -/
theorem quot_eq (c : Dev nD) (b g : Fin 2) (k : Fin 4) (i : Fin 256) (e : Fin 64) :
    quot I c b g k i e
      = Ideal.div (∑ d, ∑ j : Fin 512, wt (I d) b g k i j * (I d).vt (ix4 b g e j))
          (∑ d, ∑ j : Fin 512, wt (I d) b g k i j) := by
  unfold quot
  rw [num_summed, den_summed]
  simp only [num_at, dens_at]

end Cert.Exchange

end
-- ==== Proof.RefValue.lean ====
/-
# What the reference computes

For real scores the reference's result is, at every entry, the sum over the heads of the quotient of two plain sums over
all keys, the exponentials of the scores times the values and the exponentials alone, times the output weight.
-/
module

public import proofs.«01_k».proof.Proof.Stages
public import proofs.«01_k».proof.Proof.Online
public import proofs.«01_k».proof.Proof.Result

@[expose] public section

noncomputable section

namespace Cert.Stages

open Cert.ReferenceIdeal Cert.ReferenceIdeal.Gen
open Idealize.ShloMosaic
open Cert.Attn (IsReal Keeps)
open Cert.Exchange (colH)

/-- The query head of a group's member. -/
abbrev hd (g : Fin 2) (k : Fin 4) : Fin 8 := ⟨4 * g.val + k.val, by omega⟩
/-- The key of a chunk. -/
abbrev keyT (t : Fin 4) (j : Fin 1024) : Fin 4096 := ⟨1024 * t.val + j.val, by omega⟩

/-- The score of a query row of a head and a key. -/
def sco (x : FVec Ideal S2x256x768 .f32) (wq : FVec Ideal S768x512 .f32) (K : FVec Ideal S2x4096x2x64 .f32)
    (b g : Fin 2) (k : Fin 4) (i : Fin 256) (n : Fin 4096) : EReal :=
  (∑ e : Fin 64, (∑ d : Fin 768, x (ix3 b i d) * wq (ix2 d (colH g k e))) * K (ix4 b n g e)) * Ideal.ofBits .f32 0x3E000000#32

/-- One chunk keeps the sums, extended by the chunk's. -/
theorem step_keeps (K : Kept) (s : FVec Ideal S2x8x256x1024 .f32) (v : FVec Ideal S2x1024x8x64 .f32)
    (b : Fin 2) (i : Fin 256) (h : Fin 8) (e : Fin 64) (A B : EReal)
    (hK : Keeps (K.m (ix4 b h i 0)) (K.l (ix4 b h i 0)) (K.o (ix4 b i h e)) A B) (σ w : Fin 1024 → EReal)
    (hσ : ∀ j, s (ix4 b h i j) = σ j) (hw : ∀ j, v (ix4 b j h e) = w j) (hr : ∀ j, IsReal (σ j)) :
    Keeps ((step K s v).m (ix4 b h i 0)) ((step K s v).l (ix4 b h i 0)) ((step K s v).o (ix4 b i h e))
      (A + ∑ j, Ideal.exp (σ j)) (B + ∑ j, Ideal.exp (σ j) * w j) := by
  unfold step
  dsimp only
  rw [den_at, acc_at]
  simp only [wts_at]
  have ht := top_at K.m s b i h
  simp only [hσ, hw] at ht ⊢
  exact hK.step (by norm_num) σ w hr _ ht

variable (x : FVec Ideal S2x256x768 .f32) (wq : FVec Ideal S768x512 .f32) (K V : FVec Ideal S2x4096x2x64 .f32)

/-- A chunk's score, from the reads of the chunk. -/
theorem score_of (c : FVec Ideal S2x4096x8x64 .f32 → FVec Ideal S2x1024x8x64 .f32) (t : Fin 4)
    (hc : ∀ (a : FVec Ideal S2x4096x8x64 .f32) (b : Fin 2) (j : Fin 1024) (h : Fin 8) (e : Fin 64),
      c a (ix4 b j h e) = a (ix4 b (keyT t j) h e))
    (b g : Fin 2) (k : Fin 4) (i : Fin 256) (j : Fin 1024) :
    scr (qh x wq) (c (rep K)) (ix4 b (hd g k) i j) = sco x wq K b g k i (keyT t j) := by
  have hg := g.isLt
  have hk := k.isLt
  rw [scr_at]
  unfold sco
  refine congrArg (· * _) (Finset.sum_congr rfl fun e _ => ?_)
  rw [qh_at, hc, rep_at]
  have e1 : (⟨(hd g k).val * 64 + e.val, by omega⟩ : Fin 512) = colH g k e := Fin.ext (by dsimp only; omega)
  have e2 : (⟨(hd g k).val / 4, by omega⟩ : Fin 2) = g := Fin.ext (by dsimp only; omega)
  rw [e1, e2]

/-- A chunk's value, from the reads of the chunk. -/
theorem value_of (c : FVec Ideal S2x4096x8x64 .f32 → FVec Ideal S2x1024x8x64 .f32) (t : Fin 4)
    (hc : ∀ (a : FVec Ideal S2x4096x8x64 .f32) (b : Fin 2) (j : Fin 1024) (h : Fin 8) (e : Fin 64),
      c a (ix4 b j h e) = a (ix4 b (keyT t j) h e))
    (b g : Fin 2) (k : Fin 4) (e : Fin 64) (j : Fin 1024) :
    c (rep V) (ix4 b j (hd g k) e) = V (ix4 b (keyT t j) g e) := by
  have hg := g.isLt
  have hk := k.isLt
  rw [hc, rep_at]
  have e2 : (⟨(hd g k).val / 4, by omega⟩ : Fin 2) = g := Fin.ext (by dsimp only; omega)
  rw [e2]

theorem cut0_key (a : FVec Ideal S2x4096x8x64 .f32) (b : Fin 2) (j : Fin 1024) (h : Fin 8) (e : Fin 64) :
    cut0 a (ix4 b j h e) = a (ix4 b (keyT 0 j) h e) := by
  rw [cut0_at]
  exact congrArg (fun n => a (ix4 b n h e)) (Fin.ext (by simp))
theorem cut1_key (a : FVec Ideal S2x4096x8x64 .f32) (b : Fin 2) (j : Fin 1024) (h : Fin 8) (e : Fin 64) :
    cut1 a (ix4 b j h e) = a (ix4 b (keyT 1 j) h e) := cut1_at a b j h e
theorem cut2_key (a : FVec Ideal S2x4096x8x64 .f32) (b : Fin 2) (j : Fin 1024) (h : Fin 8) (e : Fin 64) :
    cut2 a (ix4 b j h e) = a (ix4 b (keyT 2 j) h e) := cut2_at a b j h e
theorem cut3_key (a : FVec Ideal S2x4096x8x64 .f32) (b : Fin 2) (j : Fin 1024) (h : Fin 8) (e : Fin 64) :
    cut3 a (ix4 b j h e) = a (ix4 b (keyT 3 j) h e) := cut3_at a b j h e

/-- The sum over all keys of the exponentials of the scores. -/
def dens (b g : Fin 2) (k : Fin 4) (i : Fin 256) : EReal := ∑ n : Fin 4096, Ideal.exp (sco x wq K b g k i n)
/-- The sum over all keys of the exponentials of the scores times the values. -/
def nums (b g : Fin 2) (k : Fin 4) (i : Fin 256) (e : Fin 64) : EReal :=
  ∑ n : Fin 4096, Ideal.exp (sco x wq K b g k i n) * V (ix4 b n g e)

/-- A sum over all keys, chunk by chunk. -/
theorem sum_chunks (f : Fin 4096 → EReal) :
    ∑ n, f n = 0 + ∑ j, f (keyT 0 j) + ∑ j, f (keyT 1 j) + ∑ j, f (keyT 2 j) + ∑ j, f (keyT 3 j) := by
  rw [Cert.Attn.sum_parts (m := 4) (n := 1024) rfl, Fin.sum_univ_four, zero_add]

/-- After the four chunks the sums over all keys are kept. -/
theorem kept4_keeps (b g : Fin 2) (k : Fin 4) (i : Fin 256) (e : Fin 64) (hr : ∀ n, IsReal (sco x wq K b g k i n)) :
    Keeps ((kept4 x wq K V).m (ix4 b (hd g k) i 0)) ((kept4 x wq K V).l (ix4 b (hd g k) i 0))
      ((kept4 x wq K V).o (ix4 b i (hd g k) e)) (dens x wq K b g k i) (nums x wq K V b g k i e) := by
  unfold dens nums kept4
  rw [sum_chunks, sum_chunks]
  have h0 : Keeps (kept0.m (ix4 b (hd g k) i 0)) (kept0.l (ix4 b (hd g k) i 0)) (kept0.o (ix4 b i (hd g k) e)) 0 0 :=
    Or.inl ⟨kept0_m b i _, kept0_l b i _, kept0_o b i _ e, rfl, rfl⟩
  have h1 := step_keeps _ _ _ b i (hd g k) e _ _ h0 _ _ (score_of x wq K cut0 0 cut0_key b g k i)
    (value_of V cut0 0 cut0_key b g k e) (fun j => hr _)
  have h2 := step_keeps _ _ _ b i (hd g k) e _ _ h1 _ _ (score_of x wq K cut1 1 cut1_key b g k i)
    (value_of V cut1 1 cut1_key b g k e) (fun j => hr _)
  have h3 := step_keeps _ _ _ b i (hd g k) e _ _ h2 _ _ (score_of x wq K cut2 2 cut2_key b g k i)
    (value_of V cut2 2 cut2_key b g k e) (fun j => hr _)
  exact step_keeps _ _ _ b i (hd g k) e _ _ h3 _ _ (score_of x wq K cut3 3 cut3_key b g k i)
    (value_of V cut3 3 cut3_key b g k e) (fun j => hr _)

/-- The reference's result, entry by entry. -/
theorem ref_at (wo : FVec Ideal S512x768 .f32) (b : Fin 2) (i : Fin 256) (n : Fin 768)
    (hr : ∀ g k j, IsReal (sco x wq K b g k i j)) :
    fin (kept4 x wq K V) wo (ix3 b i n) = ∑ g : Fin 2, ∑ k : Fin 4, ∑ e : Fin 64,
      Ideal.div (nums x wq K V b g k i e) (dens x wq K b g k i) * wo (ix2 (colH g k e) n) := by
  rw [fin_at, Cert.Exchange.sum_cols]
  refine Finset.sum_congr rfl fun g _ => Finset.sum_congr rfl fun k _ => Finset.sum_congr rfl fun e _ => ?_
  have hg := g.isLt
  have hk := k.isLt
  have he := e.isLt
  have e1 : (⟨(colH g k e).val / 64, by omega⟩ : Fin 8) = hd g k := Fin.ext (by dsimp only; omega)
  have e2 : (⟨(colH g k e).val % 64, by omega⟩ : Fin 64) = e := Fin.ext (by dsimp only; omega)
  rw [e1, e2, (kept4_keeps x wq K V b g k i e (hr g k)).div (Cert.Attn.sum_exp_pos (by norm_num) _ (hr g k))]

end Cert.Stages

end
-- ==== Proof.Equation.lean ====
/-
# The two results are equal

The keys and values of the eight devices, one after the other, are the keys and values of the reference; the sum over
the devices of a device's sums is the reference's sum over all keys; so are the quotients and the results.
-/
module

public import proofs.«01_k».proof.Proof.RefValue

@[expose] public section

noncomputable section

namespace Cert.Equation

open Idealize.ShloMosaic
open Cert.Attn (IsReal)
open Cert.Exchange (Inp wt quot outV rowB colH)
open Cert.Stages (sco nums dens)

/-- The key of a device. -/
abbrev keyD (d : Fin 8) (j : Fin 512) : Fin 4096 := ⟨512 * d.val + j.val, by omega⟩

/-- A sum over all keys, device by device. -/
theorem sum_devices (f : Fin 4096 → EReal) : ∑ n, f n = ∑ d : Fin 8, ∑ j : Fin 512, f (keyD d j) :=
  Cert.Attn.sum_parts (m := 8) (n := 512) rfl f

variable (I : Fin 8 → Inp Ideal)
  (x : FVec Ideal Cert.ReferenceIdeal.S2x256x768 .f32) (wq : FVec Ideal Cert.ReferenceIdeal.S768x512 .f32)
  (K V : FVec Ideal Cert.ReferenceIdeal.S2x4096x2x64 .f32) (wo : FVec Ideal Cert.ReferenceIdeal.S512x768 .f32)

/-- What the devices hold of the reference's arrays. -/
structure Holds : Prop where
  x : ∀ d b i n, (I d).x (ix2 (rowB b i) n) = x (ix3 b i n)
  wq : ∀ d n c, (I d).wq (ix2 n c) = wq (ix2 n c)
  wo : ∀ d c n, (I d).wo (ix2 c n) = wo (ix2 c n)
  kt : ∀ d b g e j, (I d).kt (ix4 b g e j) = K (ix4 b (keyD d j) g e)
  vt : ∀ d b g e j, (I d).vt (ix4 b g e j) = V (ix4 b (keyD d j) g e)

variable {I x wq K V wo}

/-- A device's exponential is the exponential of the reference's score. -/
theorem wt_eq (H : Holds I x wq K V wo) (d : Fin 8) (b g : Fin 2) (k : Fin 4) (i : Fin 256) (j : Fin 512) :
    wt (I d) b g k i j = Ideal.exp (sco x wq K b g k i (keyD d j)) := by
  unfold wt sco
  simp only [H.x, H.wq, H.kt]

/-- A device's quotient is the reference's. -/
theorem quot_ref (H : Holds I x wq K V wo) (c : Fin 8) (b g : Fin 2) (k : Fin 4) (i : Fin 256) (e : Fin 64) :
    quot I c b g k i e = Ideal.div (nums x wq K V b g k i e) (dens x wq K b g k i) := by
  rw [Cert.Exchange.quot_eq]
  unfold nums dens
  rw [sum_devices, sum_devices]
  simp only [wt_eq H, H.vt]

/-- The scores are real if the queries' input, the query weights and the keys are. -/
theorem sco_real (hx : ∀ j, IsReal (x j)) (hwq : ∀ j, IsReal (wq j)) (hK : ∀ j, IsReal (K j)) (b g : Fin 2) (k : Fin 4)
    (i : Fin 256) (n : Fin 4096) : IsReal (sco x wq K b g k i n) := by
  unfold sco
  refine IsReal.mul (IsReal.sum _ _ fun e => IsReal.mul (IsReal.sum _ _ fun d => IsReal.mul (hx _) (hwq _)) (hK _)) ?_
  refine ⟨1 / 8, ?_⟩
  simp [Ideal.ofBits, Ideal.ieee]
  rw [← EReal.coe_mul]
  norm_num

/-- A device's result is the reference's. -/
theorem out_eq (H : Holds I x wq K V wo) (hx : ∀ j, IsReal (x j)) (hwq : ∀ j, IsReal (wq j)) (hK : ∀ j, IsReal (K j))
    (c : Fin 8) : outV I c = Cert.Stages.fin (Cert.Stages.kept4 x wq K V) wo := by
  funext j
  idx_vars j
  rw [Cert.Stages.ref_at x wq K V wo _ _ _ fun g k n => sco_real hx hwq hK _ g k _ n]
  refine (Cert.Exchange.outV_at I c _ _ _).trans ?_
  simp only [quot_ref H, H.wo]

end Cert.Equation

end
-- ==== Proof.Finite.lean ====
/-
# What the precondition says

The precondition compares the size of every entry of the queries' input, of the query weights and of a device's keys
with infinity. Where all comparisons hold, every such entry is a real number.
-/
module

public import proofs.«01_k».proof.Pre_finite_scores_KernelIdeal
public import proofs.«01_k».proof.Pre_finite_scores_ReferenceIdeal
public import proofs.«01_k».proof.Proof.Online
public import Idealize.ShloMosaic.Lib.Pointwise

@[expose] public section

noncomputable section

namespace Cert.Finite

open Idealize.ShloMosaic
open Cert.Attn (IsReal)

/-- The side conditions of the precondition, read of one device. -/
theorem facts_kernel : Cert.Pre_finite_scores_KernelIdeal.Facts where
  bcast_S_S2x256x768 := by decide
  bcast_S_S768x512 := by decide
  bcast_S_S2x512x2x64 := by decide

/-- The side conditions of the precondition, read of the reference. -/
theorem facts_reference : Cert.Pre_finite_scores_ReferenceIdeal.Facts where
  bcast_S_S2x256x768 := by decide
  bcast_S_S768x512 := by decide
  bcast_S_S2x4096x2x64 := by decide

/-- The pattern of infinity. -/
theorem inf_bits : Ideal.ofBits .f32 0x7F800000#32 = ⊤ := by
  simp [Ideal.ofBits, Ideal.ieee]

/-- A number whose size is below infinity is real. -/
theorem real_of_lt (x : EReal) (h : max x (-x) < ⊤) : IsReal x := by
  have h1 : x ≠ ⊤ := fun e => by rw [e] at h; simp at h
  have h2 : x ≠ ⊥ := fun e => by rw [e] at h; simp at h
  exact ⟨_, (EReal.coe_toReal h1 h2).symm⟩

/-- The comparison of a size with infinity, entry by entry. -/
theorem real_of_cmp {s : Shape} (a c : FVec Ideal s .f32) (hc : ∀ j, c j = (⊤ : EReal))
    (h : cmpf .olt (Host.absf a) c = fun _ => 1#1) (j : s.Idx) : IsReal (a j) := by
  refine real_of_lt _ ?_
  have hj := congrFun h j
  by_contra hn
  have : (cmpf .olt (Host.absf a) c) j = 0#1 := by
    show (Ideal.cmp .olt (max (a j) (-(a j))) (c j)) = 0#1
    rw [hc]
    simp [Ideal.cmp, hn]
  rw [this] at hj
  exact absurd hj (by decide)

end Cert.Finite

end
-- ==== Proof.Algebraic.lean ====
/-
# The kernel's results are the reference's

From the memories the claim speaks of, what every device holds is read off its arguments, the precondition makes the
entries real, and both runs end at the same array.
-/
module

public import proofs.«01_k».proof.Defs
public import proofs.«01_k».proof.Proof.Run
public import proofs.«01_k».proof.Proof.Equation
public import proofs.«01_k».proof.Proof.Finite
public import Idealize.ShloMosaic.Lib.Layout

@[expose] public section

noncomputable section

namespace Cert.Equation

open Cert.KernelIdeal Cert.KernelIdeal.Gen
open Idealize.ShloMosaic Idealize.ShloMosaic.TcCoe Idealize.SL.Sem
open Cert.Attn (IsReal)
open Cert.Exchange (Inp inp rowB)

variable (m : (ℓ : Loc nD τ sig) → Buf (Elt Ideal) ℓ)

/-- The batch entries of an array laid one below the other. -/
theorem rows_at (x : FVec Ideal S2x256x768 .f32) (b : Fin 2) (i : Fin 256) (n : Fin 768) :
    shapeCast S512x768 x shapeCasts_S2x256x768_S512x768 (ix2 (rowB b i) n) = x (ix3 b i n) := by
  have hb := b.isLt
  have hi := i.isLt
  have key : ∀ p : Fin 512, shapeCast S512x768 x shapeCasts_S2x256x768_S512x768 (ix2 p n)
      = x (ix3 (⟨p.val / 256, by omega⟩ : Fin 2) (⟨p.val % 256, by omega⟩ : Fin 256) n) := by
    intro p
    pointwise
  rw [key]
  have e1 : (⟨(rowB b i).val / 256, by omega⟩ : Fin 2) = b := Fin.ext (by dsimp only; omega)
  have e2 : (⟨(rowB b i).val % 256, by omega⟩ : Fin 256) = i := Fin.ext (by dsimp only; omega)
  rw [e1, e2]

/-- The queries' input as a device's kernel reads it: the batch entries one below the other. -/
theorem inp_x (c : Dev nD) (b : Fin 2) (i : Fin 256) (n : Fin 768) :
    (inp m c).x (ix2 (rowB b i) n) = (m ((c.tc : Thread nD τ).loc main_arg0) : FVec Ideal S2x256x768 .f32) (ix3 b i n) := by
  have e : (inp m c).x = shapeCast S512x768 (m ((c.tc : Thread nD τ).loc main_arg0) : FVec Ideal S2x256x768 .f32) shapeCasts_S2x256x768_S512x768 := rfl
  rw [e]
  exact rows_at _ b i n

/-- The keys as a device's kernel reads them: the positions last. -/
theorem inp_kt (c : Dev nD) (b g : Fin 2) (e : Fin 64) (j : Fin 512) :
    (inp m c).kt (ix4 b g e j) = (m ((c.tc : Thread nD τ).loc main_arg2) : FVec Ideal S2x512x2x64 .f32) (ix4 b j g e) := by
  have e : (inp m c).kt = transpose S2x2x64x512 [0, 2, 3, 1] (m ((c.tc : Thread nD τ).loc main_arg2) : FVec Ideal S2x512x2x64 .f32) transposes_S2x512x2x64_S2x2x64x512_0_2_3_1 := rfl
  rw [e]
  pointwise

/-- The values as a device's kernel reads them: the positions last. -/
theorem inp_vt (c : Dev nD) (b g : Fin 2) (e : Fin 64) (j : Fin 512) :
    (inp m c).vt (ix4 b g e j) = (m ((c.tc : Thread nD τ).loc main_arg3) : FVec Ideal S2x512x2x64 .f32) (ix4 b j g e) := by
  have e : (inp m c).vt = transpose S2x2x64x512 [0, 2, 3, 1] (m ((c.tc : Thread nD τ).loc main_arg3) : FVec Ideal S2x512x2x64 .f32) transposes_S2x512x2x64_S2x2x64x512_0_2_3_1 := rfl
  rw [e]
  pointwise

theorem inp_wq (c : Dev nD) : (inp m c).wq = m ((c.tc : Thread nD τ).loc main_arg1) := rfl
theorem inp_wo (c : Dev nD) : (inp m c).wo = m ((c.tc : Thread nD τ).loc main_arg4) := rfl

/-- A device's block of an array of keys or values, at an entry. -/
theorem block_at (K : FVec Ideal Cert.ReferenceIdeal.S2x4096x2x64 .f32) (c : Fin 8) (b g : Fin 2) (e : Fin 64) (j : Fin 512) :
    (Layout.block ⟨4, ![2, 512, 2, 64]⟩ ⟨4, ![2, 4096, 2, 64]⟩ 1 8 c K) (ix4 b j g e) = K (ix4 b (keyD c j) g e) := by
  rw [Layout.block_apply]
  refine congrArg K (funext fun a => Fin.ext ?_)
  rw [Layout.Tiles.idx_val]
  fin_cases a
  · rfl
  · show c.val * 512 + j.val = 512 * c.val + j.val
    omega
  · rfl
  · rfl

/-- Every entry of an array cut in eight blocks is in a block. -/
theorem real_of_blocks (K : FVec Ideal Cert.ReferenceIdeal.S2x4096x2x64 .f32)
    (h : ∀ (c : Fin 8) (j : Shape.Idx ⟨4, ![2, 512, 2, 64]⟩),
      IsReal ((Layout.block ⟨4, ![2, 512, 2, 64]⟩ ⟨4, ![2, 4096, 2, 64]⟩ 1 8 c K) j)) (j : Cert.ReferenceIdeal.S2x4096x2x64.Idx) :
    IsReal (K j) := by
  suffices H : ∀ (b : Fin 2) (n : Fin 4096) (g : Fin 2) (e : Fin 64), IsReal (K (ix4 b n g e)) from
    (congrArg (fun i => IsReal (K i)) (eq_ix4 j)).mpr (H (j 0) (j 1) (j 2) (j 3))
  intro b n g e
  have hn := n.isLt
  have h1 := h ⟨n.val / 512, by omega⟩ (ix4 b (⟨n.val % 512, by omega⟩ : Fin 512) g e)
  rw [block_at] at h1
  have e1 : keyD ⟨n.val / 512, by omega⟩ (⟨n.val % 512, by omega⟩ : Fin 512) = n := Fin.ext (by dsimp only; omega)
  rwa [e1] at h1

/-- From arguments that are parts of the reference's, with real queries' input, query weights and keys, every device's
    result ends as the reference's, and the arguments of both end unchanged. -/
theorem algebraic : Cert.algebraic_KernelIdeal_ReferenceIdeal_pre_finite_scores_KernelIdeal
    (hPre_finite_scores_KernelIdeal := Cert.Finite.facts_kernel) := by
  intro m g m' g' hpre hargs
  have hx : ∀ j, IsReal ((m' (((0 : Dev Cert.ReferenceIdeal.nD).tc : Thread Cert.ReferenceIdeal.nD Cert.ReferenceIdeal.τ).loc Cert.ReferenceIdeal.main_arg0) : FVec Ideal Cert.ReferenceIdeal.S2x256x768 .f32) j) := by
    rw [← (hargs 0).1]
    exact Cert.Finite.real_of_cmp _ _ (fun _ => Cert.Finite.inf_bits) (hpre 0).1
  have hwq : ∀ j, IsReal ((m' (((0 : Dev Cert.ReferenceIdeal.nD).tc : Thread Cert.ReferenceIdeal.nD Cert.ReferenceIdeal.τ).loc Cert.ReferenceIdeal.main_arg1) : FVec Ideal Cert.ReferenceIdeal.S768x512 .f32) j) := by
    rw [← (hargs 0).2.1]
    exact Cert.Finite.real_of_cmp _ _ (fun _ => Cert.Finite.inf_bits) (hpre 0).2.1
  have hK : ∀ j, IsReal ((m' (((0 : Dev Cert.ReferenceIdeal.nD).tc : Thread Cert.ReferenceIdeal.nD Cert.ReferenceIdeal.τ).loc Cert.ReferenceIdeal.main_arg2) : FVec Ideal Cert.ReferenceIdeal.S2x4096x2x64 .f32) j) := by
    refine real_of_blocks _ fun c => ?_
    rw [← (hargs c).2.2.1]
    exact Cert.Finite.real_of_cmp _ _ (fun _ => Cert.Finite.inf_bits) (hpre c).2.2
  have H : Holds (inp m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun d b i n => (inp_x m d b i n).trans (congrFun (hargs d).1 _)
      wq := fun d n c => (congrFun (inp_wq m d) _).trans (congrFun (hargs d).2.1 _)
      wo := fun d c n => (congrFun (inp_wo m d) _).trans (congrFun (hargs d).2.2.2.2 _)
      kt := fun d b g e j => (inp_kt m d b g e j).trans ((congrFun (hargs d).2.2.1 _).trans (block_at _ d b g e j))
      vt := fun d b g e j => (inp_vt m d b g e j).trans ((congrFun (hargs d).2.2.2.1 _).trans (block_at _ d b g e j)) }
  refine ⟨Cert.ReferenceIdeal.Value.res_main_v105 m' 0, ?_, ?_⟩
  · refine (θ_run defs _ _).mono (fun r h c => ?_) (Cert.Exchange.run_main m g)
    obtain ⟨ha, hv⟩ := h.1 c
    refine ⟨hv.trans ?_, ha⟩
    rw [Cert.Stages.result_eq]
    exact out_eq H hx hwq hK c
  · exact (θ_run Cert.ReferenceIdeal.defs _ _).mono (fun r h => h 0) (Cert.ReferenceIdeal.Value.run (F := Ideal) m' g')

end Cert.Equation

end
-- ==== Proof.lean ====
/-
# The certificate

Each claim follows from one run, stated over any float values, of the program it speaks of; that the results agree is the
equation of the two values.
-/
module

public import proofs.«01_k».proof.Defs
public import proofs.«01_k».proof.Proof.Run
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem body_same : Cert.Kernel.cc0_body (F := Bits) = Cert.KernelIdeal.cc0_body (F := Bits) := rfl

theorem labels_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    rw [body_same]
  | ⟨_ + 1, h⟩, _ => exact absurd h (Nat.not_lt.2 (Nat.le_add_left _ _))

theorem defs_same : Cert.Kernel.defs (F := Bits) = Cert.KernelIdeal.defs (F := Bits) := congrArg (Pipeline.defs Cert.Kernel.pcfgs) labels_same

/-- The kernel at the machine's own floats ends with its arguments unchanged and every counter at zero: its text is the
    idealized program's, and the run of that is over any float values. -/
theorem frame_kernel : Cert.quiescent_Kernel := fun m ρ _ => by
  rw [defs_same]
  exact Cert.Exchange.run_frame (F := Bits) m ρ

/-- The same of the idealized kernel. -/
theorem frame_ideal : Cert.quiescent_KernelIdeal := fun m ρ _ => Cert.Exchange.run_frame (F := Ideal) m ρ

/-- The reference ends with its arguments unchanged and every counter at zero; it has no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- All claims together. -/
theorem claim : Cert.Claim := ⟨Cert.Kernel.Gen.facts, Cert.KernelIdeal.Gen.facts, Cert.ReferenceIdeal.Gen.facts,
  Cert.Finite.facts_kernel, Cert.Finite.facts_reference,
  frame_kernel, frame_ideal, fun m ρ _ => frame_ideal m ρ trivial, frame_reference,
  fun m ρ _ => frame_reference m ρ trivial, trivial, Cert.Equation.algebraic⟩

end Cert.Proof

end
